-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_v20) = v5 c
          ∧ r.2.mem ((c.tc : Thread Cert.ReferenceIdeal.nD Cert.ReferenceIdeal.τ).loc Cert.ReferenceIdeal.main_v21) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x8192x2048 : Shape := ⟨3, ![4, 8192, 2048]⟩
abbrev S4x8192x32x64 : Shape := ⟨4, ![4, 8192, 32, 64]⟩
abbrev S_ : Shape := ⟨0, ![]⟩
abbrev S4x32 : Shape := ⟨2, ![4, 32]⟩

class Facts : Prop where
  bitsLt_bf16_f32 : FTy.bits .bf16 < FTy.bits .f32
  shapeCasts_S4x8192x2048_S4x8192x32x64 : S4x8192x2048.ShapeCasts S4x8192x32x64
  reducesTo_S4x8192x32x64_S4x32_d1_3 : S4x8192x32x64.ReducesTo [1, 3] S4x32
  h_S_ : 0 < S_.numel
  bcast_S_S4x32 : S_.BroadcastsInDim S4x32 (![] : Fin 0 → Fin S4x32.rank)
  reducesTo_S4x32_S_d0_1 : S4x32.ReducesTo [0, 1] S_

variable [Facts]

def fn_part2 {F : FTy → Type} [FloatOps F] (main_v26 : IVec S_ 1) (main_v30 : FVec F S4x32 .f32) (main_v32 : IVec S4x32 1) (main_v34 : IVec S4x32 1) : IVec S_ 1 :=
  let main_cst_11 : FVec F S_ .f32 := constant S_ .f32 0x7F7F0000#32
  let main_v35 : FVec F S4x32 .f32 := broadcastInDim S4x32 ![] bcast_S_S4x32 main_cst_11
  let main_v36 : IVec S4x32 1 := cmpf .ole main_v30 main_v35
  let main_v37 : IVec S4x32 1 := andi main_v34 main_v36
  let main_v38 : IVec S4x32 1 := ori main_v32 main_v37
  let main_c_12 : IVec S_ 1 := constantI S_ 1 1#1
  let main_v39 : IVec S_ 1 := (fun x v => Host.reduce IntOp.andi x v reducesTo_S4x32_S_d0_1 h_S_) main_v38 main_c_12
  let main_v40 : IVec S_ 1 := andi main_v26 main_v39
  main_v40

def fn_part1 {F : FTy → Type} [FloatOps F] (main_arg2 : FVec F S4x8192x2048 .bf16) (main_v12 : IVec S_ 1) (main_v16 : FVec F S4x32 .f32) (main_cst_4 : FVec F S_ .f32) : IVec S_ 1 :=
  let main_v17 : FVec F S4x32 .f32 := broadcastInDim S4x32 ![] bcast_S_S4x32 main_cst_4
  let main_v18 : IVec S4x32 1 := cmpf .oeq main_v16 main_v17
  let main_cst_5 : FVec F S_ .f32 := constant S_ .f32 0x24E00000#32
  let main_v19 : FVec F S4x32 .f32 := broadcastInDim S4x32 ![] bcast_S_S4x32 main_cst_5
  let main_v20 : IVec S4x32 1 := cmpf .oge main_v16 main_v19
  let main_cst_6 : FVec F S_ .f32 := constant S_ .f32 0x7F7F0000#32
  let main_v21 : FVec F S4x32 .f32 := broadcastInDim S4x32 ![] bcast_S_S4x32 main_cst_6
  let main_v22 : IVec S4x32 1 := cmpf .ole main_v16 main_v21
  let main_v23 : IVec S4x32 1 := andi main_v20 main_v22
  let main_v24 : IVec S4x32 1 := ori main_v18 main_v23
  let main_c_7 : IVec S_ 1 := constantI S_ 1 1#1
  let main_v25 : IVec S_ 1 := (fun x v => Host.reduce IntOp.andi x v reducesTo_S4x32_S_d0_1 h_S_) main_v24 main_c_7
  let main_v26 : IVec S_ 1 := andi main_v12 main_v25
  let main_v27 : FVec F S4x8192x2048 .f32 := (extf .f32 · bitsLt_bf16_f32) main_arg2
  let main_v28 : FVec F S4x8192x32x64 .f32 := shapeCast S4x8192x32x64 main_v27 shapeCasts_S4x8192x2048_S4x8192x32x64
  let main_v29 : FVec F S4x8192x32x64 .f32 := Host.absf main_v28
  let main_cst_8 : FVec F S_ .f32 := constant S_ .f32 0xFF800000#32
  let main_v30 : FVec F S4x32 .f32 := (fun x v => Host.reduce FloatOps.maximumf x v reducesTo_S4x8192x32x64_S4x32_d1_3 h_S_) main_v29 main_cst_8
  let main_cst_9 : FVec F S_ .f32 := constant S_ .f32 0x00000000#32
  let main_v31 : FVec F S4x32 .f32 := broadcastInDim S4x32 ![] bcast_S_S4x32 main_cst_9
  let main_v32 : IVec S4x32 1 := cmpf .oeq main_v30 main_v31
  let main_cst_10 : FVec F S_ .f32 := constant S_ .f32 0x04E00000#32
  let main_v33 : FVec F S4x32 .f32 := broadcastInDim S4x32 ![] bcast_S_S4x32 main_cst_10
  let main_v34 : IVec S4x32 1 := cmpf .oge main_v30 main_v33
  fn_part2 (F := F) main_v26 main_v30 main_v32 main_v34

def fn {F : FTy → Type} [FloatOps F] (main_arg0 : FVec F S4x8192x2048 .bf16) (main_arg1 : FVec F S4x8192x2048 .bf16) (main_arg2 : FVec F S4x8192x2048 .bf16) : IVec S_ 1 :=
  let main_v0 : FVec F S4x8192x2048 .f32 := (extf .f32 · bitsLt_bf16_f32) main_arg0
  let main_v1 : FVec F S4x8192x32x64 .f32 := shapeCast S4x8192x32x64 main_v0 shapeCasts_S4x8192x2048_S4x8192x32x64
  let main_v2 : FVec F S4x8192x32x64 .f32 := Host.absf main_v1
  let main_cst : FVec F S_ .f32 := constant S_ .f32 0xFF800000#32
  let main_v3 : FVec F S4x32 .f32 := (fun x v => Host.reduce FloatOps.maximumf x v reducesTo_S4x8192x32x64_S4x32_d1_3 h_S_) main_v2 main_cst
  let main_cst_0 : FVec F S_ .f32 := constant S_ .f32 0x00000000#32
  let main_v4 : FVec F S4x32 .f32 := broadcastInDim S4x32 ![] bcast_S_S4x32 main_cst_0
  let main_v5 : IVec S4x32 1 := cmpf .oeq main_v3 main_v4
  let main_cst_1 : FVec F S_ .f32 := constant S_ .f32 0x24E00000#32
  let main_v6 : FVec F S4x32 .f32 := broadcastInDim S4x32 ![] bcast_S_S4x32 main_cst_1
  let main_v7 : IVec S4x32 1 := cmpf .oge main_v3 main_v6
  let main_cst_2 : FVec F S_ .f32 := constant S_ .f32 0x7F7F0000#32
  let main_v8 : FVec F S4x32 .f32 := broadcastInDim S4x32 ![] bcast_S_S4x32 main_cst_2
  let main_v9 : IVec S4x32 1 := cmpf .ole main_v3 main_v8
  let main_v10 : IVec S4x32 1 := andi main_v7 main_v9
  let main_v11 : IVec S4x32 1 := ori main_v5 main_v10
  let main_c : IVec S_ 1 := constantI S_ 1 1#1
  let main_v12 : IVec S_ 1 := (fun x v => Host.reduce IntOp.andi x v reducesTo_S4x32_S_d0_1 h_S_) main_v11 main_c
  let main_v13 : FVec F S4x8192x2048 .f32 := (extf .f32 · bitsLt_bf16_f32) main_arg1
  let main_v14 : FVec F S4x8192x32x64 .f32 := shapeCast S4x8192x32x64 main_v13 shapeCasts_S4x8192x2048_S4x8192x32x64
  let main_v15 : FVec F S4x8192x32x64 .f32 := Host.absf main_v14
  let main_cst_3 : FVec F S_ .f32 := constant S_ .f32 0xFF800000#32
  let main_v16 : FVec F S4x32 .f32 := (fun x v => Host.reduce FloatOps.maximumf x v reducesTo_S4x8192x32x64_S4x32_d1_3 h_S_) main_v15 main_cst_3
  let main_cst_4 : FVec F S_ .f32 := constant S_ .f32 0x00000000#32
  fn_part1 (F := F) main_arg2 main_v12 main_v16 main_cst_4
-- ==== Kernel.lean ====
abbrev S4x8192x2048 : Shape := ⟨3, ![4, 8192, 2048]⟩
abbrev S4x2048x8192 : Shape := ⟨3, ![4, 2048, 8192]⟩
abbrev S4x16x1x128 : Shape := ⟨4, ![4, 16, 1, 128]⟩
abbrev S1x8192x128 : Shape := ⟨3, ![1, 8192, 128]⟩
abbrev S1x128x8192 : Shape := ⟨3, ![1, 128, 8192]⟩
abbrev S1x1x1x128 : Shape := ⟨4, ![1, 1, 1, 128]⟩
abbrev S8192x128 : Shape := ⟨2, ![8192, 128]⟩
abbrev S2x8192x512 : Shape := ⟨3, ![2, 8192, 512]⟩
abbrev S2x128x512 : Shape := ⟨3, ![2, 128, 512]⟩
abbrev S2x8x512 : Shape := ⟨3, ![2, 8, 512]⟩
abbrev S8x512 : Shape := ⟨2, ![8, 512]⟩
abbrev S128x256 : Shape := ⟨2, ![128, 256]⟩
abbrev S16x128 : Shape := ⟨2, ![16, 128]⟩
abbrev S1x512x128 : Shape := ⟨3, ![1, 512, 128]⟩
abbrev S512x128 : Shape := ⟨2, ![512, 128]⟩
abbrev S32x16x128 : Shape := ⟨3, ![32, 16, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S255x128 : Shape := ⟨2, ![255, 128]⟩
abbrev S128x512 : Shape := ⟨2, ![128, 512]⟩
abbrev S1x128x512 : Shape := ⟨3, ![1, 128, 512]⟩
abbrev S8x256 : Shape := ⟨2, ![8, 256]⟩
abbrev S1x8x512 : Shape := ⟨3, ![1, 8, 512]⟩
abbrev S64x256 : Shape := ⟨2, ![64, 256]⟩
abbrev S1x64x256 : Shape := ⟨3, ![1, 64, 256]⟩
abbrev S256x128 : Shape := ⟨2, ![256, 128]⟩
abbrev S256x512 : Shape := ⟨2, ![256, 512]⟩
abbrev S1x256x512 : Shape := ⟨3, ![1, 256, 512]⟩
abbrev S32x8x512 : Shape := ⟨3, ![32, 8, 512]⟩
abbrev S512 : Shape := ⟨1, ![512]⟩
abbrev S1x512 : Shape := ⟨2, ![1, 512]⟩
abbrev S1x512x512 : Shape := ⟨3, ![1, 512, 512]⟩
abbrev S512x512 : Shape := ⟨2, ![512, 512]⟩
abbrev S64x8x512 : Shape := ⟨3, ![64, 8, 512]⟩
abbrev S1x64x512 : Shape := ⟨3, ![1, 64, 512]⟩
abbrev S64x512 : Shape := ⟨2, ![64, 512]⟩
abbrev S512x256 : Shape := ⟨2, ![512, 256]⟩
abbrev S256x256 : Shape := ⟨2, ![256, 256]⟩
abbrev S1x1x512 : Shape := ⟨3, ![1, 1, 512]⟩
abbrev S1x256 : Shape := ⟨2, ![1, 256]⟩
abbrev S1x256x128 : Shape := ⟨3, ![1, 256, 128]⟩
abbrev S4x32x64x8192 : Shape := ⟨4, ![4, 32, 64, 8192]⟩
abbrev S4x8192x32x64 : Shape := ⟨4, ![4, 8192, 32, 64]⟩
abbrev S4x16x1x2 : Shape := ⟨4, ![4, 16, 1, 2]⟩
abbrev S4x16x2 : Shape := ⟨3, ![4, 16, 2]⟩
abbrev S4x32 : Shape := ⟨2, ![4, 32]⟩

abbrev nBuf : Space → Nat
  | .hbm => 25
  | .vmem => 28
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .bf16⟩
  | .hbm, ⟨2, _⟩ => ⟨S4x8192x2048, .bf16⟩
  | .hbm, ⟨3, _⟩ => ⟨S4x8192x2048, .bf16⟩
  | .hbm, ⟨4, _⟩ => ⟨S4x2048x8192, .fp8e4m3⟩
  | .hbm, ⟨5, _⟩ => ⟨S4x2048x8192, .fp8e4m3⟩
  | .hbm, ⟨6, _⟩ => ⟨S4x2048x8192, .fp8e4m3⟩
  | .hbm, ⟨7, _⟩ => ⟨S4x16x1x128, .f32⟩
  | .hbm, ⟨8, _⟩ => ⟨S4x16x1x128, .f32⟩
  | .hbm, ⟨9, _⟩ => ⟨S4x16x1x128, .f32⟩
  | .hbm, ⟨10, _⟩ => ⟨S4x32x64x8192, .fp8e4m3⟩
  | .hbm, ⟨11, _⟩ => ⟨S4x8192x32x64, .fp8e4m3⟩
  | .hbm, ⟨12, _⟩ => ⟨S4x16x1x2, .f32⟩
  | .hbm, ⟨13, _⟩ => ⟨S4x16x2, .f32⟩
  | .hbm, ⟨14, _⟩ => ⟨S4x32, .f32⟩
  | .hbm, ⟨15, _⟩ => ⟨S4x32x64x8192, .fp8e4m3⟩
  | .hbm, ⟨16, _⟩ => ⟨S4x8192x32x64, .fp8e4m3⟩
  | .hbm, ⟨17, _⟩ => ⟨S4x16x1x2, .f32⟩
  | .hbm, ⟨18, _⟩ => ⟨S4x16x2, .f32⟩
  | .hbm, ⟨19, _⟩ => ⟨S4x32, .f32⟩
  | .hbm, ⟨20, _⟩ => ⟨S4x32x64x8192, .fp8e4m3⟩
  | .hbm, ⟨21, _⟩ => ⟨S4x8192x32x64, .fp8e4m3⟩
  | .hbm, ⟨22, _⟩ => ⟨S4x16x1x2, .f32⟩
  | .hbm, ⟨23, _⟩ => ⟨S4x16x2, .f32⟩
  | .hbm, ⟨24, _⟩ => ⟨S4x32, .f32⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x128x8192, .fp8e4m3⟩
  | .local _ .vmem, ⟨9, _⟩ => ⟨S1x128x8192, .fp8e4m3⟩
  | .local _ .vmem, ⟨10, _⟩ => ⟨S1x128x8192, .fp8e4m3⟩
  | .local _ .vmem, ⟨11, _⟩ => ⟨S1x128x8192, .fp8e4m3⟩
  | .local _ .vmem, ⟨12, _⟩ => ⟨S1x128x8192, .fp8e4m3⟩
  | .local _ .vmem, ⟨13, _⟩ => ⟨S1x128x8192, .fp8e4m3⟩
  | .local _ .vmem, ⟨14, _⟩ => ⟨S1x1x1x128, .f32⟩
  | .local _ .vmem, ⟨15, _⟩ => ⟨S1x1x1x128, .f32⟩
  | .local _ .vmem, ⟨16, _⟩ => ⟨S1x1x1x128, .f32⟩
  | .local _ .vmem, ⟨17, _⟩ => ⟨S1x1x1x128, .f32⟩
  | .local _ .vmem, ⟨18, _⟩ => ⟨S1x1x1x128, .f32⟩
  | .local _ .vmem, ⟨19, _⟩ => ⟨S1x1x1x128, .f32⟩
  | .local _ .vmem, ⟨20, _⟩ => ⟨S8192x128, .fp8e4m3⟩
  | .local _ .vmem, ⟨21, _⟩ => ⟨S2x8192x512, .f32⟩
  | .local _ .vmem, ⟨22, _⟩ => ⟨S2x128x512, .fp8e4m3⟩
  | .local _ .vmem, ⟨23, _⟩ => ⟨S2x8x512, .f32⟩
  | .local _ .vmem, ⟨24, _⟩ => ⟨S2x8x512, .f32⟩
  | .local _ .vmem, ⟨25, _⟩ => ⟨S2x8x512, .f32⟩
  | .local _ .vmem, ⟨26, _⟩ => ⟨S8x512, .f32⟩
  | .local _ .vmem, ⟨27, _⟩ => ⟨S128x256, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c512_i32 : BitVec 32 := 512#32
  let v277 : BitVec 32 := Scalar.muli arg20 c512_i32
  v277
def k0_off1 (k0_t1 : Fin k0_t1_loop.trips) : Fin 3 → Nat :=
  let c0_151 : Index := 0#32
  let c0_i32 : BitVec 32 := 0#32
  let c1_i32 : BitVec 32 := 1#32
  let arg20 : BitVec 32 := Scf.iv c0_i32 c1_i32 k0_t1
  let c512_i32 : BitVec 32 := 512#32
  let v277 : BitVec 32 := Scalar.muli arg20 c512_i32
  let v278 : BitVec 32 := v277
  let v279 : Index := Scalar.indexCast v278
  let c0_152 : Index := 0#32
  ![0, v279.toNat, 0]
@[reducible] def k0_t2_loop : Scf.Loop 32 :=
  let c0_i32_17 : BitVec 32 := 0#32
  let c16_i32_18 : BitVec 32 := 16#32
  let v57 : BitVec 32 := Scalar.addi c0_i32_17 c16_i32_18
  let c1_i32_19 : BitVec 32 := 1#32
  ⟨c0_i32_17, v57, c1_i32_19⟩
def k0_mult2 (k0_t2 : Fin k0_t2_loop.trips) : BitVec 32 :=
  let c0_i32_17 : BitVec 32 := 0#32
  let c1_i32_19 : BitVec 32 := 1#32
  let arg20 : BitVec 32 := Scf.iv c0_i32_17 c1_i32_19 k0_t2
  let c512_i32 : BitVec 32 := 512#32
  let v277 : BitVec 32 := Scalar.muli arg20 c512_i32
  v277
def k0_off2 (k0_t2 : Fin k0_t2_loop.trips) : Fin 3 → Nat :=
  let c0_151 : Index := 0#32
  let c0_i32_17 : BitVec 32 := 0#32
  let c1_i32_19 : BitVec 32 := 1#32
  let arg20 : BitVec 32 := Scf.iv c0_i32_17 c1_i32_19 k0_t2
  let c512_i32 : BitVec 32 := 512#32
  let v277 : BitVec 32 := Scalar.muli arg20 c512_i32
  let v278 : BitVec 32 := v277
  let v279 : Index := Scalar.indexCast v278
  let c0_152 : Index := 0#32
  ![0, v279.toNat, 0]
@[reducible] def k0_t3_loop : Scf.Loop 32 :=
  let c0_i32_42 : BitVec 32 := 0#32
  let c16_i32_43 : BitVec 32 := 16#32
  let v113 : BitVec 32 := Scalar.addi c0_i32_42 c16_i32_43
  let c1_i32_44 : BitVec 32 := 1#32
  ⟨c0_i32_42, v113, c1_i32_44⟩
def k0_mult3 (k0_t3 : Fin k0_t3_loop.trips) : BitVec 32 :=
  let c0_i32_42 : BitVec 32 := 0#32
  let c1_i32_44 : BitVec 32 := 1#32
  let arg20 : BitVec 32 := Scf.iv c0_i32_42 c1_i32_44 k0_t3
  let c512_i32 : BitVec 32 := 512#32
  let v277 : BitVec 32 := Scalar.muli arg20 c512_i32
  v277
def k0_off3 (k0_t3 : Fin k0_t3_loop.trips) : Fin 3 → Nat :=
  let c0_151 : Index := 0#32
  let c0_i32_42 : BitVec 32 := 0#32
  let c1_i32_44 : BitVec 32 := 1#32
  let arg20 : BitVec 32 := Scf.iv c0_i32_42 c1_i32_44 k0_t3
  let c512_i32 : BitVec 32 := 512#32
  let v277 : BitVec 32 := Scalar.muli arg20 c512_i32
  let v278 : BitVec 32 := v277
  let v279 : Index := Scalar.indexCast v278
  let c0_152 : Index := 0#32
  ![0, v279.toNat, 0]
@[reducible] def k0_t4_loop : Scf.Loop 32 :=
  let c0_i32_77 : BitVec 32 := 0#32
  let c16_i32_78 : BitVec 32 := 16#32
  let v178 : BitVec 32 := Scalar.addi c0_i32_77 c16_i32_78
  let c1_i32_79 : BitVec 32 := 1#32
  ⟨c0_i32_77, v178, c1_i32_79⟩
def k0_mult4 (k0_t4 : Fin k0_t4_loop.trips) : BitVec 32 :=
  let c0_i32_77 : BitVec 32 := 0#32
  let c1_i32_79 : BitVec 32 := 1#32
  let arg20 : BitVec 32 := Scf.iv c0_i32_77 c1_i32_79 k0_t4
  let c512_i32 : BitVec 32 := 512#32
  let v277 : BitVec 32 := Scalar.muli arg20 c512_i32
  v277
def k0_off4 (k0_t4 : Fin k0_t4_loop.trips) : Fin 3 → Nat :=
  let c0_151 : Index := 0#32
  let c0_i32_77 : BitVec 32 := 0#32
  let c1_i32_79 : BitVec 32 := 1#32
  let arg20 : BitVec 32 := Scf.iv c0_i32_77 c1_i32_79 k0_t4
  let c512_i32 : BitVec 32 := 512#32
  let v277 : BitVec 32 := Scalar.muli arg20 c512_i32
  let v278 : BitVec 32 := v277
  let v279 : Index := Scalar.indexCast v278
  let c0_152 : Index := 0#32
  ![0, v279.toNat, 0]
def k0_off5 (k0_t4 : Fin k0_t4_loop.trips) : Fin 3 → Nat :=
  let c0_155 : Index := 0#32
  let c0_156 : Index := 0#32
  let c0_i32_77 : BitVec 32 := 0#32
  let c1_i32_79 : BitVec 32 := 1#32
  let arg20 : BitVec 32 := Scf.iv c0_i32_77 c1_i32_79 k0_t4
  let c512_i32 : BitVec 32 := 512#32
  let v277 : BitVec 32 := Scalar.muli arg20 c512_i32
  let v278 : BitVec 32 := v277
  let v292 : Index := Scalar.indexCast v278
  ![0, 0, v292.toNat]
@[reducible] def k0_t5_loop : Scf.Loop 32 :=
  let c0_i32_81 : BitVec 32 := 0#32
  let c16_i32_82 : BitVec 32 := 16#32
  let v180 : BitVec 32 := Scalar.addi c0_i32_81 c16_i32_82
  let c1_i32_83 : BitVec 32 := 1#32
  ⟨c0_i32_81, v180, c1_i32_83⟩
def k0_mult5 (k0_t5 : Fin k0_t5_loop.trips) : BitVec 32 :=
  let c0_i32_81 : BitVec 32 := 0#32
  let c1_i32_83 : BitVec 32 := 1#32
  let arg20 : BitVec 32 := Scf.iv c0_i32_81 c1_i32_83 k0_t5
  let c512_i32 : BitVec 32 := 512#32
  let v277 : BitVec 32 := Scalar.muli arg20 c512_i32
  v277
def k0_off6 (k0_t5 : Fin k0_t5_loop.trips) : Fin 3 → Nat :=
  let c0_151 : Index := 0#32
  let c0_i32_81 : BitVec 32 := 0#32
  let c1_i32_83 : BitVec 32 := 1#32
  let arg20 : BitVec 32 := Scf.iv c0_i32_81 c1_i32_83 k0_t5
  let c512_i32 : BitVec 32 := 512#32
  let v277 : BitVec 32 := Scalar.muli arg20 c512_i32
  let v278 : BitVec 32 := v277
  let v279 : Index := Scalar.indexCast v278
  let c0_152 : Index := 0#32
  ![0, v279.toNat, 0]
def k0_off7 (k0_t5 : Fin k0_t5_loop.trips) : Fin 2 → Nat :=
  let c0_i32_81 : BitVec 32 := 0#32
  let c1_i32_83 : BitVec 32 := 1#32
  let arg20 : BitVec 32 := Scf.iv c0_i32_81 c1_i32_83 k0_t5
  let c512_i32 : BitVec 32 := 512#32
  let v277 : BitVec 32 := Scalar.muli arg20 c512_i32
  let v278 : BitVec 32 := v277
  let v291 : Index := Scalar.indexCast v278
  let c0_155 : Index := 0#32
  ![v291.toNat, 0]
def k0_off8 (k0_t5 : Fin k0_t5_loop.trips) : Fin 3 → Nat :=
  let c0_156 : Index := 0#32
  let c0_157 : Index := 0#32
  let c0_i32_81 : BitVec 32 := 0#32
  let c1_i32_83 : BitVec 32 := 1#32
  let arg20 : BitVec 32 := Scf.iv c0_i32_81 c1_i32_83 k0_t5
  let c512_i32 : BitVec 32 := 512#32
  let v277 : BitVec 32 := Scalar.muli arg20 c512_i32
  let v278 : BitVec 32 := v277
  let v297 : Index := Scalar.indexCast v278
  ![0, 0, v297.toNat]
@[reducible] def k0_t6_loop : Scf.Loop 32 :=
  let c0_i32_85 : BitVec 32 := 0#32
  let c16_i32_86 : BitVec 32 := 16#32
  let v182 : BitVec 32 := Scalar.addi c0_i32_85 c16_i32_86
  let c1_i32_87 : BitVec 32 := 1#32
  ⟨c0_i32_85, v182, c1_i32_87⟩
def k0_mult6 (k0_t6 : Fin k0_t6_loop.trips) : BitVec 32 :=
  let c0_i32_85 : BitVec 32 := 0#32
  let c1_i32_87 : BitVec 32 := 1#32
  let arg20 : BitVec 32 := Scf.iv c0_i32_85 c1_i32_87 k0_t6
  let c512_i32 : BitVec 32 := 512#32
  let v277 : BitVec 32 := Scalar.muli arg20 c512_i32
  v277
def k0_off9 (k0_t6 : Fin k0_t6_loop.trips) : Fin 3 → Nat :=
  let c0_151 : Index := 0#32
  let c0_i32_85 : BitVec 32 := 0#32
  let c1_i32_87 : BitVec 32 := 1#32
  let arg20 : BitVec 32 := Scf.iv c0_i32_85 c1_i32_87 k0_t6
  let c512_i32 : BitVec 32 := 512#32
  let v277 : BitVec 32 := Scalar.muli arg20 c512_i32
  let v278 : BitVec 32 := v277
  let v279 : Index := Scalar.indexCast v278
  let c0_152 : Index := 0#32
  ![0, v279.toNat, 0]
def k0_off10 (k0_t6 : Fin k0_t6_loop.trips) : Fin 3 → Nat :=
  let c0_155 : Index := 0#32
  let c0_156 : Index := 0#32
  let c0_i32_85 : BitVec 32 := 0#32
  let c1_i32_87 : BitVec 32 := 1#32
  let arg20 : BitVec 32 := Scf.iv c0_i32_85 c1_i32_87 k0_t6
  let c512_i32 : BitVec 32 := 512#32
  let v277 : BitVec 32 := Scalar.muli arg20 c512_i32
  let v278 : BitVec 32 := v277
  let v292 : Index := Scalar.indexCast v278
  ![0, 0, v292.toNat]
def k0_mult7 : BitVec 32 :=
  let c0_i32_97 : BitVec 32 := 0#32
  c0_i32_97
def k0_mult8 : BitVec 32 :=
  let c0_i32_117 : BitVec 32 := 0#32
  c0_i32_117
@[reducible] def k0_t7_loop : Scf.Loop 32 :=
  let c0_i32_147 : BitVec 32 := 0#32
  let c16_i32_148 : BitVec 32 := 16#32
  let v276 : BitVec 32 := Scalar.addi c0_i32_147 c16_i32_148
  let c1_i32_149 : BitVec 32 := 1#32
  ⟨c0_i32_147, v276, c1_i32_149⟩
def k0_mult9 (k0_t7 : Fin k0_t7_loop.trips) : BitVec 32 :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c1_i32_151 : BitVec 32 := 1#32
  let v278 : BitVec 32 := Scalar.addi v277 c1_i32_151
  let c256_i32 : BitVec 32 := 256#32
  let v279 : BitVec 32 := Scalar.muli v278 c256_i32
  v279
def k0_off11 (k0_t7 : Fin k0_t7_loop.trips) : Fin 3 → Nat :=
  let c0_153 : Index := 0#32
  let c0_154 : Index := 0#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c1_i32_151 : BitVec 32 := 1#32
  let v278 : BitVec 32 := Scalar.addi v277 c1_i32_151
  let c256_i32 : BitVec 32 := 256#32
  let v279 : BitVec 32 := Scalar.muli v278 c256_i32
  let v280 : BitVec 32 := v279
  let v282 : Index := Scalar.indexCast v280
  ![0, 0, v282.toNat]
def k0_off12 (k0_t7 : Fin k0_t7_loop.trips) : Fin 3 → Nat :=
  let c0_164 : Index := 0#32
  let c64_165 : Index := 64#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c1_i32_151 : BitVec 32 := 1#32
  let v278 : BitVec 32 := Scalar.addi v277 c1_i32_151
  let c256_i32 : BitVec 32 := 256#32
  let v279 : BitVec 32 := Scalar.muli v278 c256_i32
  let v280 : BitVec 32 := v279
  let v294 : Index := Scalar.indexCast v280
  ![0, 64, v294.toNat]
@[reducible] def k0_t8_loop (k0_t7 : Fin k0_t7_loop.trips) : Scf.Loop 32 :=
  let c0_i32_173 : BitVec 32 := 0#32
  let c0_i32_147 : BitVec 32 := 0#32
  let c1_i32_149 : BitVec 32 := 1#32
  let arg20 : BitVec 32 := Scf.iv c0_i32_147 c1_i32_149 k0_t7
  let v304 : BitVec 32 := Scalar.subi arg20 c0_i32_173
  let c1_i32_175 : BitVec 32 := 1#32
  let v306 : BitVec 32 := Scalar.divsi v304 c1_i32_175
  let v307 : BitVec 32 := Scalar.muli v306 c1_i32_175
  let v308 : BitVec 32 := Scalar.addi c0_i32_173 v307
  let c1_i32_176 : BitVec 32 := 1#32
  ⟨c0_i32_173, v308, c1_i32_176⟩
def k0_mult10 (k0_t7 : Fin k0_t7_loop.trips) (k0_t8 : Fin (k0_t8_loop k0_t7).trips) : BitVec 32 :=
  let c0_i32_173 : BitVec 32 := 0#32
  let c1_i32_176 : BitVec 32 := 1#32
  let arg21 : BitVec 32 := Scf.iv c0_i32_173 c1_i32_176 k0_t8
  let c512_i32 : BitVec 32 := 512#32
  let v544 : BitVec 32 := Scalar.muli arg21 c512_i32
  v544
def k0_off13 (k0_t7 : Fin k0_t7_loop.trips) (k0_t8 : Fin (k0_t8_loop k0_t7).trips) : Fin 3 → Nat :=
  let c0_338 : Index := 0#32
  let c0_i32_173 : BitVec 32 := 0#32
  let c1_i32_176 : BitVec 32 := 1#32
  let arg21 : BitVec 32 := Scf.iv c0_i32_173 c1_i32_176 k0_t8
  let c512_i32 : BitVec 32 := 512#32
  let v544 : BitVec 32 := Scalar.muli arg21 c512_i32
  let v545 : BitVec 32 := v544
  let v546 : Index := Scalar.indexCast v545
  let c0_339 : Index := 0#32
  ![0, v546.toNat, 0]
def k0_off14 (k0_t7 : Fin k0_t7_loop.trips) (k0_t8 : Fin (k0_t8_loop k0_t7).trips) : Fin 3 → Nat :=
  let c0_353 : Index := 0#32
  let c0_354 : Index := 0#32
  let c0_i32_173 : BitVec 32 := 0#32
  let c1_i32_176 : BitVec 32 := 1#32
  let arg21 : BitVec 32 := Scf.iv c0_i32_173 c1_i32_176 k0_t8
  let c512_i32 : BitVec 32 := 512#32
  let v544 : BitVec 32 := Scalar.muli arg21 c512_i32
  let v545 : BitVec 32 := v544
  let v570 : Index := Scalar.indexCast v545
  ![0, 0, v570.toNat]
def k0_off15 (k0_t7 : Fin k0_t7_loop.trips) (k0_t8 : Fin (k0_t8_loop k0_t7).trips) : Fin 3 → Nat :=
  let c0_360 : Index := 0#32
  let c64_361 : Index := 64#32
  let c0_i32_173 : BitVec 32 := 0#32
  let c1_i32_176 : BitVec 32 := 1#32
  let arg21 : BitVec 32 := Scf.iv c0_i32_173 c1_i32_176 k0_t8
  let c512_i32 : BitVec 32 := 512#32
  let v544 : BitVec 32 := Scalar.muli arg21 c512_i32
  let v545 : BitVec 32 := v544
  let v580 : Index := Scalar.indexCast v545
  ![0, 64, v580.toNat]
def k0_mult11 (k0_t7 : Fin k0_t7_loop.trips) (k0_t8 : Fin (k0_t8_loop k0_t7).trips) : BitVec 32 :=
  let c0_i32_173 : BitVec 32 := 0#32
  let c1_i32_176 : BitVec 32 := 1#32
  let arg21 : BitVec 32 := Scf.iv c0_i32_173 c1_i32_176 k0_t8
  let c512_i32_365 : BitVec 32 := 512#32
  let v589 : BitVec 32 := Scalar.muli arg21 c512_i32_365
  v589
def k0_off16 (k0_t7 : Fin k0_t7_loop.trips) (k0_t8 : Fin (k0_t8_loop k0_t7).trips) : Fin 2 → Nat :=
  let c0_i32_173 : BitVec 32 := 0#32
  let c1_i32_176 : BitVec 32 := 1#32
  let arg21 : BitVec 32 := Scf.iv c0_i32_173 c1_i32_176 k0_t8
  let c512_i32_365 : BitVec 32 := 512#32
  let v589 : BitVec 32 := Scalar.muli arg21 c512_i32_365
  let v590 : BitVec 32 := v589
  let v591 : Index := Scalar.indexCast v590
  let c0_366 : Index := 0#32
  ![v591.toNat, 0]
def k0_off17 (k0_t7 : Fin k0_t7_loop.trips) (k0_t8 : Fin (k0_t8_loop k0_t7).trips) : Fin 3 → Nat :=
  let c1_371 : Index := 1#32
  let c0_i32_173 : BitVec 32 := 0#32
  let c1_i32_176 : BitVec 32 := 1#32
  let arg21 : BitVec 32 := Scf.iv c0_i32_173 c1_i32_176 k0_t8
  let c512_i32_365 : BitVec 32 := 512#32
  let v589 : BitVec 32 := Scalar.muli arg21 c512_i32_365
  let v590 : BitVec 32 := v589
  let v596 : Index := Scalar.indexCast v590
  let c0_372 : Index := 0#32
  ![1, v596.toNat, 0]
@[reducible] def k0_t9_loop (k0_t7 : Fin k0_t7_loop.trips) : Scf.Loop 32 :=
  let c0_i32_173 : BitVec 32 := 0#32
  let c0_i32_147 : BitVec 32 := 0#32
  let c1_i32_149 : BitVec 32 := 1#32
  let arg20 : BitVec 32 := Scf.iv c0_i32_147 c1_i32_149 k0_t7
  let v304 : BitVec 32 := Scalar.subi arg20 c0_i32_173
  let c1_i32_175 : BitVec 32 := 1#32
  let v306 : BitVec 32 := Scalar.divsi v304 c1_i32_175
  let v307 : BitVec 32 := Scalar.muli v306 c1_i32_175
  let v308 : BitVec 32 := Scalar.addi c0_i32_173 v307
  let v305 : BitVec 32 := Scalar.addi c0_i32_173 v304
  let c1_i32_177 : BitVec 32 := 1#32
  ⟨v308, v305, c1_i32_177⟩
def k0_mult12 (k0_t7 : Fin k0_t7_loop.trips) (k0_t9 : Fin (k0_t9_loop k0_t7).trips) : BitVec 32 :=
  let c0_i32_173 : BitVec 32 := 0#32
  let c0_i32_147 : BitVec 32 := 0#32
  let c1_i32_149 : BitVec 32 := 1#32
  let arg20 : BitVec 32 := Scf.iv c0_i32_147 c1_i32_149 k0_t7
  let v304 : BitVec 32 := Scalar.subi arg20 c0_i32_173
  let c1_i32_175 : BitVec 32 := 1#32
  let v306 : BitVec 32 := Scalar.divsi v304 c1_i32_175
  let v307 : BitVec 32 := Scalar.muli v306 c1_i32_175
  let v308 : BitVec 32 := Scalar.addi c0_i32_173 v307
  let c1_i32_177 : BitVec 32 := 1#32
  let arg21 : BitVec 32 := Scf.iv v308 c1_i32_177 k0_t9
  let c512_i32 : BitVec 32 := 512#32
  let v544 : BitVec 32 := Scalar.muli arg21 c512_i32
  v544
def k0_off18 (k0_t7 : Fin k0_t7_loop.trips) (k0_t9 : Fin (k0_t9_loop k0_t7).trips) : Fin 3 → Nat :=
  let c0_338 : Index := 0#32
  let c0_i32_173 : BitVec 32 := 0#32
  let c0_i32_147 : BitVec 32 := 0#32
  let c1_i32_149 : BitVec 32 := 1#32
  let arg20 : BitVec 32 := Scf.iv c0_i32_147 c1_i32_149 k0_t7
  let v304 : BitVec 32 := Scalar.subi arg20 c0_i32_173
  let c1_i32_175 : BitVec 32 := 1#32
  let v306 : BitVec 32 := Scalar.divsi v304 c1_i32_175
  let v307 : BitVec 32 := Scalar.muli v306 c1_i32_175
  let v308 : BitVec 32 := Scalar.addi c0_i32_173 v307
  let c1_i32_177 : BitVec 32 := 1#32
  let arg21 : BitVec 32 := Scf.iv v308 c1_i32_177 k0_t9
  let c512_i32 : BitVec 32 := 512#32
  let v544 : BitVec 32 := Scalar.muli arg21 c512_i32
  let v545 : BitVec 32 := v544
  let v546 : Index := Scalar.indexCast v545
  let c0_339 : Index := 0#32
  ![0, v546.toNat, 0]
def k0_off19 (k0_t7 : Fin k0_t7_loop.trips) (k0_t9 : Fin (k0_t9_loop k0_t7).trips) : Fin 3 → Nat :=
  let c0_353 : Index := 0#32
  let c0_354 : Index := 0#32
  let c0_i32_173 : BitVec 32 := 0#32
  let c0_i32_147 : BitVec 32 := 0#32
  let c1_i32_149 : BitVec 32 := 1#32
  let arg20 : BitVec 32 := Scf.iv c0_i32_147 c1_i32_149 k0_t7
  let v304 : BitVec 32 := Scalar.subi arg20 c0_i32_173
  let c1_i32_175 : BitVec 32 := 1#32
  let v306 : BitVec 32 := Scalar.divsi v304 c1_i32_175
  let v307 : BitVec 32 := Scalar.muli v306 c1_i32_175
  let v308 : BitVec 32 := Scalar.addi c0_i32_173 v307
  let c1_i32_177 : BitVec 32 := 1#32
  let arg21 : BitVec 32 := Scf.iv v308 c1_i32_177 k0_t9
  let c512_i32 : BitVec 32 := 512#32
  let v544 : BitVec 32 := Scalar.muli arg21 c512_i32
  let v545 : BitVec 32 := v544
  let v570 : Index := Scalar.indexCast v545
  ![0, 0, v570.toNat]
def k0_off20 (k0_t7 : Fin k0_t7_loop.trips) (k0_t9 : Fin (k0_t9_loop k0_t7).trips) : Fin 3 → Nat :=
  let c0_360 : Index := 0#32
  let c64_361 : Index := 64#32
  let c0_i32_173 : BitVec 32 := 0#32
  let c0_i32_147 : BitVec 32 := 0#32
  let c1_i32_149 : BitVec 32 := 1#32
  let arg20 : BitVec 32 := Scf.iv c0_i32_147 c1_i32_149 k0_t7
  let v304 : BitVec 32 := Scalar.subi arg20 c0_i32_173
  let c1_i32_175 : BitVec 32 := 1#32
  let v306 : BitVec 32 := Scalar.divsi v304 c1_i32_175
  let v307 : BitVec 32 := Scalar.muli v306 c1_i32_175
  let v308 : BitVec 32 := Scalar.addi c0_i32_173 v307
  let c1_i32_177 : BitVec 32 := 1#32
  let arg21 : BitVec 32 := Scf.iv v308 c1_i32_177 k0_t9
  let c512_i32 : BitVec 32 := 512#32
  let v544 : BitVec 32 := Scalar.muli arg21 c512_i32
  let v545 : BitVec 32 := v544
  let v580 : Index := Scalar.indexCast v545
  ![0, 64, v580.toNat]
def k0_mult13 (k0_t7 : Fin k0_t7_loop.trips) (k0_t9 : Fin (k0_t9_loop k0_t7).trips) : BitVec 32 :=
  let c0_i32_173 : BitVec 32 := 0#32
  let c0_i32_147 : BitVec 32 := 0#32
  let c1_i32_149 : BitVec 32 := 1#32
  let arg20 : BitVec 32 := Scf.iv c0_i32_147 c1_i32_149 k0_t7
  let v304 : BitVec 32 := Scalar.subi arg20 c0_i32_173
  let c1_i32_175 : BitVec 32 := 1#32
  let v306 : BitVec 32 := Scalar.divsi v304 c1_i32_175
  let v307 : BitVec 32 := Scalar.muli v306 c1_i32_175
  let v308 : BitVec 32 := Scalar.addi c0_i32_173 v307
  let c1_i32_177 : BitVec 32 := 1#32
  let arg21 : BitVec 32 := Scf.iv v308 c1_i32_177 k0_t9
  let c512_i32_365 : BitVec 32 := 512#32
  let v589 : BitVec 32 := Scalar.muli arg21 c512_i32_365
  v589
def k0_off21 (k0_t7 : Fin k0_t7_loop.trips) (k0_t9 : Fin (k0_t9_loop k0_t7).trips) : Fin 2 → Nat :=
  let c0_i32_173 : BitVec 32 := 0#32
  let c0_i32_147 : BitVec 32 := 0#32
  let c1_i32_149 : BitVec 32 := 1#32
  let arg20 : BitVec 32 := Scf.iv c0_i32_147 c1_i32_149 k0_t7
  let v304 : BitVec 32 := Scalar.subi arg20 c0_i32_173
  let c1_i32_175 : BitVec 32 := 1#32
  let v306 : BitVec 32 := Scalar.divsi v304 c1_i32_175
  let v307 : BitVec 32 := Scalar.muli v306 c1_i32_175
  let v308 : BitVec 32 := Scalar.addi c0_i32_173 v307
  let c1_i32_177 : BitVec 32 := 1#32
  let arg21 : BitVec 32 := Scf.iv v308 c1_i32_177 k0_t9
  let c512_i32_365 : BitVec 32 := 512#32
  let v589 : BitVec 32 := Scalar.muli arg21 c512_i32_365
  let v590 : BitVec 32 := v589
  let v591 : Index := Scalar.indexCast v590
  let c0_366 : Index := 0#32
  ![v591.toNat, 0]
def k0_off22 (k0_t7 : Fin k0_t7_loop.trips) (k0_t9 : Fin (k0_t9_loop k0_t7).trips) : Fin 3 → Nat :=
  let c1_371 : Index := 1#32
  let c0_i32_173 : BitVec 32 := 0#32
  let c0_i32_147 : BitVec 32 := 0#32
  let c1_i32_149 : BitVec 32 := 1#32
  let arg20 : BitVec 32 := Scf.iv c0_i32_147 c1_i32_149 k0_t7
  let v304 : BitVec 32 := Scalar.subi arg20 c0_i32_173
  let c1_i32_175 : BitVec 32 := 1#32
  let v306 : BitVec 32 := Scalar.divsi v304 c1_i32_175
  let v307 : BitVec 32 := Scalar.muli v306 c1_i32_175
  let v308 : BitVec 32 := Scalar.addi c0_i32_173 v307
  let c1_i32_177 : BitVec 32 := 1#32
  let arg21 : BitVec 32 := Scf.iv v308 c1_i32_177 k0_t9
  let c512_i32_365 : BitVec 32 := 512#32
  let v589 : BitVec 32 := Scalar.muli arg21 c512_i32_365
  let v590 : BitVec 32 := v589
  let v596 : Index := Scalar.indexCast v590
  let c0_372 : Index := 0#32
  ![1, v596.toNat, 0]
def k0_mult14 (k0_t7 : Fin k0_t7_loop.trips) : BitVec 32 :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c256_i32_178 : BitVec 32 := 256#32
  let v311 : BitVec 32 := Scalar.muli v277 c256_i32_178
  v311
def k0_off23 (k0_t7 : Fin k0_t7_loop.trips) : Fin 3 → Nat :=
  let c0_179 : Index := 0#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c256_i32_178 : BitVec 32 := 256#32
  let v311 : BitVec 32 := Scalar.muli v277 c256_i32_178
  let v312 : BitVec 32 := v311
  let v313 : Index := Scalar.indexCast v312
  let c0_180 : Index := 0#32
  ![0, v313.toNat, 0]
def k0_off24 (k0_t7 : Fin k0_t7_loop.trips) : Fin 3 → Nat :=
  let c0_194 : Index := 0#32
  let c0_195 : Index := 0#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c256_i32_178 : BitVec 32 := 256#32
  let v311 : BitVec 32 := Scalar.muli v277 c256_i32_178
  let v312 : BitVec 32 := v311
  let v337 : Index := Scalar.indexCast v312
  ![0, 0, v337.toNat]
def k0_off25 (k0_t7 : Fin k0_t7_loop.trips) : Fin 3 → Nat :=
  let c0_201 : Index := 0#32
  let c64_202 : Index := 64#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c256_i32_178 : BitVec 32 := 256#32
  let v311 : BitVec 32 := Scalar.muli v277 c256_i32_178
  let v312 : BitVec 32 := v311
  let v347 : Index := Scalar.indexCast v312
  ![0, 64, v347.toNat]
def k0_mult15 (k0_t7 : Fin k0_t7_loop.trips) : BitVec 32 :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c256_i32_206 : BitVec 32 := 256#32
  let v356 : BitVec 32 := Scalar.muli v277 c256_i32_206
  v356
def k0_off26 (k0_t7 : Fin k0_t7_loop.trips) : Fin 2 → Nat :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c256_i32_206 : BitVec 32 := 256#32
  let v356 : BitVec 32 := Scalar.muli v277 c256_i32_206
  let v357 : BitVec 32 := v356
  let v358 : Index := Scalar.indexCast v357
  let c0_207 : Index := 0#32
  ![v358.toNat, 0]
def k0_off27 (k0_t7 : Fin k0_t7_loop.trips) : Fin 3 → Nat :=
  let c1_212 : Index := 1#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c256_i32_206 : BitVec 32 := 256#32
  let v356 : BitVec 32 := Scalar.muli v277 c256_i32_206
  let v357 : BitVec 32 := v356
  let v363 : Index := Scalar.indexCast v357
  let c0_213 : Index := 0#32
  ![1, v363.toNat, 0]
def k0_mult16 (k0_t7 : Fin k0_t7_loop.trips) : BitVec 32 :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c1_i32_221 : BitVec 32 := 1#32
  let v375 : BitVec 32 := Scalar.addi v277 c1_i32_221
  let c256_i32_222 : BitVec 32 := 256#32
  let v376 : BitVec 32 := Scalar.muli v375 c256_i32_222
  v376
def k0_off28 (k0_t7 : Fin k0_t7_loop.trips) : Fin 2 → Nat :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c1_i32_221 : BitVec 32 := 1#32
  let v375 : BitVec 32 := Scalar.addi v277 c1_i32_221
  let c256_i32_222 : BitVec 32 := 256#32
  let v376 : BitVec 32 := Scalar.muli v375 c256_i32_222
  let v377 : BitVec 32 := v376
  let v378 : Index := Scalar.indexCast v377
  let c0_223 : Index := 0#32
  ![v378.toNat, 0]
def k0_off29 (k0_t7 : Fin k0_t7_loop.trips) : Fin 3 → Nat :=
  let c1_230 : Index := 1#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c1_i32_221 : BitVec 32 := 1#32
  let v375 : BitVec 32 := Scalar.addi v277 c1_i32_221
  let c256_i32_222 : BitVec 32 := 256#32
  let v376 : BitVec 32 := Scalar.muli v375 c256_i32_222
  let v377 : BitVec 32 := v376
  let v390 : Index := Scalar.indexCast v377
  let c0_231 : Index := 0#32
  ![1, v390.toNat, 0]
def k0_mult17 (k0_t7 : Fin k0_t7_loop.trips) : BitVec 32 :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c256_i32_249 : BitVec 32 := 256#32
  let v417 : BitVec 32 := Scalar.muli v277 c256_i32_249
  v417
def k0_off30 (k0_t7 : Fin k0_t7_loop.trips) : Fin 3 → Nat :=
  let c0_250 : Index := 0#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c256_i32_249 : BitVec 32 := 256#32
  let v417 : BitVec 32 := Scalar.muli v277 c256_i32_249
  let v418 : BitVec 32 := v417
  let v421 : Index := Scalar.indexCast v418
  let c0_251 : Index := 0#32
  ![0, v421.toNat, 0]
def k0_mult18 (k0_t7 : Fin k0_t7_loop.trips) : BitVec 32 :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c2_i32_265 : BitVec 32 := 2#32
  let v442 : BitVec 32 := Scalar.addi v277 c2_i32_265
  let c31_i32 : BitVec 32 := 31#32
  let v443 : BitVec 32 := Scalar.minsi v442 c31_i32
  let c256_i32_266 : BitVec 32 := 256#32
  let v444 : BitVec 32 := Scalar.muli v443 c256_i32_266
  v444
def k0_off31 (k0_t7 : Fin k0_t7_loop.trips) : Fin 3 → Nat :=
  let c0_268 : Index := 0#32
  let c0_269 : Index := 0#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c2_i32_265 : BitVec 32 := 2#32
  let v442 : BitVec 32 := Scalar.addi v277 c2_i32_265
  let c31_i32 : BitVec 32 := 31#32
  let v443 : BitVec 32 := Scalar.minsi v442 c31_i32
  let c256_i32_266 : BitVec 32 := 256#32
  let v444 : BitVec 32 := Scalar.muli v443 c256_i32_266
  let v445 : BitVec 32 := v444
  let v447 : Index := Scalar.indexCast v445
  ![0, 0, v447.toNat]
def k0_off32 (k0_t7 : Fin k0_t7_loop.trips) : Fin 3 → Nat :=
  let c0_279 : Index := 0#32
  let c64_280 : Index := 64#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c2_i32_265 : BitVec 32 := 2#32
  let v442 : BitVec 32 := Scalar.addi v277 c2_i32_265
  let c31_i32 : BitVec 32 := 31#32
  let v443 : BitVec 32 := Scalar.minsi v442 c31_i32
  let c256_i32_266 : BitVec 32 := 256#32
  let v444 : BitVec 32 := Scalar.muli v443 c256_i32_266
  let v445 : BitVec 32 := v444
  let v459 : Index := Scalar.indexCast v445
  ![0, 64, v459.toNat]
@[reducible] def k0_t10_loop (k0_t7 : Fin k0_t7_loop.trips) : Scf.Loop 32 :=
  let c0_i32_289 : BitVec 32 := 0#32
  let c0_i32_147 : BitVec 32 := 0#32
  let c1_i32_149 : BitVec 32 := 1#32
  let arg20 : BitVec 32 := Scf.iv c0_i32_147 c1_i32_149 k0_t7
  let c1_i32_288 : BitVec 32 := 1#32
  let v469 : BitVec 32 := Scalar.addi arg20 c1_i32_288
  let v470 : BitVec 32 := Scalar.subi v469 c0_i32_289
  let c1_i32_291 : BitVec 32 := 1#32
  let v472 : BitVec 32 := Scalar.divsi v470 c1_i32_291
  let v473 : BitVec 32 := Scalar.muli v472 c1_i32_291
  let v474 : BitVec 32 := Scalar.addi c0_i32_289 v473
  let c1_i32_292 : BitVec 32 := 1#32
  ⟨c0_i32_289, v474, c1_i32_292⟩
def k0_mult19 (k0_t7 : Fin k0_t7_loop.trips) (k0_t10 : Fin (k0_t10_loop k0_t7).trips) : BitVec 32 :=
  let c0_i32_289 : BitVec 32 := 0#32
  let c1_i32_292 : BitVec 32 := 1#32
  let arg21 : BitVec 32 := Scf.iv c0_i32_289 c1_i32_292 k0_t10
  let c512_i32 : BitVec 32 := 512#32
  let v544 : BitVec 32 := Scalar.muli arg21 c512_i32
  v544
def k0_off33 (k0_t7 : Fin k0_t7_loop.trips) (k0_t10 : Fin (k0_t10_loop k0_t7).trips) : Fin 3 → Nat :=
  let c1_338 : Index := 1#32
  let c0_i32_289 : BitVec 32 := 0#32
  let c1_i32_292 : BitVec 32 := 1#32
  let arg21 : BitVec 32 := Scf.iv c0_i32_289 c1_i32_292 k0_t10
  let c512_i32 : BitVec 32 := 512#32
  let v544 : BitVec 32 := Scalar.muli arg21 c512_i32
  let v545 : BitVec 32 := v544
  let v546 : Index := Scalar.indexCast v545
  let c0_339 : Index := 0#32
  ![1, v546.toNat, 0]
def k0_off34 (k0_t7 : Fin k0_t7_loop.trips) (k0_t10 : Fin (k0_t10_loop k0_t7).trips) : Fin 3 → Nat :=
  let c0_353 : Index := 0#32
  let c0_354 : Index := 0#32
  let c0_i32_289 : BitVec 32 := 0#32
  let c1_i32_292 : BitVec 32 := 1#32
  let arg21 : BitVec 32 := Scf.iv c0_i32_289 c1_i32_292 k0_t10
  let c512_i32 : BitVec 32 := 512#32
  let v544 : BitVec 32 := Scalar.muli arg21 c512_i32
  let v545 : BitVec 32 := v544
  let v570 : Index := Scalar.indexCast v545
  ![0, 0, v570.toNat]
def k0_off35 (k0_t7 : Fin k0_t7_loop.trips) (k0_t10 : Fin (k0_t10_loop k0_t7).trips) : Fin 3 → Nat :=
  let c0_360 : Index := 0#32
  let c64_361 : Index := 64#32
  let c0_i32_289 : BitVec 32 := 0#32
  let c1_i32_292 : BitVec 32 := 1#32
  let arg21 : BitVec 32 := Scf.iv c0_i32_289 c1_i32_292 k0_t10
  let c512_i32 : BitVec 32 := 512#32
  let v544 : BitVec 32 := Scalar.muli arg21 c512_i32
  let v545 : BitVec 32 := v544
  let v580 : Index := Scalar.indexCast v545
  ![0, 64, v580.toNat]
def k0_mult20 (k0_t7 : Fin k0_t7_loop.trips) (k0_t10 : Fin (k0_t10_loop k0_t7).trips) : BitVec 32 :=
  let c0_i32_289 : BitVec 32 := 0#32
  let c1_i32_292 : BitVec 32 := 1#32
  let arg21 : BitVec 32 := Scf.iv c0_i32_289 c1_i32_292 k0_t10
  let c512_i32_365 : BitVec 32 := 512#32
  let v589 : BitVec 32 := Scalar.muli arg21 c512_i32_365
  v589
def k0_off36 (k0_t7 : Fin k0_t7_loop.trips) (k0_t10 : Fin (k0_t10_loop k0_t7).trips) : Fin 2 → Nat :=
  let c0_i32_289 : BitVec 32 := 0#32
  let c1_i32_292 : BitVec 32 := 1#32
  let arg21 : BitVec 32 := Scf.iv c0_i32_289 c1_i32_292 k0_t10
  let c512_i32_365 : BitVec 32 := 512#32
  let v589 : BitVec 32 := Scalar.muli arg21 c512_i32_365
  let v590 : BitVec 32 := v589
  let v591 : Index := Scalar.indexCast v590
  let c0_366 : Index := 0#32
  ![v591.toNat, 0]
def k0_off37 (k0_t7 : Fin k0_t7_loop.trips) (k0_t10 : Fin (k0_t10_loop k0_t7).trips) : Fin 3 → Nat :=
  let c0_371 : Index := 0#32
  let c0_i32_289 : BitVec 32 := 0#32
  let c1_i32_292 : BitVec 32 := 1#32
  let arg21 : BitVec 32 := Scf.iv c0_i32_289 c1_i32_292 k0_t10
  let c512_i32_365 : BitVec 32 := 512#32
  let v589 : BitVec 32 := Scalar.muli arg21 c512_i32_365
  let v590 : BitVec 32 := v589
  let v596 : Index := Scalar.indexCast v590
  let c0_372 : Index := 0#32
  ![0, v596.toNat, 0]
@[reducible] def k0_t11_loop (k0_t7 : Fin k0_t7_loop.trips) : Scf.Loop 32 :=
  let c0_i32_289 : BitVec 32 := 0#32
  let c0_i32_147 : BitVec 32 := 0#32
  let c1_i32_149 : BitVec 32 := 1#32
  let arg20 : BitVec 32 := Scf.iv c0_i32_147 c1_i32_149 k0_t7
  let c1_i32_288 : BitVec 32 := 1#32
  let v469 : BitVec 32 := Scalar.addi arg20 c1_i32_288
  let v470 : BitVec 32 := Scalar.subi v469 c0_i32_289
  let c1_i32_291 : BitVec 32 := 1#32
  let v472 : BitVec 32 := Scalar.divsi v470 c1_i32_291
  let v473 : BitVec 32 := Scalar.muli v472 c1_i32_291
  let v474 : BitVec 32 := Scalar.addi c0_i32_289 v473
  let v471 : BitVec 32 := Scalar.addi c0_i32_289 v470
  let c1_i32_293 : BitVec 32 := 1#32
  ⟨v474, v471, c1_i32_293⟩
def k0_mult21 (k0_t7 : Fin k0_t7_loop.trips) (k0_t11 : Fin (k0_t11_loop k0_t7).trips) : BitVec 32 :=
  let c0_i32_289 : BitVec 32 := 0#32
  let c0_i32_147 : BitVec 32 := 0#32
  let c1_i32_149 : BitVec 32 := 1#32
  let arg20 : BitVec 32 := Scf.iv c0_i32_147 c1_i32_149 k0_t7
  let c1_i32_288 : BitVec 32 := 1#32
  let v469 : BitVec 32 := Scalar.addi arg20 c1_i32_288
  let v470 : BitVec 32 := Scalar.subi v469 c0_i32_289
  let c1_i32_291 : BitVec 32 := 1#32
  let v472 : BitVec 32 := Scalar.divsi v470 c1_i32_291
  let v473 : BitVec 32 := Scalar.muli v472 c1_i32_291
  let v474 : BitVec 32 := Scalar.addi c0_i32_289 v473
  let c1_i32_293 : BitVec 32 := 1#32
  let arg21 : BitVec 32 := Scf.iv v474 c1_i32_293 k0_t11
  let c512_i32 : BitVec 32 := 512#32
  let v544 : BitVec 32 := Scalar.muli arg21 c512_i32
  v544
def k0_off38 (k0_t7 : Fin k0_t7_loop.trips) (k0_t11 : Fin (k0_t11_loop k0_t7).trips) : Fin 3 → Nat :=
  let c1_338 : Index := 1#32
  let c0_i32_289 : BitVec 32 := 0#32
  let c0_i32_147 : BitVec 32 := 0#32
  let c1_i32_149 : BitVec 32 := 1#32
  let arg20 : BitVec 32 := Scf.iv c0_i32_147 c1_i32_149 k0_t7
  let c1_i32_288 : BitVec 32 := 1#32
  let v469 : BitVec 32 := Scalar.addi arg20 c1_i32_288
  let v470 : BitVec 32 := Scalar.subi v469 c0_i32_289
  let c1_i32_291 : BitVec 32 := 1#32
  let v472 : BitVec 32 := Scalar.divsi v470 c1_i32_291
  let v473 : BitVec 32 := Scalar.muli v472 c1_i32_291
  let v474 : BitVec 32 := Scalar.addi c0_i32_289 v473
  let c1_i32_293 : BitVec 32 := 1#32
  let arg21 : BitVec 32 := Scf.iv v474 c1_i32_293 k0_t11
  let c512_i32 : BitVec 32 := 512#32
  let v544 : BitVec 32 := Scalar.muli arg21 c512_i32
  let v545 : BitVec 32 := v544
  let v546 : Index := Scalar.indexCast v545
  let c0_339 : Index := 0#32
  ![1, v546.toNat, 0]
def k0_off39 (k0_t7 : Fin k0_t7_loop.trips) (k0_t11 : Fin (k0_t11_loop k0_t7).trips) : Fin 3 → Nat :=
  let c0_353 : Index := 0#32
  let c0_354 : Index := 0#32
  let c0_i32_289 : BitVec 32 := 0#32
  let c0_i32_147 : BitVec 32 := 0#32
  let c1_i32_149 : BitVec 32 := 1#32
  let arg20 : BitVec 32 := Scf.iv c0_i32_147 c1_i32_149 k0_t7
  let c1_i32_288 : BitVec 32 := 1#32
  let v469 : BitVec 32 := Scalar.addi arg20 c1_i32_288
  let v470 : BitVec 32 := Scalar.subi v469 c0_i32_289
  let c1_i32_291 : BitVec 32 := 1#32
  let v472 : BitVec 32 := Scalar.divsi v470 c1_i32_291
  let v473 : BitVec 32 := Scalar.muli v472 c1_i32_291
  let v474 : BitVec 32 := Scalar.addi c0_i32_289 v473
  let c1_i32_293 : BitVec 32 := 1#32
  let arg21 : BitVec 32 := Scf.iv v474 c1_i32_293 k0_t11
  let c512_i32 : BitVec 32 := 512#32
  let v544 : BitVec 32 := Scalar.muli arg21 c512_i32
  let v545 : BitVec 32 := v544
  let v570 : Index := Scalar.indexCast v545
  ![0, 0, v570.toNat]
def k0_off40 (k0_t7 : Fin k0_t7_loop.trips) (k0_t11 : Fin (k0_t11_loop k0_t7).trips) : Fin 3 → Nat :=
  let c0_360 : Index := 0#32
  let c64_361 : Index := 64#32
  let c0_i32_289 : BitVec 32 := 0#32
  let c0_i32_147 : BitVec 32 := 0#32
  let c1_i32_149 : BitVec 32 := 1#32
  let arg20 : BitVec 32 := Scf.iv c0_i32_147 c1_i32_149 k0_t7
  let c1_i32_288 : BitVec 32 := 1#32
  let v469 : BitVec 32 := Scalar.addi arg20 c1_i32_288
  let v470 : BitVec 32 := Scalar.subi v469 c0_i32_289
  let c1_i32_291 : BitVec 32 := 1#32
  let v472 : BitVec 32 := Scalar.divsi v470 c1_i32_291
  let v473 : BitVec 32 := Scalar.muli v472 c1_i32_291
  let v474 : BitVec 32 := Scalar.addi c0_i32_289 v473
  let c1_i32_293 : BitVec 32 := 1#32
  let arg21 : BitVec 32 := Scf.iv v474 c1_i32_293 k0_t11
  let c512_i32 : BitVec 32 := 512#32
  let v544 : BitVec 32 := Scalar.muli arg21 c512_i32
  let v545 : BitVec 32 := v544
  let v580 : Index := Scalar.indexCast v545
  ![0, 64, v580.toNat]
def k0_mult22 (k0_t7 : Fin k0_t7_loop.trips) (k0_t11 : Fin (k0_t11_loop k0_t7).trips) : BitVec 32 :=
  let c0_i32_289 : BitVec 32 := 0#32
  let c0_i32_147 : BitVec 32 := 0#32
  let c1_i32_149 : BitVec 32 := 1#32
  let arg20 : BitVec 32 := Scf.iv c0_i32_147 c1_i32_149 k0_t7
  let c1_i32_288 : BitVec 32 := 1#32
  let v469 : BitVec 32 := Scalar.addi arg20 c1_i32_288
  let v470 : BitVec 32 := Scalar.subi v469 c0_i32_289
  let c1_i32_291 : BitVec 32 := 1#32
  let v472 : BitVec 32 := Scalar.divsi v470 c1_i32_291
  let v473 : BitVec 32 := Scalar.muli v472 c1_i32_291
  let v474 : BitVec 32 := Scalar.addi c0_i32_289 v473
  let c1_i32_293 : BitVec 32 := 1#32
  let arg21 : BitVec 32 := Scf.iv v474 c1_i32_293 k0_t11
  let c512_i32_365 : BitVec 32 := 512#32
  let v589 : BitVec 32 := Scalar.muli arg21 c512_i32_365
  v589
def k0_off41 (k0_t7 : Fin k0_t7_loop.trips) (k0_t11 : Fin (k0_t11_loop k0_t7).trips) : Fin 2 → Nat :=
  let c0_i32_289 : BitVec 32 := 0#32
  let c0_i32_147 : BitVec 32 := 0#32
  let c1_i32_149 : BitVec 32 := 1#32
  let arg20 : BitVec 32 := Scf.iv c0_i32_147 c1_i32_149 k0_t7
  let c1_i32_288 : BitVec 32 := 1#32
  let v469 : BitVec 32 := Scalar.addi arg20 c1_i32_288
  let v470 : BitVec 32 := Scalar.subi v469 c0_i32_289
  let c1_i32_291 : BitVec 32 := 1#32
  let v472 : BitVec 32 := Scalar.divsi v470 c1_i32_291
  let v473 : BitVec 32 := Scalar.muli v472 c1_i32_291
  let v474 : BitVec 32 := Scalar.addi c0_i32_289 v473
  let c1_i32_293 : BitVec 32 := 1#32
  let arg21 : BitVec 32 := Scf.iv v474 c1_i32_293 k0_t11
  let c512_i32_365 : BitVec 32 := 512#32
  let v589 : BitVec 32 := Scalar.muli arg21 c512_i32_365
  let v590 : BitVec 32 := v589
  let v591 : Index := Scalar.indexCast v590
  let c0_366 : Index := 0#32
  ![v591.toNat, 0]
def k0_off42 (k0_t7 : Fin k0_t7_loop.trips) (k0_t11 : Fin (k0_t11_loop k0_t7).trips) : Fin 3 → Nat :=
  let c0_371 : Index := 0#32
  let c0_i32_289 : BitVec 32 := 0#32
  let c0_i32_147 : BitVec 32 := 0#32
  let c1_i32_149 : BitVec 32 := 1#32
  let arg20 : BitVec 32 := Scf.iv c0_i32_147 c1_i32_149 k0_t7
  let c1_i32_288 : BitVec 32 := 1#32
  let v469 : BitVec 32 := Scalar.addi arg20 c1_i32_288
  let v470 : BitVec 32 := Scalar.subi v469 c0_i32_289
  let c1_i32_291 : BitVec 32 := 1#32
  let v472 : BitVec 32 := Scalar.divsi v470 c1_i32_291
  let v473 : BitVec 32 := Scalar.muli v472 c1_i32_291
  let v474 : BitVec 32 := Scalar.addi c0_i32_289 v473
  let c1_i32_293 : BitVec 32 := 1#32
  let arg21 : BitVec 32 := Scf.iv v474 c1_i32_293 k0_t11
  let c512_i32_365 : BitVec 32 := 512#32
  let v589 : BitVec 32 := Scalar.muli arg21 c512_i32_365
  let v590 : BitVec 32 := v589
  let v596 : Index := Scalar.indexCast v590
  let c0_372 : Index := 0#32
  ![0, v596.toNat, 0]
def k0_mult23 (k0_t7 : Fin k0_t7_loop.trips) : BitVec 32 :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c2_i32_265 : BitVec 32 := 2#32
  let v442 : BitVec 32 := Scalar.addi v277 c2_i32_265
  let c31_i32 : BitVec 32 := 31#32
  let v443 : BitVec 32 := Scalar.minsi v442 c31_i32
  let c256_i32_294 : BitVec 32 := 256#32
  let v477 : BitVec 32 := Scalar.muli v443 c256_i32_294
  v477
def k0_off43 (k0_t7 : Fin k0_t7_loop.trips) : Fin 2 → Nat :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c2_i32_265 : BitVec 32 := 2#32
  let v442 : BitVec 32 := Scalar.addi v277 c2_i32_265
  let c31_i32 : BitVec 32 := 31#32
  let v443 : BitVec 32 := Scalar.minsi v442 c31_i32
  let c256_i32_294 : BitVec 32 := 256#32
  let v477 : BitVec 32 := Scalar.muli v443 c256_i32_294
  let v478 : BitVec 32 := v477
  let v479 : Index := Scalar.indexCast v478
  let c0_295 : Index := 0#32
  ![v479.toNat, 0]
def k0_off44 (k0_t7 : Fin k0_t7_loop.trips) : Fin 3 → Nat :=
  let c0_302 : Index := 0#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c2_i32_265 : BitVec 32 := 2#32
  let v442 : BitVec 32 := Scalar.addi v277 c2_i32_265
  let c31_i32 : BitVec 32 := 31#32
  let v443 : BitVec 32 := Scalar.minsi v442 c31_i32
  let c256_i32_294 : BitVec 32 := 256#32
  let v477 : BitVec 32 := Scalar.muli v443 c256_i32_294
  let v478 : BitVec 32 := v477
  let v491 : Index := Scalar.indexCast v478
  let c0_303 : Index := 0#32
  ![0, v491.toNat, 0]
def k0_mult24 (k0_t7 : Fin k0_t7_loop.trips) : BitVec 32 :=
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c1_i32_311 : BitVec 32 := 1#32
  let v503 : BitVec 32 := Scalar.addi v277 c1_i32_311
  let c256_i32_322 : BitVec 32 := 256#32
  let v519 : BitVec 32 := Scalar.muli v503 c256_i32_322
  v519
def k0_off45 (k0_t7 : Fin k0_t7_loop.trips) : Fin 3 → Nat :=
  let c0_323 : Index := 0#32
  let c2_i32 : BitVec 32 := 2#32
  let c0_i32_147 : BitVec 32 := 0#32
  let c1_i32_149 : BitVec 32 := 1#32
  let arg20 : BitVec 32 := Scf.iv c0_i32_147 c1_i32_149 k0_t7
  let v277 : BitVec 32 := Scalar.muli c2_i32 arg20
  let c1_i32_311 : BitVec 32 := 1#32
  let v503 : BitVec 32 := Scalar.addi v277 c1_i32_311
  let c256_i32_322 : BitVec 32 := 256#32
  let v519 : BitVec 32 := Scalar.muli v503 c256_i32_322
  let v520 : BitVec 32 := v519
  let v523 : Index := Scalar.indexCast v520
  let c0_324 : Index := 0#32
  ![0, v523.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x8192x2048 : Shape := ⟨3, ![4, 8192, 2048]⟩
abbrev S4x8192x32x64 : Shape := ⟨4, ![4, 8192, 32, 64]⟩
abbrev S4x32x8192x64 : Shape := ⟨4, ![4, 32, 8192, 64]⟩
abbrev S128x8192x64 : Shape := ⟨3, ![128, 8192, 64]⟩
abbrev S128x1x1 : Shape := ⟨3, ![128, 1, 1]⟩
abbrev S128x8192 : Shape := ⟨2, ![128, 8192]⟩
abbrev S128x8192x1 : Shape := ⟨3, ![128, 8192, 1]⟩
abbrev S128x1 : Shape := ⟨2, ![128, 1]⟩
abbrev S128x8192x8192 : Shape := ⟨3, ![128, 8192, 8192]⟩
abbrev S4x32 : Shape := ⟨2, ![4, 32]⟩

abbrev nBuf : Space → Nat
  | .hbm => 31
  | .vmem => 10
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .bf16⟩
  | .hbm, ⟨2, _⟩ => ⟨S4x8192x2048, .bf16⟩
  | .hbm, ⟨3, _⟩ => ⟨S4x8192x32x64, .bf16⟩
  | .hbm, ⟨4, _⟩ => ⟨S4x32x8192x64, .bf16⟩
  | .hbm, ⟨5, _⟩ => ⟨S128x8192x64, .bf16⟩
  | .hbm, ⟨6, _⟩ => ⟨S4x8192x32x64, .bf16⟩
  | .hbm, ⟨7, _⟩ => ⟨S4x32x8192x64, .bf16⟩
  | .hbm, ⟨8, _⟩ => ⟨S128x8192x64, .bf16⟩
  | .hbm, ⟨9, _⟩ => ⟨S4x8192x32x64, .bf16⟩
  | .hbm, ⟨10, _⟩ => ⟨S4x32x8192x64, .bf16⟩
  | .hbm, ⟨11, _⟩ => ⟨S128x8192x64, .bf16⟩
  | .hbm, ⟨12, _⟩ => ⟨S128x8192x64, .bf16⟩
  | .hbm, ⟨13, _⟩ => ⟨S128x8192x64, .fp8e4m3⟩
  | .hbm, ⟨14, _⟩ => ⟨S128x1x1, .f32⟩
  | .hbm, ⟨15, _⟩ => ⟨S128x8192x64, .fp8e4m3⟩
  | .hbm, ⟨16, _⟩ => ⟨S128x1x1, .f32⟩
  | .hbm, ⟨17, _⟩ => ⟨S128x8192x64, .fp8e4m3⟩
  | .hbm, ⟨18, _⟩ => ⟨S128x1x1, .f32⟩
  | .hbm, ⟨19, _⟩ => ⟨S4x32x8192x64, .bf16⟩
  | .hbm, ⟨20, _⟩ => ⟨S4x8192x32x64, .bf16⟩
  | .hbm, ⟨21, _⟩ => ⟨S4x8192x2048, .bf16⟩
  | .hbm, ⟨22, _⟩ => ⟨S4x32x8192x64, .fp8e4m3⟩
  | .hbm, ⟨23, _⟩ => ⟨S4x8192x32x64, .fp8e4m3⟩
  | .hbm, ⟨24, _⟩ => ⟨S4x32, .f32⟩
  | .hbm, ⟨25, _⟩ => ⟨S4x32x8192x64, .fp8e4m3⟩
  | .hbm, ⟨26, _⟩ => ⟨S4x8192x32x64, .fp8e4m3⟩
  | .hbm, ⟨27, _⟩ => ⟨S4x32, .f32⟩
  | .hbm, ⟨28, _⟩ => ⟨S4x32x8192x64, .fp8e4m3⟩
  | .hbm, ⟨29, _⟩ => ⟨S4x8192x32x64, .fp8e4m3⟩
  | .hbm, ⟨30, _⟩ => ⟨S4x32, .f32⟩
  | .local _ .vmem, ⟨0, _⟩ => ⟨S128x8192x64, .bf16⟩
  | .local _ .vmem, ⟨1, _⟩ => ⟨S128x8192x64, .bf16⟩
  | .local _ .vmem, ⟨2, _⟩ => ⟨S128x8192x64, .bf16⟩
  | .local _ .vmem, ⟨3, _⟩ => ⟨S128x8192x64, .bf16⟩
  | .local _ .vmem, ⟨4, _⟩ => ⟨S128x8192x64, .fp8e4m3⟩
  | .local _ .vmem, ⟨5, _⟩ => ⟨S128x1x1, .f32⟩
  | .local _ .vmem, ⟨6, _⟩ => ⟨S128x8192x64, .fp8e4m3⟩
  | .local _ .vmem, ⟨7, _⟩ => ⟨S128x1x1, .f32⟩
  | .local _ .vmem, ⟨8, _⟩ => ⟨S128x8192x64, .fp8e4m3⟩
  | .local _ .vmem, ⟨9, _⟩ => ⟨S128x1x1, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v9_5 : Ref sig .tc := ⟨.hbm, 17, rfl⟩
abbrev main_v9_6 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S128x8192x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x8192x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x8192x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelPair.lean ====
/-
  Two query blocks of the kernel `Kernel` (one trip of its loop over pairs of query blocks), run for its memory
  safety alone: whatever the buffers hold, the trip terminates and only changes the buffers the loop writes.
-/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Between two trips of the loop over pairs of query blocks: the buffers the loop reads hold what they held at
    its entry, those it writes hold something. -/
abbrev pairInv (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X_arg6 : BufTy.Contents (Elt F) arg6.view.ty) (X_arg8 : BufTy.Contents (Elt F) arg8.view.ty) (X_arg12 : BufTy.Contents (Elt F) arg12.view.ty) (X_arg15 : BufTy.Contents (Elt F) arg15.view.ty) : sProp 𝕄 :=
  iprop((arg6.view.loc (c : Thread nD τ) ↦[arg6.view.set]{fullShare} X_arg6) ∗ (arg8.view.loc (c : Thread nD τ) ↦[arg8.view.set]{fullShare} X_arg8) ∗ (arg12.view.loc (c : Thread nD τ) ↦[arg12.view.set]{fullShare} X_arg12) ∗ (arg15.view.loc (c : Thread nD τ) ↦[arg15.view.set]{fullShare} X_arg15) ∗ (∃ f, (arg5.view.loc (c : Thread nD τ) ↦[arg5.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))

set_option maxHeartbeats 2000000 in
/-- One trip preserves it. -/
theorem pair_step (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X_arg6 : BufTy.Contents (Elt F) arg6.view.ty) (X_arg8 : BufTy.Contents (Elt F) arg8.view.ty) (X_arg12 : BufTy.Contents (Elt F) arg12.view.ty) (X_arg15 : BufTy.Contents (Elt F) arg15.view.ty) (k : Fin k0_t7_loop.trips) (acc : Unit) :
    pairInv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg6 X_arg8 X_arg12 X_arg15 ⊢ wp frame (wpE (defs₀ (F := F)) Variants.none (c : Thread nD τ) none) Set.univ
      (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc) (fun _ => pairInv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg6 X_arg8 X_arg12 X_arg15) := by
  unfold k0_t7_body pairInv
  iintro ⟨H6, H8, H12, H15, ⟨%f5, H5⟩, ⟨%f13, H13⟩, ⟨%f14, H14⟩, ⟨%f16, H16⟩, ⟨%f17, H17⟩, ⟨%f18, H18⟩, ⟨%f19, H19⟩⟩
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  sl_exec
  sl_step
  isplitl [H6]; · iexact H6
  isplitl [H8]; · iexact H8
  isplitl [H12]; · iexact H12
  isplitl [H15]; · iexact H15
  isplitl [H5]; · iexists _; iexact H5
  isplitl [H13]; · iexists _; iexact H13
  isplitl [H14]; · iexists _; iexact H14
  isplitl [H16]; · iexists _; iexact H16
  isplitl [H17]; · iexists _; iexact H17
  isplitl [H18]; · iexists _; iexact H18
  iexists _; iexact H19

set_option warn.classDefReducibility false in
/-- The loop over pairs of query blocks, by that invariant. -/
@[sl_loop] def pairLoop (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X_arg6 : BufTy.Contents (Elt F) arg6.view.ty) (X_arg8 : BufTy.Contents (Elt F) arg8.view.ty) (X_arg12 : BufTy.Contents (Elt F) arg12.view.ty) (X_arg15 : BufTy.Contents (Elt F) arg15.view.ty) :
    LoopInvTy_k0_t7 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 where
  inv _ _ := pairInv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg6 X_arg8 X_arg12 X_arg15
  step k acc := pair_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg6 X_arg8 X_arg12 X_arg15 k acc

end Cert.Kernel.Hand

end
-- ==== Proof.KernelRun.lean ====
/-
  The kernel `Kernel` as a whole, run for its memory safety: one call of its body from any contents of its buffers
  terminates, leaves its inputs as they were and every other buffer at some contents; hence @main runs to the end
  without a fault and leaves its three arguments unchanged.
-/
module

public import proofs.«01_k».proof.Proof.Gen.Kernel.Frame
public import proofs.«01_k».proof.Proof.Gen.Kernel.Skeleton
public import proofs.«01_k».proof.Proof.Gen.Kernel.Loops
public import proofs.«01_k».proof.Proof.KernelPair
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple: the three inputs are read, every other buffer is at some contents before and after. -/
theorem sound_kernel (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole)
    (x2 x3 x4 : Vec F S1x8192x128 .bf16) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_fp8_causal_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fp8_causal_attention_eq_skeleton]; unfold cc0_fp8_causal_attention_skel
  simp only [k0_part13_eq_skeleton, k0_part14_eq_skeleton, k0_part15_eq_skeleton, k0_part16_eq_skeleton, k0_part17_eq_skeleton, k0_part18_eq_skeleton, k0_part19_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

variable (m : (ℓ : Loc nD τ sig) → Buf (Elt F) ℓ) (ρ : Dev nD → PrngReg)

/-- The three staged inputs are named; the seven outputs are forgotten. -/
def forgets0 : Fin 10 → Bool := fun w => decide (3 ≤ w.val)

/-- The proof data: each array as the region finds it, each input's block left in place, nothing said of the outputs. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
    | 4 => Pipeline.Dat.unnamed (cfg := cfg0) 4 t
    | 5 => Pipeline.Dat.unnamed (cfg := cfg0) 5 t
    | 6 => Pipeline.Dat.unnamed (cfg := cfg0) 6 t
    | 7 => Pipeline.Dat.unnamed (cfg := cfg0) 7 t
    | 8 => Pipeline.Dat.unnamed (cfg := cfg0) 8 t
    | 9 => Pipeline.Dat.unnamed (cfg := cfg0) 9 t
  Φ _ := Pipeline.ΦA spec0 c
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d

/-- What the body is called with at a point, and what it returns. -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d))

/-- The invariant between points: the scratch buffers at some contents, the generator register at some state. -/
theorem Phi_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  rw [show (dats m 0 c).after 0 t = iblk m c 0 t from rfl, show (dats m 0 c).after 1 t = iblk m c 1 t from rfl,
    show (dats m 0 c).after 2 t = iblk m c 2 t from rfl]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c _ _ _ _ _ _ _ _ _ _ _ _ _ _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, S0, S1, S2, S3, S4, S5, S6, S7⟩
  isplitl [Hg S0 S1 S2 S3 S4 S5 S6 S7]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's obligation on the body, the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-- The buffers the host lines after the call write. -/
def tailWrites : Finset (Ref sig .tc) :=
  {main_v1, main_v2, main_v3, main_v4, main_v5, main_v6, main_v7, main_v8, main_v9, main_v10, main_v11, main_v12, main_v13, main_v14, main_v15}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  by_contra hn
  simp only [tailWrites, Finset.mem_insert, Finset.mem_singleton, not_or] at hn
  simp only [hostOps1, List.mem_cons, List.mem_nil_iff, or_false] at hop
  rcases hop with rfl | rfl | rfl | rfl | rfl | rfl | rfl | rfl | rfl | rfl | rfl | rfl | rfl | rfl | rfl
  all_goals
    simp only [StableHlo.nullary_writes, StableHlo.unary_writes, StableHlo.binary_writes, StableHlo.ternary_writes, StableHlo.quaternary_writes, StableHlo.reshape_writes, StableHlo.binaryIndexed_writes, Finset.mem_singleton] at hb
    exact StableHlo.devRef_ne_of_ne (by tauto) hb

set_option backward.isDefEq.respectTransparency.types false in
/-- Every weakly fair execution of @main terminates without a fault with every semaphore at zero and the arrays the call
    only reads at their launch contents. -/
theorem run_main :
    θ_run defs (onTc (τ := τ) (main (F := F))) (s₀ m ρ)
      (fun r => Pipeline.RDat.FramePostR (cfgs 0) (fun c => (dats m 0 c).toRForget forgets0) tailWrites (V m) r ∧ r.2.sem = fun _ => 0) :=
  Pipeline.θ_run_frame_around_T_forget (Q' := _) cfgs (dats m) (0 : Fin 1) launch0 defs₀ Variants.none forgets0 tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim: no fault, termination, the three arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c =>
    ⟨(h.1.arr_in c 0 rfl).trans ((A_eq m c 0).trans (V_main_arg0 m c)),
     (h.1.arr_in c 1 rfl).trans ((A_eq m c 1).trans (V_main_arg1 m c)),
     (h.1.arr_in c 2 rfl).trans ((A_eq m c 2).trans (V_main_arg2 m c))⟩, h.2⟩) (run_main m ρ)

end Cert.Kernel.Hand

end
-- ==== Proof.KernelIdealPair.lean ====
/-
  Two query blocks of the kernel `KernelIdeal` (one trip of its loop over pairs of query blocks), run for its memory
  safety alone: whatever the buffers hold, the trip terminates and only changes the buffers the loop writes.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Between two trips of the loop over pairs of query blocks: the buffers the loop reads hold what they held at
    its entry, those it writes hold something. -/
abbrev pairInv (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X_arg6 : BufTy.Contents (Elt F) arg6.view.ty) (X_arg8 : BufTy.Contents (Elt F) arg8.view.ty) (X_arg12 : BufTy.Contents (Elt F) arg12.view.ty) (X_arg15 : BufTy.Contents (Elt F) arg15.view.ty) : sProp 𝕄 :=
  iprop((arg6.view.loc (c : Thread nD τ) ↦[arg6.view.set]{fullShare} X_arg6) ∗ (arg8.view.loc (c : Thread nD τ) ↦[arg8.view.set]{fullShare} X_arg8) ∗ (arg12.view.loc (c : Thread nD τ) ↦[arg12.view.set]{fullShare} X_arg12) ∗ (arg15.view.loc (c : Thread nD τ) ↦[arg15.view.set]{fullShare} X_arg15) ∗ (∃ f, (arg5.view.loc (c : Thread nD τ) ↦[arg5.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))

set_option maxHeartbeats 2000000 in
/-- One trip preserves it. -/
theorem pair_step (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X_arg6 : BufTy.Contents (Elt F) arg6.view.ty) (X_arg8 : BufTy.Contents (Elt F) arg8.view.ty) (X_arg12 : BufTy.Contents (Elt F) arg12.view.ty) (X_arg15 : BufTy.Contents (Elt F) arg15.view.ty) (k : Fin k0_t7_loop.trips) (acc : Unit) :
    pairInv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg6 X_arg8 X_arg12 X_arg15 ⊢ wp frame (wpE (defs₀ (F := F)) Variants.none (c : Thread nD τ) none) Set.univ
      (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc) (fun _ => pairInv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg6 X_arg8 X_arg12 X_arg15) := by
  unfold k0_t7_body pairInv
  iintro ⟨H6, H8, H12, H15, ⟨%f5, H5⟩, ⟨%f13, H13⟩, ⟨%f14, H14⟩, ⟨%f16, H16⟩, ⟨%f17, H17⟩, ⟨%f18, H18⟩, ⟨%f19, H19⟩⟩
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  sl_exec
  sl_step
  isplitl [H6]; · iexact H6
  isplitl [H8]; · iexact H8
  isplitl [H12]; · iexact H12
  isplitl [H15]; · iexact H15
  isplitl [H5]; · iexists _; iexact H5
  isplitl [H13]; · iexists _; iexact H13
  isplitl [H14]; · iexists _; iexact H14
  isplitl [H16]; · iexists _; iexact H16
  isplitl [H17]; · iexists _; iexact H17
  isplitl [H18]; · iexists _; iexact H18
  iexists _; iexact H19

set_option warn.classDefReducibility false in
/-- The loop over pairs of query blocks, by that invariant. -/
@[sl_loop] def pairLoop (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X_arg6 : BufTy.Contents (Elt F) arg6.view.ty) (X_arg8 : BufTy.Contents (Elt F) arg8.view.ty) (X_arg12 : BufTy.Contents (Elt F) arg12.view.ty) (X_arg15 : BufTy.Contents (Elt F) arg15.view.ty) :
    LoopInvTy_k0_t7 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 where
  inv _ _ := pairInv (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg6 X_arg8 X_arg12 X_arg15
  step k acc := pair_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg6 X_arg8 X_arg12 X_arg15 k acc

end Cert.KernelIdeal.Hand

end
-- ==== Proof.KernelIdealRun.lean ====
/-
  The kernel `KernelIdeal` as a whole, run for its memory safety: one call of its body from any contents of its buffers
  terminates, leaves its inputs as they were and every other buffer at some contents; hence @main runs to the end
  without a fault and leaves its three arguments unchanged.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealPair
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body's triple: the three inputs are read, every other buffer is at some contents before and after. -/
theorem sound_kernel (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole)
    (x2 x3 x4 : Vec F S1x8192x128 .bf16) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_fp8_causal_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fp8_causal_attention_eq_skeleton]; unfold cc0_fp8_causal_attention_skel
  simp only [k0_part13_eq_skeleton, k0_part14_eq_skeleton, k0_part15_eq_skeleton, k0_part16_eq_skeleton, k0_part17_eq_skeleton, k0_part18_eq_skeleton, k0_part19_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

variable (m : (ℓ : Loc nD τ sig) → Buf (Elt F) ℓ) (ρ : Dev nD → PrngReg)

/-- The three staged inputs are named; the seven outputs are forgotten. -/
def forgets0 : Fin 10 → Bool := fun w => decide (3 ≤ w.val)

/-- The proof data: each array as the region finds it, each input's block left in place, nothing said of the outputs. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
    | 4 => Pipeline.Dat.unnamed (cfg := cfg0) 4 t
    | 5 => Pipeline.Dat.unnamed (cfg := cfg0) 5 t
    | 6 => Pipeline.Dat.unnamed (cfg := cfg0) 6 t
    | 7 => Pipeline.Dat.unnamed (cfg := cfg0) 7 t
    | 8 => Pipeline.Dat.unnamed (cfg := cfg0) 8 t
    | 9 => Pipeline.Dat.unnamed (cfg := cfg0) 9 t
  Φ _ := Pipeline.ΦA spec0 c
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d

/-- What the body is called with at a point, and what it returns. -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d))

/-- The invariant between points: the scratch buffers at some contents, the generator register at some state. -/
theorem Phi_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  rw [show (dats m 0 c).after 0 t = iblk m c 0 t from rfl, show (dats m 0 c).after 1 t = iblk m c 1 t from rfl,
    show (dats m 0 c).after 2 t = iblk m c 2 t from rfl]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c _ _ _ _ _ _ _ _ _ _ _ _ _ _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, S0, S1, S2, S3, S4, S5, S6, S7⟩
  isplitl [Hg S0 S1 S2 S3 S4 S5 S6 S7]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's obligation on the body, the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-- The buffers the host lines after the call write. -/
def tailWrites : Finset (Ref sig .tc) :=
  {main_v1, main_v2, main_v3, main_v4, main_v5, main_v6, main_v7, main_v8, main_v9, main_v10, main_v11, main_v12, main_v13, main_v14, main_v15}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  by_contra hn
  simp only [tailWrites, Finset.mem_insert, Finset.mem_singleton, not_or] at hn
  simp only [hostOps1, List.mem_cons, List.mem_nil_iff, or_false] at hop
  rcases hop with rfl | rfl | rfl | rfl | rfl | rfl | rfl | rfl | rfl | rfl | rfl | rfl | rfl | rfl | rfl
  all_goals
    simp only [StableHlo.nullary_writes, StableHlo.unary_writes, StableHlo.binary_writes, StableHlo.ternary_writes, StableHlo.quaternary_writes, StableHlo.reshape_writes, StableHlo.binaryIndexed_writes, Finset.mem_singleton] at hb
    exact StableHlo.devRef_ne_of_ne (by tauto) hb

set_option backward.isDefEq.respectTransparency.types false in
/-- Every weakly fair execution of @main terminates without a fault with every semaphore at zero and the arrays the call
    only reads at their launch contents. -/
theorem run_main :
    θ_run defs (onTc (τ := τ) (main (F := F))) (s₀ m ρ)
      (fun r => Pipeline.RDat.FramePostR (cfgs 0) (fun c => (dats m 0 c).toRForget forgets0) tailWrites (V m) r ∧ r.2.sem = fun _ => 0) :=
  Pipeline.θ_run_frame_around_T_forget (Q' := _) cfgs (dats m) (0 : Fin 1) launch0 defs₀ Variants.none forgets0 tailWrites m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim: no fault, termination, the three arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c =>
    ⟨(h.1.arr_in c 0 rfl).trans ((A_eq m c 0).trans (V_main_arg0 m c)),
     (h.1.arr_in c 1 rfl).trans ((A_eq m c 1).trans (V_main_arg1 m c)),
     (h.1.arr_in c 2 rfl).trans ((A_eq m c 2).trans (V_main_arg2 m c))⟩, h.2⟩) (run_main m ρ)

end Cert.KernelIdeal.Hand

end
-- ==== Proof.Windows.lean ====
/-
  Reading a buffer through a window, and after a window of it was stored, coordinate by coordinate; and the rows or
  columns at which each load and store of the attention part starts.
-/
module

public import proofs.«01_k».proof.Proof.Gen.KernelIdeal.Skeleton
public import Idealize.ShloMosaic.Lib.Pointwise
public import Idealize.ShloMosaic.Lib.VecWindow

@[expose] public section

noncomputable section

namespace Cert.KernelIdeal.Hand

open Cert.KernelIdeal Cert.KernelIdeal.Gen
open Idealize.ShloMosaic

section
variable {sig : RefSig} {κ : Kind} {sp : Space} {e : EltTy} {Val : EltTy → Type}

theorem rd2 {a b a' b' : ℕ} (v : View sig κ sp ⟨2, ![a, b]⟩ e) (f : v.ty.Contents Val) {off : Fin 2 → ℕ}
    (inb : ∀ x, off x + (![a', b'] : Fin 2 → ℕ) x ≤ (⟨2, ![a, b]⟩ : Shape).size x) {o0 o1 : ℕ} (h : off = ![o0, o1])
    (i : Fin a') (j : Fin b') (i' : Fin a) (j' : Fin b) (hi : i'.val = o0 + i.val) (hj : j'.val = o1 + j.val) :
    v.readAt Val (Rect.unit (s := ⟨2, ![a, b]⟩) off ![a', b'] inb).toLoadRect f (ix2 i j) = v.read Val f (ix2 i' j') := by
  subst h
  refine congrArg (v.read Val f) (funext fun x => Fin.ext ?_)
  match x with
  | ⟨0, _⟩ => show o0 + 1 * i.val = i'.val; omega
  | ⟨1, _⟩ => show o1 + 1 * j.val = j'.val; omega

theorem rd3 {a b c a' b' c' : ℕ} (v : View sig κ sp ⟨3, ![a, b, c]⟩ e) (f : v.ty.Contents Val) {off : Fin 3 → ℕ}
    (inb : ∀ x, off x + (![a', b', c'] : Fin 3 → ℕ) x ≤ (⟨3, ![a, b, c]⟩ : Shape).size x) {o0 o1 o2 : ℕ} (h : off = ![o0, o1, o2])
    (i : Fin a') (j : Fin b') (k : Fin c') (i' : Fin a) (j' : Fin b) (k' : Fin c)
    (hi : i'.val = o0 + i.val) (hj : j'.val = o1 + j.val) (hk : k'.val = o2 + k.val) :
    v.readAt Val (Rect.unit (s := ⟨3, ![a, b, c]⟩) off ![a', b', c'] inb).toLoadRect f (ix3 i j k) = v.read Val f (ix3 i' j' k') := by
  subst h
  refine congrArg (v.read Val f) (funext fun x => Fin.ext ?_)
  match x with
  | ⟨0, _⟩ => show o0 + 1 * i.val = i'.val; omega
  | ⟨1, _⟩ => show o1 + 1 * j.val = j'.val; omega
  | ⟨2, _⟩ => show o2 + 1 * k.val = k'.val; omega

theorem wr2 {a b a' b' : ℕ} (v : View sig κ sp ⟨2, ![a, b]⟩ e) (f : v.ty.Contents Val) {off : Fin 2 → ℕ}
    (inb : ∀ x, off x + (![a', b'] : Fin 2 → ℕ) x ≤ (⟨2, ![a, b]⟩ : Shape).size x) {o0 o1 : ℕ} (h : off = ![o0, o1])
    (w : (Rect.unit (s := ⟨2, ![a, b]⟩) off ![a', b'] inb).shape.Idx → Val e) (L : List (View.Piece Val ⟨2, ![a, b]⟩ e))
    (i : Fin a) (j : Fin b) :
    v.read Val (v.writes Val f (⟨Rect.unit (s := ⟨2, ![a, b]⟩) off ![a', b'] inb, w⟩ :: L)) (ix2 i j)
      = if h : (o0 ≤ i.val ∧ i.val < o0 + a') ∧ (o1 ≤ j.val ∧ j.val < o1 + b') then
          w (ix2 (n0 := a') (n1 := b') ⟨i.val - o0, by omega⟩ ⟨j.val - o1, by omega⟩)
        else v.read Val (v.writes Val f L) (ix2 i j) := by
  subst h
  rw [View.read_writes_cons_unit v _ inb w L (ix2 i j) rfl]
  by_cases hc : (o0 ≤ i.val ∧ i.val < o0 + a') ∧ (o1 ≤ j.val ∧ j.val < o1 + b')
  · rw [dif_pos hc]
    have hx : ∀ x : Fin 2, (![o0, o1] : Fin 2 → ℕ) x ≤ ((ix2 i j : (⟨2, ![a, b]⟩ : Shape).Idx) x).val
        ∧ ((ix2 i j : (⟨2, ![a, b]⟩ : Shape).Idx) x).val < (![o0, o1] : Fin 2 → ℕ) x + (![a', b'] : Fin 2 → ℕ) x := by
      intro x
      match x with
      | ⟨0, _⟩ => exact hc.1
      | ⟨1, _⟩ => exact hc.2
    rw [dif_pos hx]
    refine congrArg w (funext fun x => ?_)
    match x with
    | ⟨0, _⟩ => rfl
    | ⟨1, _⟩ => rfl
  · rw [dif_neg hc, dif_neg]
    intro hx
    exact hc ⟨hx (0 : Fin 2), hx (1 : Fin 2)⟩

theorem wr3 {a b c a' b' c' : ℕ} (v : View sig κ sp ⟨3, ![a, b, c]⟩ e) (f : v.ty.Contents Val) {off : Fin 3 → ℕ}
    (inb : ∀ x, off x + (![a', b', c'] : Fin 3 → ℕ) x ≤ (⟨3, ![a, b, c]⟩ : Shape).size x) {o0 o1 o2 : ℕ} (h : off = ![o0, o1, o2])
    (w : (Rect.unit (s := ⟨3, ![a, b, c]⟩) off ![a', b', c'] inb).shape.Idx → Val e) (L : List (View.Piece Val ⟨3, ![a, b, c]⟩ e))
    (i : Fin a) (j : Fin b) (k : Fin c) :
    v.read Val (v.writes Val f (⟨Rect.unit (s := ⟨3, ![a, b, c]⟩) off ![a', b', c'] inb, w⟩ :: L)) (ix3 i j k)
      = if h : (o0 ≤ i.val ∧ i.val < o0 + a') ∧ (o1 ≤ j.val ∧ j.val < o1 + b') ∧ (o2 ≤ k.val ∧ k.val < o2 + c') then
          w (ix3 (n0 := a') (n1 := b') (n2 := c') ⟨i.val - o0, by omega⟩ ⟨j.val - o1, by omega⟩ ⟨k.val - o2, by omega⟩)
        else v.read Val (v.writes Val f L) (ix3 i j k) := by
  subst h
  rw [View.read_writes_cons_unit v _ inb w L (ix3 i j k) rfl]
  by_cases hc : (o0 ≤ i.val ∧ i.val < o0 + a') ∧ (o1 ≤ j.val ∧ j.val < o1 + b') ∧ (o2 ≤ k.val ∧ k.val < o2 + c')
  · rw [dif_pos hc]
    have hx : ∀ x : Fin 3, (![o0, o1, o2] : Fin 3 → ℕ) x ≤ ((ix3 i j k : (⟨3, ![a, b, c]⟩ : Shape).Idx) x).val
        ∧ ((ix3 i j k : (⟨3, ![a, b, c]⟩ : Shape).Idx) x).val < (![o0, o1, o2] : Fin 3 → ℕ) x + (![a', b', c'] : Fin 3 → ℕ) x := by
      intro x
      match x with
      | ⟨0, _⟩ => exact hc.1
      | ⟨1, _⟩ => exact hc.2.1
      | ⟨2, _⟩ => exact hc.2.2
    rw [dif_pos hx]
    refine congrArg w (funext fun x => ?_)
    match x with
    | ⟨0, _⟩ => rfl
    | ⟨1, _⟩ => rfl
    | ⟨2, _⟩ => rfl
  · rw [dif_neg hc, dif_neg]
    intro hx
    exact hc ⟨hx (0 : Fin 3), hx (1 : Fin 3), hx (2 : Fin 3)⟩

theorem wr2_in {a b a' b' : ℕ} (v : View sig κ sp ⟨2, ![a, b]⟩ e) (f : v.ty.Contents Val) {off : Fin 2 → ℕ}
    (inb : ∀ x, off x + (![a', b'] : Fin 2 → ℕ) x ≤ (⟨2, ![a, b]⟩ : Shape).size x) {o0 o1 : ℕ} (h : off = ![o0, o1])
    (w : (Rect.unit (s := ⟨2, ![a, b]⟩) off ![a', b'] inb).shape.Idx → Val e) (L : List (View.Piece Val ⟨2, ![a, b]⟩ e))
    (i : Fin a) (j : Fin b) (i' : Fin a') (j' : Fin b') (hi : i.val = o0 + i'.val) (hj : j.val = o1 + j'.val) :
    v.read Val (v.writes Val f (⟨Rect.unit (s := ⟨2, ![a, b]⟩) off ![a', b'] inb, w⟩ :: L)) (ix2 i j) = w (ix2 (n0 := a') (n1 := b') i' j') := by
  rw [wr2 v f inb h w L i j, dif_pos ⟨⟨by omega, by omega⟩, ⟨by omega, by omega⟩⟩]
  exact congrArg w (congrArg₂ (ix2 (n0 := a') (n1 := b')) (Fin.ext (by show i.val - o0 = i'.val; omega)) (Fin.ext (by show j.val - o1 = j'.val; omega)))

theorem wr2_out {a b a' b' : ℕ} (v : View sig κ sp ⟨2, ![a, b]⟩ e) (f : v.ty.Contents Val) {off : Fin 2 → ℕ}
    (inb : ∀ x, off x + (![a', b'] : Fin 2 → ℕ) x ≤ (⟨2, ![a, b]⟩ : Shape).size x) {o0 o1 : ℕ} (h : off = ![o0, o1])
    (w : (Rect.unit (s := ⟨2, ![a, b]⟩) off ![a', b'] inb).shape.Idx → Val e) (L : List (View.Piece Val ⟨2, ![a, b]⟩ e))
    (i : Fin a) (j : Fin b) (hn : ¬ ((o0 ≤ i.val ∧ i.val < o0 + a') ∧ (o1 ≤ j.val ∧ j.val < o1 + b'))) :
    v.read Val (v.writes Val f (⟨Rect.unit (s := ⟨2, ![a, b]⟩) off ![a', b'] inb, w⟩ :: L)) (ix2 i j) = v.read Val (v.writes Val f L) (ix2 i j) := by
  rw [wr2 v f inb h w L i j, dif_neg hn]

theorem wr3_in {a b c a' b' c' : ℕ} (v : View sig κ sp ⟨3, ![a, b, c]⟩ e) (f : v.ty.Contents Val) {off : Fin 3 → ℕ}
    (inb : ∀ x, off x + (![a', b', c'] : Fin 3 → ℕ) x ≤ (⟨3, ![a, b, c]⟩ : Shape).size x) {o0 o1 o2 : ℕ} (h : off = ![o0, o1, o2])
    (w : (Rect.unit (s := ⟨3, ![a, b, c]⟩) off ![a', b', c'] inb).shape.Idx → Val e) (L : List (View.Piece Val ⟨3, ![a, b, c]⟩ e))
    (i : Fin a) (j : Fin b) (k : Fin c) (i' : Fin a') (j' : Fin b') (k' : Fin c')
    (hi : i.val = o0 + i'.val) (hj : j.val = o1 + j'.val) (hk : k.val = o2 + k'.val) :
    v.read Val (v.writes Val f (⟨Rect.unit (s := ⟨3, ![a, b, c]⟩) off ![a', b', c'] inb, w⟩ :: L)) (ix3 i j k) = w (ix3 (n0 := a') (n1 := b') (n2 := c') i' j' k') := by
  rw [wr3 v f inb h w L i j k, dif_pos ⟨⟨by omega, by omega⟩, ⟨by omega, by omega⟩, ⟨by omega, by omega⟩⟩]
  have e0 : (⟨i.val - o0, by omega⟩ : Fin a') = i' := Fin.ext (by show i.val - o0 = i'.val; omega)
  have e1 : (⟨j.val - o1, by omega⟩ : Fin b') = j' := Fin.ext (by show j.val - o1 = j'.val; omega)
  have e2 : (⟨k.val - o2, by omega⟩ : Fin c') = k' := Fin.ext (by show k.val - o2 = k'.val; omega)
  rw [e0, e1, e2]

theorem wr3_out {a b c a' b' c' : ℕ} (v : View sig κ sp ⟨3, ![a, b, c]⟩ e) (f : v.ty.Contents Val) {off : Fin 3 → ℕ}
    (inb : ∀ x, off x + (![a', b', c'] : Fin 3 → ℕ) x ≤ (⟨3, ![a, b, c]⟩ : Shape).size x) {o0 o1 o2 : ℕ} (h : off = ![o0, o1, o2])
    (w : (Rect.unit (s := ⟨3, ![a, b, c]⟩) off ![a', b', c'] inb).shape.Idx → Val e) (L : List (View.Piece Val ⟨3, ![a, b, c]⟩ e))
    (i : Fin a) (j : Fin b) (k : Fin c)
    (hn : ¬ ((o0 ≤ i.val ∧ i.val < o0 + a') ∧ (o1 ≤ j.val ∧ j.val < o1 + b') ∧ (o2 ≤ k.val ∧ k.val < o2 + c'))) :
    v.read Val (v.writes Val f (⟨Rect.unit (s := ⟨3, ![a, b, c]⟩) off ![a', b', c'] inb, w⟩ :: L)) (ix3 i j k) = v.read Val (v.writes Val f L) (ix3 i j k) := by
  rw [wr3 v f inb h w L i j k, dif_neg hn]

end

theorem off11_at : ∀ k : Fin k0_t7_loop.trips, k0_off11 k = ![0, 0, 256 * (2 * k.val + 1)] := by decide +kernel
theorem off12_at : ∀ k : Fin k0_t7_loop.trips, k0_off12 k = ![0, 64, 256 * (2 * k.val + 1)] := by decide +kernel
theorem off23_at : ∀ k : Fin k0_t7_loop.trips, k0_off23 k = ![0, 512 * k.val, 0] := by decide +kernel
theorem off24_at : ∀ k : Fin k0_t7_loop.trips, k0_off24 k = ![0, 0, 512 * k.val] := by decide +kernel
theorem off25_at : ∀ k : Fin k0_t7_loop.trips, k0_off25 k = ![0, 64, 512 * k.val] := by decide +kernel
theorem off26_at : ∀ k : Fin k0_t7_loop.trips, k0_off26 k = ![512 * k.val, 0] := by decide +kernel
theorem off27_at : ∀ k : Fin k0_t7_loop.trips, k0_off27 k = ![1, 512 * k.val, 0] := by decide +kernel
theorem off28_at : ∀ k : Fin k0_t7_loop.trips, k0_off28 k = ![512 * k.val + 256, 0] := by decide +kernel
theorem off29_at : ∀ k : Fin k0_t7_loop.trips, k0_off29 k = ![1, 512 * k.val + 256, 0] := by decide +kernel
theorem off30_at : ∀ k : Fin k0_t7_loop.trips, k0_off30 k = ![0, 512 * k.val, 0] := by decide +kernel
theorem off31_at : ∀ k : Fin k0_t7_loop.trips, k0_off31 k = ![0, 0, 256 * min (2 * k.val + 2) 31] := by decide +kernel
theorem off32_at : ∀ k : Fin k0_t7_loop.trips, k0_off32 k = ![0, 64, 256 * min (2 * k.val + 2) 31] := by decide +kernel
theorem off43_at : ∀ k : Fin k0_t7_loop.trips, k0_off43 k = ![256 * min (2 * k.val + 2) 31, 0] := by decide +kernel
theorem off44_at : ∀ k : Fin k0_t7_loop.trips, k0_off44 k = ![0, 256 * min (2 * k.val + 2) 31, 0] := by decide +kernel
theorem off45_at : ∀ k : Fin k0_t7_loop.trips, k0_off45 k = ![0, 512 * k.val + 256, 0] := by decide +kernel
theorem off13_at : ∀ (k : Fin k0_t7_loop.trips) (j : Fin (k0_t8_loop k).trips), k0_off13 k j = ![0, 512 * j.val, 0] := by decide +kernel
theorem off14_at : ∀ (k : Fin k0_t7_loop.trips) (j : Fin (k0_t8_loop k).trips), k0_off14 k j = ![0, 0, 512 * j.val] := by decide +kernel
theorem off15_at : ∀ (k : Fin k0_t7_loop.trips) (j : Fin (k0_t8_loop k).trips), k0_off15 k j = ![0, 64, 512 * j.val] := by decide +kernel
theorem off16_at : ∀ (k : Fin k0_t7_loop.trips) (j : Fin (k0_t8_loop k).trips), k0_off16 k j = ![512 * j.val, 0] := by decide +kernel
theorem off17_at : ∀ (k : Fin k0_t7_loop.trips) (j : Fin (k0_t8_loop k).trips), k0_off17 k j = ![1, 512 * j.val, 0] := by decide +kernel
theorem off33_at : ∀ (k : Fin k0_t7_loop.trips) (j : Fin (k0_t10_loop k).trips), k0_off33 k j = ![1, 512 * j.val, 0] := by decide +kernel
theorem off34_at : ∀ (k : Fin k0_t7_loop.trips) (j : Fin (k0_t10_loop k).trips), k0_off34 k j = ![0, 0, 512 * j.val] := by decide +kernel
theorem off35_at : ∀ (k : Fin k0_t7_loop.trips) (j : Fin (k0_t10_loop k).trips), k0_off35 k j = ![0, 64, 512 * j.val] := by decide +kernel
theorem off36_at : ∀ (k : Fin k0_t7_loop.trips) (j : Fin (k0_t10_loop k).trips), k0_off36 k j = ![512 * j.val, 0] := by decide +kernel
theorem off37_at : ∀ (k : Fin k0_t7_loop.trips) (j : Fin (k0_t10_loop k).trips), k0_off37 k j = ![0, 512 * j.val, 0] := by decide +kernel
theorem trips7 : k0_t7_loop.trips = 16 := by decide +kernel
theorem trips8 : ∀ k : Fin k0_t7_loop.trips, (k0_t8_loop k).trips = k.val := by decide +kernel
theorem trips10 : ∀ k : Fin k0_t7_loop.trips, (k0_t10_loop k).trips = k.val + 1 := by decide +kernel
theorem trips9 : ∀ k : Fin k0_t7_loop.trips, (k0_t9_loop k).trips = 0 := by decide +kernel
theorem trips11 : ∀ k : Fin k0_t7_loop.trips, (k0_t11_loop k).trips = 0 := by decide +kernel

end Cert.KernelIdeal.Hand
-- ==== Proof.BlockSpec.lean ====
/-
  What the attention of one batch entry and one pair of heads computes, block of 256 queries by block, written as plain
  functions of the three arrays of codes; and what each vector the kernel stores says in those terms.
  A column `col` of a block stands for the head `col / 256` of the pair and the query `256 a + col % 256`.
-/
module

public import proofs.«01_k».proof.Proof.Gen.KernelIdeal.Skeleton
public import Idealize.ShloMosaic.Lib.Pointwise

@[expose] public section

noncomputable section

namespace Cert.KernelIdeal.Hand

open Cert.KernelIdeal Cert.KernelIdeal.Gen
open Idealize.ShloMosaic
open Finset (range)

/-- A token as an index: the number itself when it is below 8192. -/
abbrev tok (n : ℕ) : Fin 8192 := Fin.ofNat 8192 n

theorem tok_of_lt {n : ℕ} (h : n < 8192) : tok n = ⟨n, h⟩ := Fin.ext (Nat.mod_eq_of_lt h)

theorem tok_val (n : Fin 8192) : tok n.val = n := tok_of_lt n.isLt

section
variable (kn : Vec Ideal S8192x128 .fp8e4m3) (qt vt : Vec Ideal S1x128x8192 .fp8e4m3) (cv : Fin 512 → EReal)

/-- The operand of the score product for block `a`: head 0's queries in the left half of the columns and the upper half of
    the rows, head 1's in the right half of the columns and the lower half of the rows, zero elsewhere. -/
def qzS (a : ℕ) (l : Fin 128) (col : Fin 512) : EReal :=
  if (l.val < 64 ↔ col.val < 256) then qt (ix3 0 l (tok (256 * a + col.val % 256))) else 0

/-- The product of key `key` with the query of column `col`. -/
def rawS (a key : ℕ) (col : Fin 512) : EReal := ∑ l : Fin 128, kn (ix2 (tok key) l) * qzS qt a l col

/-- The same, minus infinity where the key comes after the query. -/
def MS (a key : ℕ) (col : Fin 512) : EReal := if key ≤ 256 * a + col.val % 256 then rawS kn qt a key col else ⊥

/-- The largest entry of column `col` among the first `n` groups of eight keys, residue `r`. -/
def mpP (a n : ℕ) (r : Fin 8) (col : Fin 512) : EReal := (range n).sup fun g => MS kn qt a (8 * g + r.val) col

/-- The largest entry of a column of block `a`. -/
def mS (a : ℕ) (col : Fin 512) : EReal := (Finset.univ : Finset (Fin 8)).sup fun r => mpP kn qt a (32 * (a + 1)) r col

/-- The unnormalised weight of a key. -/
def pS (a key : ℕ) (col : Fin 512) : EReal :=
  FloatOps.exp2 (F := Ideal) (φ := .f32) ((MS kn qt a key col - mS kn qt a col) * cv col)

/-- The sum of the weights over the first `n` groups of eight keys, residue `r`. -/
def lpP (a n : ℕ) (r : Fin 8) (col : Fin 512) : EReal := ∑ g ∈ range n, pS kn qt cv a (8 * g + r.val) col

/-- The column of the block belonging to a feature `d` of the pair and a query `q` of the block. -/
def colOf (d : Fin 128) (q : Fin 256) : Fin 512 := ⟨256 * (d.val / 64) + q.val, by omega⟩

/-- The weighted sum of the values over the first `n` keys. -/
def oP (a n : ℕ) (d : Fin 128) (q : Fin 256) : EReal :=
  ∑ key ∈ range n, vt (ix3 0 d (tok key)) * pS kn qt cv a key (colOf d q)

/-- The result: the weighted sum times (the value scale over the sum of the weights). -/
def outS (vv : Fin 512 → EReal) (a : ℕ) (d : Fin 128) (q : Fin 256) : EReal :=
  oP kn qt vt cv a (256 * (a + 1)) d q
    * Ideal.div (vv (colOf d q)) (∑ r : Fin 8, lpP kn qt cv a (32 * (a + 1)) r (colOf d q))

end

theorem ninf : Ideal.ofBits FTy.f32 0xFF800000#32 = (⊥ : EReal) := by
  simp [Ideal.ofBits, Ideal.ieee]

theorem fold_max_bot {n : ℕ} (f : Fin n → EReal) : Finset.fold max (⊥ : EReal) f Finset.univ = Finset.univ.sup f := rfl

theorem sup_range_add {n m : ℕ} (f : ℕ → EReal) :
    (range (n + m)).sup f = (range n).sup f ⊔ (Finset.univ : Finset (Fin m)).sup fun i => f (n + i.val) := by
  apply le_antisymm
  · refine Finset.sup_le fun i hi => ?_
    rw [Finset.mem_range] at hi
    by_cases h : i < n
    · exact le_trans (Finset.le_sup (f := f) (Finset.mem_range.2 h)) le_sup_left
    · refine le_trans ?_ le_sup_right
      have := Finset.le_sup (s := (Finset.univ : Finset (Fin m))) (f := fun i : Fin m => f (n + i.val)) (Finset.mem_univ (⟨i - n, by omega⟩ : Fin m))
      simpa [show n + (i - n) = i by omega] using this
  · refine sup_le (Finset.sup_le fun i hi => ?_) (Finset.sup_le fun i _ => ?_)
    · exact Finset.le_sup (f := f) (Finset.mem_range.2 (by have := Finset.mem_range.1 hi; omega))
    · exact Finset.le_sup (f := f) (Finset.mem_range.2 (by omega))

theorem sum_range_add' {n m : ℕ} (f : ℕ → EReal) :
    ∑ i ∈ range (n + m), f i = ∑ i ∈ range n, f i + ∑ i : Fin m, f (n + i.val) := by
  rw [Finset.sum_range_add, Finset.sum_range fun i => f (n + i)]

end Cert.KernelIdeal.Hand
-- ==== Proof.Scales.lean ====
/-
  The quantiser of the kernel, as plain functions of one block of inputs: the largest magnitude of a head, the power of two
  it picks as the scale, the codes; and what the vectors the kernel computes on the way say in those terms.
-/
module

public import proofs.«01_k».proof.Proof.BlockSpec

@[expose] public section

noncomputable section

namespace Cert.KernelIdeal.Hand

open Cert.KernelIdeal Cert.KernelIdeal.Gen
open Idealize.ShloMosaic
open Finset (range)

/-- The largest magnitude of lane `l` among the first `n` chunks of 512 tokens, tokens of residue `r` mod 16, at least zero. -/
def accP (x : Vec Ideal S1x8192x128 .bf16) (n : ℕ) (r : Fin 16) (l : Fin 128) : EReal :=
  max 0 ((range (32 * n)).sup fun g => FloatOps.absf (F := Ideal) (φ := .bf16) (x (ix3 0 (tok (16 * g + r.val)) l)))

/-- The largest magnitude of lane `l`. -/
def laneM (x : Vec Ideal S1x8192x128 .bf16) (l : Fin 128) : EReal :=
  (Finset.univ : Finset (Fin 16)).sup fun r => accP x 16 r l

/-- The largest magnitude of the head lane `l` belongs to. -/
def headM (x : Vec Ideal S1x8192x128 .bf16) (l : Fin 128) : EReal :=
  if l.val < 64 then (Finset.univ : Finset (Fin 128)).sup fun l' => if l'.val < 64 then laneM x l' else 0
  else (Finset.univ : Finset (Fin 128)).sup fun l' => if l'.val < 64 then 0 else laneM x l'

/-- How many of the 255 powers of two, the last of them infinity, are at most `a / 448`. -/
def fieldOf (a : EReal) : BitVec 32 :=
  Finset.fold IntOp.addi (0#32)
    (fun i : Fin 255 => if Ideal.ofBits FTy.f32 (IntOp.shli ArithUnit.vector (IntOp.addi (BitVec.ofNat 32 i.val) 1#32) 23#32)
        ≤ a * Ideal.ofBits FTy.f32 991054117#32 then 1#32 else 0#32) Finset.univ

/-- The exponent of the scale. -/
def expoOf (a : EReal) : BitVec 32 :=
  Scalar.select (IntOp.ori (IntOp.cmpi CmpIPredicate.eq (fieldOf a) 0#32) (IntOp.cmpi CmpIPredicate.eq (fieldOf a) 255#32)) (0#32)
    (IntOp.subi (fieldOf a) 126#32)

/-- The scale of a head whose largest magnitude is `a`. -/
def scaleOf (a : EReal) : EReal :=
  Ideal.ofBits FTy.f32 (IntOp.shli ArithUnit.vector (IntOp.addi (expoOf a) 127#32) 23#32)

/-- One over that scale. -/
def invOf (a : EReal) : EReal :=
  Ideal.ofBits FTy.f32 (IntOp.shli ArithUnit.vector (IntOp.subi 127#32 (expoOf a)) 23#32)

/-- The code of the value at token `t`, lane `l`. -/
def codeS (x : Vec Ideal S1x8192x128 .bf16) (t : Fin 8192) (l : Fin 128) : EReal :=
  min (Ideal.ofBits FTy.f32 1138753536#32) (max (Ideal.ofBits FTy.f32 3286237184#32) (x (ix3 0 t l) * invOf (headM x l)))

/-- The codes with the features first. -/
def codesT (x : Vec Ideal S1x8192x128 .bf16) : Vec Ideal S1x128x8192 .fp8e4m3 := fun j => codeS x (j (2 : Fin 3)) (j (1 : Fin 3))

/-- The codes with the tokens first. -/
def codesN (x : Vec Ideal S1x8192x128 .bf16) : Vec Ideal S8192x128 .fp8e4m3 := fun j => codeS x (j (0 : Fin 2)) (j (1 : Fin 2))

/-- The factor of a score in the exponent, by lane. -/
def cLane (x k : Vec Ideal S1x8192x128 .bf16) (l : Fin 128) : EReal :=
  max (scaleOf (headM x l) * scaleOf (headM k l) * Ideal.ofBits FTy.f32 1040187392#32
      * Named.named (F := Ideal) κ "log2e" (φ := .f32) 1069066811#32)
    (Ideal.ofBits FTy.f32 8388608#32)

/-- The factor of a score in the exponent, by column. -/
def cvS (x k : Vec Ideal S1x8192x128 .bf16) (col : Fin 512) : EReal := if col.val < 256 then cLane x k 0 else cLane x k 127

/-- The value scale, by column. -/
def vvS (v : Vec Ideal S1x8192x128 .bf16) (col : Fin 512) : EReal :=
  if col.val < 256 then scaleOf (headM v 0) else scaleOf (headM v 127)

theorem ninf16 : Ideal.ofBits FTy.bf16 0xFF80#16 = (⊥ : EReal) := by
  simp [Ideal.ofBits, Ideal.ieee]

theorem lt64 (l : Fin 128) : IntOp.cmpi CmpIPredicate.slt (BitVec.ofNat 32 l.val) 64#32 = if l.val < 64 then 1#1 else 0#1 := by
  revert l; decide +kernel

theorem sel64 (l : Fin 128) (a b : EReal) :
    Scalar.select (IntOp.cmpi CmpIPredicate.slt (BitVec.ofNat 32 l.val) 64#32) a b = if l.val < 64 then a else b := by
  rw [lt64]
  by_cases h : l.val < 64
  · rw [if_pos h, if_pos h]; rfl
  · rw [if_neg h, if_neg h]; rfl

section
variable {x k v : Vec Ideal S1x8192x128 .bf16}

theorem accP_zero (r : Fin 16) (l : Fin 128) : accP x 0 r l = 0 := by
  simp [accP]

/-- One more chunk of 512 tokens. -/
theorem accP_succ (n : ℕ) (r : Fin 16) (l : Fin 128) (w : Vec Ideal S1x512x128 .bf16) (hn : n < 16)
    (hw : ∀ t : Fin 512, w (ix3 0 t l) = x (ix3 0 (tok (512 * n + t.val)) l)) :
    max (accP x n r l) (Finset.fold max (⊥ : EReal) (fun i : Fin 32 => FloatOps.absf (F := Ideal) (φ := .bf16)
      (w (ix3 0 ⟨i.val * 16 + r.val, by omega⟩ l))) Finset.univ) = accP x (n + 1) r l := by
  rw [fold_max_bot, accP, accP, show 32 * (n + 1) = 32 * n + 32 by ring, sup_range_add, max_assoc]
  refine congrArg (max 0) (congrArg (max _) (Finset.sup_congr rfl fun i _ => ?_))
  rw [hw]
  exact congrArg (fun m => FloatOps.absf (F := Ideal) (φ := .bf16) (x (ix3 0 (tok m) l)))
    (show 512 * n + (i.val * 16 + r.val) = 16 * (32 * n + i.val) + r.val by ring)

theorem pay75_eq (r : Fin 16) (l : Fin 128) : k0_pay75 (F := Ideal) (ix2 r l) = accP x 0 r l := by
  rw [accP_zero]; pointwise [k0_pay75]

theorem pay82_eq (r : Fin 16) (l : Fin 128) : k0_pay82 (F := Ideal) (ix2 r l) = accP x 0 r l := by
  rw [accP_zero]; pointwise [k0_pay82]

theorem pay89_eq (r : Fin 16) (l : Fin 128) : k0_pay89 (F := Ideal) (ix2 r l) = accP x 0 r l := by
  rw [accP_zero]; pointwise [k0_pay89]

theorem pay76_eq (acc : FVec Ideal S16x128 .bf16) (w : Vec Ideal S1x512x128 .bf16) {n : ℕ} (hn : n < 16)
    (ha : ∀ r l, acc (ix2 r l) = accP x n r l)
    (hw : ∀ (t : Fin 512) (l : Fin 128), w (ix3 0 t l) = x (ix3 0 (tok (512 * n + t.val)) l)) (r : Fin 16) (l : Fin 128) :
    k0_pay76 (F := Ideal) acc w (ix2 r l) = accP x (n + 1) r l := by
  pointwise [k0_pay76]
  rw [ninf16, ha]
  exact accP_succ n r l w hn fun t => hw t l

theorem pay83_eq (acc : FVec Ideal S16x128 .bf16) (w : Vec Ideal S1x512x128 .bf16) {n : ℕ} (hn : n < 16)
    (ha : ∀ r l, acc (ix2 r l) = accP x n r l)
    (hw : ∀ (t : Fin 512) (l : Fin 128), w (ix3 0 t l) = x (ix3 0 (tok (512 * n + t.val)) l)) (r : Fin 16) (l : Fin 128) :
    k0_pay83 (F := Ideal) acc w (ix2 r l) = accP x (n + 1) r l := by
  pointwise [k0_pay83]
  rw [ninf16, ha]
  exact accP_succ n r l w hn fun t => hw t l

theorem pay90_eq (acc : FVec Ideal S16x128 .bf16) (w : Vec Ideal S1x512x128 .bf16) {n : ℕ} (hn : n < 16)
    (ha : ∀ r l, acc (ix2 r l) = accP x n r l)
    (hw : ∀ (t : Fin 512) (l : Fin 128), w (ix3 0 t l) = x (ix3 0 (tok (512 * n + t.val)) l)) (r : Fin 16) (l : Fin 128) :
    k0_pay90 (F := Ideal) acc w (ix2 r l) = accP x (n + 1) r l := by
  pointwise [k0_pay90]
  rw [ninf16, ha]
  exact accP_succ n r l w hn fun t => hw t l

theorem pay77_eq (acc : FVec Ideal S16x128 .bf16) (ha : ∀ r l, acc (ix2 r l) = accP x 16 r l) (l : Fin 128) :
    k0_pay77 (F := Ideal) acc (ix2 0 l) = fieldOf (headM x l) := by
  pointwise [k0_pay77]
  simp only [ninf, fold_max_bot, ha, sel64]
  rfl

theorem pay78_eq (acc : FVec Ideal S16x128 .bf16) (ha : ∀ r l, acc (ix2 r l) = accP x 16 r l) (l : Fin 128) :
    k0_pay78 (F := Ideal) acc (ix2 0 l) = IntOp.cmpi CmpIPredicate.eq (fieldOf (headM x l)) 0#32 := by
  have := pay77_eq acc ha l
  rw [← this]
  rfl

theorem pay80_eq (f : IVec S1x128 32) (g : IVec S1x128 1) {a : EReal} (l : Fin 128) (hf : f (ix2 0 l) = fieldOf a)
    (hg : g (ix2 0 l) = IntOp.cmpi CmpIPredicate.eq (fieldOf a) 0#32) : k0_pay80 (F := Ideal) f g 255#32 (ix2 0 l) = scaleOf a := by
  pointwise [k0_pay80, k0_pay79]
  rw [hf, hg]; rfl

theorem pay81_eq (f : IVec S1x128 32) (g : IVec S1x128 1) {a : EReal} (l : Fin 128) (hf : f (ix2 0 l) = fieldOf a)
    (hg : g (ix2 0 l) = IntOp.cmpi CmpIPredicate.eq (fieldOf a) 0#32) : k0_pay81 (F := Ideal) f g 255#32 (ix2 0 l) = invOf a := by
  pointwise [k0_pay81, k0_pay79]
  rw [hf, hg]; rfl

theorem pay84_eq (acc : FVec Ideal S16x128 .bf16) (ha : ∀ r l, acc (ix2 r l) = accP x 16 r l) (l : Fin 128) :
    k0_pay84 (F := Ideal) acc (ix2 0 l) = headM x l := by
  pointwise [k0_pay84]
  simp only [ninf, fold_max_bot, ha, sel64]
  rfl

theorem pay86_eq (m : FVec Ideal S1x128 .f32) {a : EReal} (l : Fin 128) (hm : m (ix2 0 l) = a) :
    k0_pay86 (F := Ideal) m k0_pay85 (ix2 0 l) = expoOf a := by
  subst hm
  pointwise [k0_pay86, k0_pay85]
  rfl

theorem pay87_eq (m : FVec Ideal S1x128 .f32) {a : EReal} (l : Fin 128) (hm : m (ix2 0 l) = a) :
    k0_pay87 (F := Ideal) m k0_pay85 (ix2 0 l) = scaleOf a := by
  rw [scaleOf, ← pay86_eq m l hm]; rfl

theorem pay88_eq (m : FVec Ideal S1x128 .f32) {a : EReal} (l : Fin 128) (hm : m (ix2 0 l) = a) :
    k0_pay88 (F := Ideal) m k0_pay85 (ix2 0 l) = invOf a := by
  rw [invOf, ← pay86_eq m l hm]; rfl

theorem pay93_eq (acc : FVec Ideal S16x128 .bf16) (ha : ∀ r l, acc (ix2 r l) = accP x 16 r l) (l : Fin 128) :
    k0_pay93 (F := Ideal) (k0_pay91 acc) k0_pay92 (ix2 0 l) = expoOf (headM x l) := by
  pointwise [k0_pay93, k0_pay91, k0_pay92]
  simp only [ninf, fold_max_bot, ha, sel64]
  rfl

theorem pay94_eq (acc : FVec Ideal S16x128 .bf16) (ha : ∀ r l, acc (ix2 r l) = accP x 16 r l) (l : Fin 128) :
    k0_pay94 (F := Ideal) (k0_pay91 acc) k0_pay92 (ix2 0 l) = scaleOf (headM x l) := by
  rw [scaleOf, ← pay93_eq acc ha l]; rfl

theorem pay96_eq (f : FVec Ideal S1x128 .f32) (l : Fin 128) : k0_pay96 (F := Ideal) f (ix4 0 0 0 l) = f (ix2 0 l) := by
  pointwise [k0_pay96]
theorem pay97_eq (f : FVec Ideal S1x128 .f32) (l : Fin 128) : k0_pay97 (F := Ideal) f (ix4 0 0 0 l) = f (ix2 0 l) := by
  pointwise [k0_pay97]
theorem pay98_eq (f : FVec Ideal S1x128 .f32) (l : Fin 128) : k0_pay98 (F := Ideal) f (ix4 0 0 0 l) = f (ix2 0 l) := by
  pointwise [k0_pay98]

theorem pay99_eq (f : FVec Ideal S1x128 .f32) (w : Vec Ideal S1x512x128 .bf16) {n : ℕ}
    (hf : ∀ l, f (ix2 0 l) = invOf (headM x l))
    (hw : ∀ (t : Fin 512) (l : Fin 128), w (ix3 0 t l) = x (ix3 0 (tok (512 * n + t.val)) l)) (l : Fin 128) (t : Fin 512) :
    k0_pay99 (F := Ideal) f w (ix3 0 l t) = codeS x (tok (512 * n + t.val)) l := by
  pointwise [k0_pay99]
  rw [hf, hw]; rfl

theorem pay101_eq (f : FVec Ideal S1x128 .f32) (w : Vec Ideal S1x512x128 .bf16) {n : ℕ}
    (hf : ∀ l, f (ix2 0 l) = invOf (headM x l))
    (hw : ∀ (t : Fin 512) (l : Fin 128), w (ix3 0 t l) = x (ix3 0 (tok (512 * n + t.val)) l)) (l : Fin 128) (t : Fin 512) :
    k0_pay101 (F := Ideal) f w (ix2 t l) = codeS x (tok (512 * n + t.val)) l := by
  pointwise [k0_pay101, k0_pay100]
  rw [hf, hw]; rfl

theorem pay102_eq (f : FVec Ideal S1x128 .f32) (w : Vec Ideal S1x512x128 .bf16) {n : ℕ}
    (hf : ∀ l, f (ix2 0 l) = invOf (headM x l))
    (hw : ∀ (t : Fin 512) (l : Fin 128), w (ix3 0 t l) = x (ix3 0 (tok (512 * n + t.val)) l)) (l : Fin 128) (t : Fin 512) :
    k0_pay102 (F := Ideal) f w (ix3 0 l t) = codeS x (tok (512 * n + t.val)) l := by
  pointwise [k0_pay102, k0_pay100]
  rw [hf, hw]; rfl

theorem pay103_eq (e : IVec S1x128 32) (w : Vec Ideal S1x512x128 .bf16) {n : ℕ}
    (hf : ∀ l, e (ix2 0 l) = expoOf (headM x l))
    (hw : ∀ (t : Fin 512) (l : Fin 128), w (ix3 0 t l) = x (ix3 0 (tok (512 * n + t.val)) l)) (l : Fin 128) (t : Fin 512) :
    k0_pay103 (F := Ideal) e k0_pay95 w (ix3 0 l t) = codeS x (tok (512 * n + t.val)) l := by
  pointwise [k0_pay103, k0_pay95]
  rw [hf, hw]; rfl

theorem pay105_eq (f g : FVec Ideal S1x128 .f32) (hf : ∀ l, f (ix2 0 l) = scaleOf (headM x l))
    (hg : ∀ l, g (ix2 0 l) = scaleOf (headM k l)) (r : Fin 8) (col : Fin 512) :
    k0_pay105 (F := Ideal) (k0_pay104 f g) (ix3 0 r col) = cvS x k col := by
  pointwise [k0_pay105, k0_pay104]
  simp only [hf, hg]
  rfl

theorem pay106_eq (f : FVec Ideal S1x128 .f32) (hf : ∀ l, f (ix2 0 l) = scaleOf (headM v l)) (r : Fin 8) (col : Fin 512) :
    k0_pay106 (F := Ideal) f (ix3 0 r col) = vvS v col := by
  pointwise [k0_pay106]
  simp only [hf]
  rfl

end

end Cert.KernelIdeal.Hand
-- ==== Proof.Prologue.lean ====
/-
  The loops before the attention: three that find the largest magnitude of each head of a block, 512 tokens a trip, and three
  that write the codes, 512 tokens a trip; what each trip adds.
-/
module

public import proofs.«01_k».proof.Proof.Gen.KernelIdeal.Frame
public import proofs.«01_k».proof.Proof.Gen.KernelIdeal.Skeleton
public import proofs.«01_k».proof.Proof.Windows
public import proofs.«01_k».proof.Proof.Scales

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem trips1 : k0_t1_loop.trips = 16 := by decide +kernel
theorem trips2 : k0_t2_loop.trips = 16 := by decide +kernel
theorem trips3 : k0_t3_loop.trips = 16 := by decide +kernel
theorem trips4 : k0_t4_loop.trips = 16 := by decide +kernel
theorem trips5 : k0_t5_loop.trips = 16 := by decide +kernel
theorem trips6 : k0_t6_loop.trips = 16 := by decide +kernel
theorem off1_at : ∀ k : Fin k0_t1_loop.trips, k0_off1 k = ![0, 512 * k.val, 0] := by decide +kernel
theorem off2_at : ∀ k : Fin k0_t2_loop.trips, k0_off2 k = ![0, 512 * k.val, 0] := by decide +kernel
theorem off3_at : ∀ k : Fin k0_t3_loop.trips, k0_off3 k = ![0, 512 * k.val, 0] := by decide +kernel
theorem off4_at : ∀ k : Fin k0_t4_loop.trips, k0_off4 k = ![0, 512 * k.val, 0] := by decide +kernel
theorem off5_at : ∀ k : Fin k0_t4_loop.trips, k0_off5 k = ![0, 0, 512 * k.val] := by decide +kernel
theorem off6_at : ∀ k : Fin k0_t5_loop.trips, k0_off6 k = ![0, 512 * k.val, 0] := by decide +kernel
theorem off7_at : ∀ k : Fin k0_t5_loop.trips, k0_off7 k = ![512 * k.val, 0] := by decide +kernel
theorem off8_at : ∀ k : Fin k0_t5_loop.trips, k0_off8 k = ![0, 0, 512 * k.val] := by decide +kernel
theorem off9_at : ∀ k : Fin k0_t6_loop.trips, k0_off9 k = ![0, 512 * k.val, 0] := by decide +kernel
theorem off10_at : ∀ k : Fin k0_t6_loop.trips, k0_off10 k = ![0, 0, 512 * k.val] := by decide +kernel

/-- Before trip `n` the accumulator holds the largest magnitudes among the first `512 n` tokens. -/
abbrev invM1 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X2 : BufTy.Contents (Elt Ideal) arg2.view.ty) (n : ℕ) (acc : FVec Ideal S16x128 .bf16) : sProp 𝕄 :=
  iprop((arg2.view.loc (c : Thread nD τ) ↦[arg2.view.set]{fullShare} X2) ∗ ⌜∀ (r : Fin 16) (l : Fin 128), acc (ix2 r l) = accP (arg2.view.read (Elt Ideal) X2) n r l⌝)

theorem stepM1 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X2 : BufTy.Contents (Elt Ideal) arg2.view.ty) (k : Fin k0_t1_loop.trips) (acc : FVec Ideal S16x128 .bf16) :
    invM1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 k.val acc ⊢ wp frame (wpE (defs₀ (F := Ideal)) Variants.none (c : Thread nD τ) none) Set.univ
      (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc) (fun acc' => invM1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 (k.val + 1) acc') := by
  have hk : k.val < 16 := by have := k.isLt; have e := trips1; omega
  have hw : ∀ (t : Fin 512) (l : Fin 128), (arg2.view.readAt (Elt Ideal) (Rect.unit (s := S1x8192x128) (k0_off1 k) S1x512x128.size (k0_off1_inb k)).toLoadRect X2) (ix3 0 t l) = (arg2.view.read (Elt Ideal) X2) (ix3 0 (tok (512 * k.val + t.val)) l) := fun t l =>
    rd3 arg2.view X2 _ (off1_at k) 0 t l 0 _ l rfl (by have e : (tok (512 * k.val + t.val)).val = 512 * k.val + t.val := congrArg Fin.val (tok_of_lt (by omega)); omega) (by simp)
  unfold k0_t1_body invM1
  iintro ⟨H, %ha⟩
  sl_exec
  sl_step
  isplitl [H]
  · iexact H
  · ipureintro
    exact fun r l => pay76_eq acc _ hk ha hw r l

/-- Before trip `n` the accumulator holds the largest magnitudes among the first `512 n` tokens. -/
abbrev invM2 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X3 : BufTy.Contents (Elt Ideal) arg3.view.ty) (n : ℕ) (acc : FVec Ideal S16x128 .bf16) : sProp 𝕄 :=
  iprop((arg3.view.loc (c : Thread nD τ) ↦[arg3.view.set]{fullShare} X3) ∗ ⌜∀ (r : Fin 16) (l : Fin 128), acc (ix2 r l) = accP (arg3.view.read (Elt Ideal) X3) n r l⌝)

theorem stepM2 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X3 : BufTy.Contents (Elt Ideal) arg3.view.ty) (v36 : IVec S1x128 32) (v38 : IVec S1x128 1) (c255_i32 : BitVec 32) (k : Fin k0_t2_loop.trips) (acc : FVec Ideal S16x128 .bf16) :
    invM2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k.val acc ⊢ wp frame (wpE (defs₀ (F := Ideal)) Variants.none (c : Thread nD τ) none) Set.univ
      (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v36 v38 c255_i32 k acc) (fun acc' => invM2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 (k.val + 1) acc') := by
  have hk : k.val < 16 := by have := k.isLt; have e := trips2; omega
  have hw : ∀ (t : Fin 512) (l : Fin 128), (arg3.view.readAt (Elt Ideal) (Rect.unit (s := S1x8192x128) (k0_off2 k) S1x512x128.size (k0_off2_inb k)).toLoadRect X3) (ix3 0 t l) = (arg3.view.read (Elt Ideal) X3) (ix3 0 (tok (512 * k.val + t.val)) l) := fun t l =>
    rd3 arg3.view X3 _ (off2_at k) 0 t l 0 _ l rfl (by have e : (tok (512 * k.val + t.val)).val = 512 * k.val + t.val := congrArg Fin.val (tok_of_lt (by omega)); omega) (by simp)
  unfold k0_t2_body invM2
  iintro ⟨H, %ha⟩
  sl_exec
  sl_step
  isplitl [H]
  · iexact H
  · ipureintro
    exact fun r l => pay83_eq acc _ hk ha hw r l

/-- Before trip `n` the accumulator holds the largest magnitudes among the first `512 n` tokens. -/
abbrev invM3 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X4 : BufTy.Contents (Elt Ideal) arg4.view.ty) (n : ℕ) (acc : FVec Ideal S16x128 .bf16) : sProp 𝕄 :=
  iprop((arg4.view.loc (c : Thread nD τ) ↦[arg4.view.set]{fullShare} X4) ∗ ⌜∀ (r : Fin 16) (l : Fin 128), acc (ix2 r l) = accP (arg4.view.read (Elt Ideal) X4) n r l⌝)

theorem stepM3 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X4 : BufTy.Contents (Elt Ideal) arg4.view.ty) (v77 : FVec Ideal S1x128 .f32) (v80 : IVec S255x128 32) (k : Fin k0_t3_loop.trips) (acc : FVec Ideal S16x128 .bf16) :
    invM3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 k.val acc ⊢ wp frame (wpE (defs₀ (F := Ideal)) Variants.none (c : Thread nD τ) none) Set.univ
      (k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v77 v80 k acc) (fun acc' => invM3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 (k.val + 1) acc') := by
  have hk : k.val < 16 := by have := k.isLt; have e := trips3; omega
  have hw : ∀ (t : Fin 512) (l : Fin 128), (arg4.view.readAt (Elt Ideal) (Rect.unit (s := S1x8192x128) (k0_off3 k) S1x512x128.size (k0_off3_inb k)).toLoadRect X4) (ix3 0 t l) = (arg4.view.read (Elt Ideal) X4) (ix3 0 (tok (512 * k.val + t.val)) l) := fun t l =>
    rd3 arg4.view X4 _ (off3_at k) 0 t l 0 _ l rfl (by have e : (tok (512 * k.val + t.val)).val = 512 * k.val + t.val := congrArg Fin.val (tok_of_lt (by omega)); omega) (by simp)
  unfold k0_t3_body invM3
  iintro ⟨H, %ha⟩
  sl_exec
  sl_step
  isplitl [H]
  · iexact H
  · ipureintro
    exact fun r l => pay90_eq acc _ hk ha hw r l

/-- Before trip `n` the codes of the first `512 n` tokens are written. -/
abbrev invC4 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X2 : BufTy.Contents (Elt Ideal) arg2.view.ty) (n : ℕ) : sProp 𝕄 :=
  iprop((arg2.view.loc (c : Thread nD τ) ↦[arg2.view.set]{fullShare} X2) ∗ (∃ f, (arg6.view.loc (c : Thread nD τ) ↦[arg6.view.set]{fullShare} f) ∗ ⌜∀ (t : Fin 8192) (l : Fin 128), t.val < 512 * n → arg6.view.read (Elt Ideal) f (ix3 0 l t) = codeS (arg2.view.read (Elt Ideal) X2) t l⌝))

theorem stepC4 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X2 : BufTy.Contents (Elt Ideal) arg2.view.ty) (v50 v55 v106 v111 : FVec Ideal S1x128 .f32) (v157 : IVec S1x128 32) (v162 : FVec Ideal S1x128 .f32) (v163 : IVec S1x128 32) (hv : ∀ l, v55 (ix2 0 l) = invOf (headM (arg2.view.read (Elt Ideal) X2) l)) (k : Fin k0_t4_loop.trips) (acc : Unit) :
    invC4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 k.val ⊢ wp frame (wpE (defs₀ (F := Ideal)) Variants.none (c : Thread nD τ) none) Set.univ
      (k0_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v55 v106 v111 v157 v162 v163 k acc) (fun _ => invC4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 (k.val + 1)) := by
  have hk : k.val < 16 := by have := k.isLt; have e := trips4; omega

  have hw : ∀ (t : Fin 512) (l : Fin 128), (arg2.view.readAt (Elt Ideal) (Rect.unit (s := S1x8192x128) (k0_off4 k) S1x512x128.size (k0_off4_inb k)).toLoadRect X2) (ix3 0 t l) = (arg2.view.read (Elt Ideal) X2) (ix3 0 (tok (512 * k.val + t.val)) l) := fun t l =>
    rd3 arg2.view X2 _ (off4_at k) 0 t l 0 _ l rfl (by have e : (tok (512 * k.val + t.val)).val = 512 * k.val + t.val := congrArg Fin.val (tok_of_lt (by omega)); omega) (by simp)
  unfold k0_t4_body invC4
  iintro ⟨H, ⟨%f6, HD, %hf6⟩⟩
  sl_exec
  sl_step
  isplitl [H]
  · iexact H
  · iexists _
    isplitl [HD]
    · iexact HD
    · ipureintro
      intro t l ht
      by_cases h0 : t.val < 512 * k.val
      · exact (wr3_out arg6.view f6 _ (off5_at k) _ [] 0 l t (by omega)).trans (hf6 t l h0)
      · refine (wr3_in arg6.view f6 _ (off5_at k) _ [] 0 l t 0 l ⟨t.val - 512 * k.val, by omega⟩ rfl (by simp) (by simp only []; omega)).trans ?_
        refine (pay99_eq (n := k.val) v55 _ hv hw l _).trans ?_
        exact congrArg (fun z => codeS _ z l) ((congrArg tok (by simp only []; omega)).trans (tok_val t))

/-- Before trip `n` the codes of the first `512 n` tokens are written. -/
abbrev invC6 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X4 : BufTy.Contents (Elt Ideal) arg4.view.ty) (n : ℕ) : sProp 𝕄 :=
  iprop((arg4.view.loc (c : Thread nD τ) ↦[arg4.view.set]{fullShare} X4) ∗ (∃ f, (arg8.view.loc (c : Thread nD τ) ↦[arg8.view.set]{fullShare} f) ∗ ⌜∀ (t : Fin 8192) (l : Fin 128), t.val < 512 * n → arg8.view.read (Elt Ideal) f (ix3 0 l t) = codeS (arg4.view.read (Elt Ideal) X4) t l⌝))

theorem stepC6 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X4 : BufTy.Contents (Elt Ideal) arg4.view.ty) (v50 v55 v106 v111 : FVec Ideal S1x128 .f32) (v157 : IVec S1x128 32) (v162 : FVec Ideal S1x128 .f32) (v163 : IVec S1x128 32) (hv : ∀ l, v157 (ix2 0 l) = expoOf (headM (arg4.view.read (Elt Ideal) X4) l)) (hv3 : v163 = k0_pay95) (k : Fin k0_t6_loop.trips) (acc : Unit) :
    invC6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 k.val ⊢ wp frame (wpE (defs₀ (F := Ideal)) Variants.none (c : Thread nD τ) none) Set.univ
      (k0_t6_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v55 v106 v111 v157 v162 v163 k acc) (fun _ => invC6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 (k.val + 1)) := by
  have hk : k.val < 16 := by have := k.isLt; have e := trips6; omega
  subst hv3
  have hw : ∀ (t : Fin 512) (l : Fin 128), (arg4.view.readAt (Elt Ideal) (Rect.unit (s := S1x8192x128) (k0_off9 k) S1x512x128.size (k0_off9_inb k)).toLoadRect X4) (ix3 0 t l) = (arg4.view.read (Elt Ideal) X4) (ix3 0 (tok (512 * k.val + t.val)) l) := fun t l =>
    rd3 arg4.view X4 _ (off9_at k) 0 t l 0 _ l rfl (by have e : (tok (512 * k.val + t.val)).val = 512 * k.val + t.val := congrArg Fin.val (tok_of_lt (by omega)); omega) (by simp)
  unfold k0_t6_body invC6
  iintro ⟨H, ⟨%f8, HD, %hf8⟩⟩
  sl_exec
  sl_step
  isplitl [H]
  · iexact H
  · iexists _
    isplitl [HD]
    · iexact HD
    · ipureintro
      intro t l ht
      by_cases h0 : t.val < 512 * k.val
      · exact (wr3_out arg8.view f8 _ (off10_at k) _ [] 0 l t (by omega)).trans (hf8 t l h0)
      · refine (wr3_in arg8.view f8 _ (off10_at k) _ [] 0 l t 0 l ⟨t.val - 512 * k.val, by omega⟩ rfl (by simp) (by simp only []; omega)).trans ?_
        refine (pay103_eq (n := k.val) v157 _ hv hw l _).trans ?_
        exact congrArg (fun z => codeS _ z l) ((congrArg tok (by simp only []; omega)).trans (tok_val t))

/-- Before trip `n` the codes of the first `512 n` tokens are written, both ways round. -/
abbrev invC5 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X3 : BufTy.Contents (Elt Ideal) arg3.view.ty) (n : ℕ) : sProp 𝕄 :=
  iprop((arg3.view.loc (c : Thread nD τ) ↦[arg3.view.set]{fullShare} X3) ∗ (∃ f, (arg12.view.loc (c : Thread nD τ) ↦[arg12.view.set]{fullShare} f) ∗ ⌜∀ (t : Fin 8192) (l : Fin 128), t.val < 512 * n → arg12.view.read (Elt Ideal) f (ix2 t l) = codeS (arg3.view.read (Elt Ideal) X3) t l⌝) ∗ (∃ f, (arg7.view.loc (c : Thread nD τ) ↦[arg7.view.set]{fullShare} f) ∗ ⌜∀ (t : Fin 8192) (l : Fin 128), t.val < 512 * n → arg7.view.read (Elt Ideal) f (ix3 0 l t) = codeS (arg3.view.read (Elt Ideal) X3) t l⌝))

theorem stepC5 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X3 : BufTy.Contents (Elt Ideal) arg3.view.ty) (v50 v55 v106 v111 : FVec Ideal S1x128 .f32) (v157 : IVec S1x128 32) (v162 : FVec Ideal S1x128 .f32) (v163 : IVec S1x128 32) (hv : ∀ l, v111 (ix2 0 l) = invOf (headM (arg3.view.read (Elt Ideal) X3) l)) (k : Fin k0_t5_loop.trips) (acc : Unit) :
    invC5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k.val ⊢ wp frame (wpE (defs₀ (F := Ideal)) Variants.none (c : Thread nD τ) none) Set.univ
      (k0_t5_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v55 v106 v111 v157 v162 v163 k acc) (fun _ => invC5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 (k.val + 1)) := by
  have hk : k.val < 16 := by have := k.isLt; have e := trips5; omega
  have hw : ∀ (t : Fin 512) (l : Fin 128), (arg3.view.readAt (Elt Ideal) (Rect.unit (s := S1x8192x128) (k0_off6 k) S1x512x128.size (k0_off6_inb k)).toLoadRect X3) (ix3 0 t l) = (arg3.view.read (Elt Ideal) X3) (ix3 0 (tok (512 * k.val + t.val)) l) := fun t l =>
    rd3 arg3.view X3 _ (off6_at k) 0 t l 0 _ l rfl (by have e : (tok (512 * k.val + t.val)).val = 512 * k.val + t.val := congrArg Fin.val (tok_of_lt (by omega)); omega) (by simp)
  unfold k0_t5_body invC5
  iintro ⟨H, ⟨%f12, H12, %hf12⟩, ⟨%f7, H7, %hf7⟩⟩
  sl_exec
  sl_step
  isplitl [H]
  · iexact H
  isplitl [H12]
  · iexists _
    isplitl [H12]
    · iexact H12
    · ipureintro
      intro t l ht
      by_cases h0 : t.val < 512 * k.val
      · exact (wr2_out arg12.view f12 _ (off7_at k) _ [] t l (by omega)).trans (hf12 t l h0)
      · refine (wr2_in arg12.view f12 _ (off7_at k) _ [] t l ⟨t.val - 512 * k.val, by omega⟩ l (by simp only []; omega) (by simp)).trans ?_
        refine (pay101_eq (n := k.val) v111 _ hv hw l _).trans ?_
        exact congrArg (fun z => codeS _ z l) ((congrArg tok (by simp only []; omega)).trans (tok_val t))
  · iexists _
    isplitl [H7]
    · iexact H7
    · ipureintro
      intro t l ht
      by_cases h0 : t.val < 512 * k.val
      · exact (wr3_out arg7.view f7 _ (off8_at k) _ [] 0 l t (by omega)).trans (hf7 t l h0)
      · refine (wr3_in arg7.view f7 _ (off8_at k) _ [] 0 l t 0 l ⟨t.val - 512 * k.val, by omega⟩ rfl (by simp) (by simp only []; omega)).trans ?_
        refine (pay102_eq (n := k.val) v111 _ hv hw l _).trans ?_
        exact congrArg (fun z => codeS _ z l) ((congrArg tok (by simp only []; omega)).trans (tok_val t))

end Cert.KernelIdeal.Hand

end
-- ==== Proof.Quadrants.lean ====
/-
  The query block of two heads, assembled from four quadrants: the features of head 0 against the columns of head 0, those
  of head 1 against the columns of head 1, zeros elsewhere.
-/
module

public import proofs.«01_k».proof.Proof.Windows
public import proofs.«01_k».proof.Proof.BlockSpec

@[expose] public section

noncomputable section

namespace Cert.KernelIdeal.Hand

open Cert.KernelIdeal
open Idealize.ShloMosaic

variable {sig : RefSig} {κ : Kind} {sp : Space}

/-- Four stores of quadrants leave the query block. -/
theorem quadrants (v : View sig κ sp S2x128x512 .fp8e4m3) (f : v.ty.Contents (Elt Ideal)) (qt : Vec Ideal S1x128x8192 .fp8e4m3) (a : ℕ)
    (s : Fin 2) {off1 off2 off3 off4 : Fin 3 → ℕ}
    (i1 : ∀ x, off1 x + (![1, 64, 256] : Fin 3 → ℕ) x ≤ S2x128x512.size x) (i2 : ∀ x, off2 x + (![1, 64, 256] : Fin 3 → ℕ) x ≤ S2x128x512.size x)
    (i3 : ∀ x, off3 x + (![1, 64, 256] : Fin 3 → ℕ) x ≤ S2x128x512.size x) (i4 : ∀ x, off4 x + (![1, 64, 256] : Fin 3 → ℕ) x ≤ S2x128x512.size x)
    (e1 : off1 = ![s.val, 64, 256]) (e2 : off2 = ![s.val, 0, 256]) (e3 : off3 = ![s.val, 64, 0]) (e4 : off4 = ![s.val, 0, 0])
    (w1 w2 w3 w4 : Vec Ideal S1x64x256 .fp8e4m3)
    (h1 : ∀ (d : Fin 64) (q : Fin 256), w1 (ix3 0 d q) = qt (ix3 0 (⟨64 + d.val, by omega⟩ : Fin 128) (tok (256 * a + q.val))))
    (h2 : ∀ (d : Fin 64) (q : Fin 256), w2 (ix3 0 d q) = 0)
    (h3 : ∀ (d : Fin 64) (q : Fin 256), w3 (ix3 0 d q) = 0)
    (h4 : ∀ (d : Fin 64) (q : Fin 256), w4 (ix3 0 d q) = qt (ix3 0 (⟨d.val, by omega⟩ : Fin 128) (tok (256 * a + q.val))))
    (x : Fin 128) (col : Fin 512) :
    v.read (Elt Ideal) (v.writes (Elt Ideal) f
      [⟨Rect.unit (s := S2x128x512) off1 ![1, 64, 256] i1, w1⟩, ⟨Rect.unit (s := S2x128x512) off2 ![1, 64, 256] i2, w2⟩,
       ⟨Rect.unit (s := S2x128x512) off3 ![1, 64, 256] i3, w3⟩, ⟨Rect.unit (s := S2x128x512) off4 ![1, 64, 256] i4, w4⟩]) (ix3 s x col) = qzS qt a x col := by
  have eq : ∀ (l l' : Fin 128) (n n' : ℕ), l = l' → n = n' → qt (ix3 0 l (tok n)) = qt (ix3 0 l' (tok n')) := by
    rintro l _ n _ rfl rfl; rfl
  rw [qzS]
  by_cases hx : x.val < 64
  · by_cases hc : col.val < 256
    · refine (wr3_out v f i1 e1 w1 _ s x col (by omega)).trans ((wr3_out v f i2 e2 w2 _ s x col (by omega)).trans
        ((wr3_out v f i3 e3 w3 _ s x col (by omega)).trans ((wr3_in v f i4 e4 w4 _ s x col 0 ⟨x.val, hx⟩ ⟨col.val, hc⟩ rfl (by simp) (by simp)).trans ?_)))
      rw [h4, if_pos (by omega)]
      exact eq _ _ _ _ rfl (by simp only []; omega)
    · refine (wr3_out v f i1 e1 w1 _ s x col (by omega)).trans
        ((wr3_in v f i2 e2 w2 _ s x col 0 ⟨x.val, hx⟩ ⟨col.val - 256, by omega⟩ rfl (by simp) (by simp only []; omega)).trans ?_)
      rw [h2, if_neg (by omega)]
  · by_cases hc : col.val < 256
    · refine (wr3_out v f i1 e1 w1 _ s x col (by omega)).trans ((wr3_out v f i2 e2 w2 _ s x col (by omega)).trans
        ((wr3_in v f i3 e3 w3 _ s x col 0 ⟨x.val - 64, by omega⟩ ⟨col.val, hc⟩ rfl (by simp only []; omega) (by simp)).trans ?_))
      rw [h3, if_neg (by omega)]
    · refine (wr3_in v f i1 e1 w1 _ s x col 0 ⟨x.val - 64, by omega⟩ ⟨col.val - 256, by omega⟩ rfl (by simp only []; omega) (by simp only []; omega)).trans ?_
      rw [h1, if_pos (by omega)]
      exact eq _ _ _ _ (Fin.ext (by simp only []; omega)) (by simp only []; omega)

end Cert.KernelIdeal.Hand

end
-- ==== Proof.Payloads.lean ====
/-
  What each vector the attention part of the kernel stores is, entry by entry, when the vectors it is computed from hold what
  `BlockSpec` says they hold.
-/
module

public import proofs.«01_k».proof.Proof.BlockSpec

@[expose] public section

noncomputable section

namespace Cert.KernelIdeal.Hand

open Cert.KernelIdeal Cert.KernelIdeal.Gen
open Idealize.ShloMosaic
open Finset (range)

variable {kn : Vec Ideal S8192x128 .fp8e4m3} {qt vt : Vec Ideal S1x128x8192 .fp8e4m3} {cv : Fin 512 → EReal}

/-- Below the diagonal block nothing is masked. -/
theorem MS_low {a key : ℕ} (h : key < 256 * a) (col : Fin 512) : MS kn qt a key col = rawS kn qt a key col :=
  if_pos (by omega)

theorem mask_eq (i : Fin 256) (col : Fin 512) (x y : EReal) :
    Scalar.select (IntOp.cmpi CmpIPredicate.sle (BitVec.ofNat 32 i.val) (IntOp.andi (BitVec.ofNat 32 col.val) 255#32)) x y
      = if i.val ≤ col.val % 256 then x else y := by
  have h : IntOp.cmpi CmpIPredicate.sle (BitVec.ofNat 32 i.val) (IntOp.andi (BitVec.ofNat 32 col.val) 255#32)
      = if i.val ≤ col.val % 256 then 1#1 else 0#1 := by
    have e : IntOp.andi (BitVec.ofNat 32 col.val) 255#32 = BitVec.ofNat 32 (col.val % 256) := by
      revert col; decide +kernel
    rw [e]
    have hc : col.val % 256 < 256 := Nat.mod_lt _ (by decide)
    generalize col.val % 256 = q at hc
    have : ∀ (i q : Fin 256), IntOp.cmpi CmpIPredicate.sle (BitVec.ofNat 32 i.val) (BitVec.ofNat 32 q.val)
        = if i.val ≤ q.val then 1#1 else 0#1 := by
      intro i q
      have hi := i.isLt; have hq := q.isLt
      simp only [IntOp.cmpi, BitVec.sle, BitVec.toInt_ofNat']
      rw [Int.bmod_eq_of_le (by omega) (by omega), Int.bmod_eq_of_le (by omega) (by omega)]
      by_cases h : i.val ≤ q.val
      · simp [h]
      · simp [h]
    exact this i ⟨q, hc⟩
  rw [h]
  by_cases hh : i.val ≤ col.val % 256
  · rw [if_pos hh, if_pos hh]; rfl
  · rw [if_neg hh, if_neg hh]; rfl

/-- The scores of 512 keys. -/
theorem pay29_eq (wk : Vec Ideal S512x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n + 512 ≤ 256 * a) (i : Fin 512) (col : Fin 512) :
    k0_pay29 (F := Ideal) wk wq (ix2 i col) = MS kn qt a (8 * n + i.val) col := by
  pointwise [k0_pay29]
  rw [MS_low (by omega), rawS]
  exact Finset.sum_congr rfl fun x _ => by rw [hk, hq]

theorem pay30_eq (wk : Vec Ideal S512x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n + 512 ≤ 256 * a) (i : Fin 512) (col : Fin 512) :
    k0_pay30 (F := Ideal) wk wq (ix3 0 i col) = MS kn qt a (8 * n + i.val) col := by
  pointwise [k0_pay30]
  exact pay29_eq wk wq hk hq hn i col

/-- The running maxima after 512 more keys. -/
theorem pay31_eq (wk : Vec Ideal S512x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n + 512 ≤ 256 * a) (wm : Vec Ideal S1x8x512 .f32) (hm : ∀ r col, wm (ix3 0 r col) = mpP kn qt a n r col) (r : Fin 8) (col : Fin 512) :
    k0_pay31 (F := Ideal) wk wq wm (ix3 0 r col) = mpP kn qt a (n + 64) r col := by
  pointwise [k0_pay31]
  rw [hm, ninf, fold_max_bot, mpP, mpP, sup_range_add (m := 64)]
  refine congrArg (max _) (Finset.sup_congr rfl fun x _ => ?_)
  rw [pay29_eq wk wq hk hq hn]
  exact congrArg (fun z => MS kn qt a z col) (by show 8 * n + (x.val * 8 + r.val) = 8 * (n + x.val) + r.val; omega)

/-- The scores of 512 keys. -/
theorem pay60_eq (wk : Vec Ideal S512x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n + 512 ≤ 256 * a) (i : Fin 512) (col : Fin 512) :
    k0_pay60 (F := Ideal) wk wq (ix2 i col) = MS kn qt a (8 * n + i.val) col := by
  pointwise [k0_pay60]
  rw [MS_low (by omega), rawS]
  exact Finset.sum_congr rfl fun x _ => by rw [hk, hq]

theorem pay61_eq (wk : Vec Ideal S512x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n + 512 ≤ 256 * a) (i : Fin 512) (col : Fin 512) :
    k0_pay61 (F := Ideal) wk wq (ix3 0 i col) = MS kn qt a (8 * n + i.val) col := by
  pointwise [k0_pay61]
  exact pay60_eq wk wq hk hq hn i col

/-- The running maxima after 512 more keys. -/
theorem pay62_eq (wk : Vec Ideal S512x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n + 512 ≤ 256 * a) (wm : Vec Ideal S1x8x512 .f32) (hm : ∀ r col, wm (ix3 0 r col) = mpP kn qt a n r col) (r : Fin 8) (col : Fin 512) :
    k0_pay62 (F := Ideal) wk wq wm (ix3 0 r col) = mpP kn qt a (n + 64) r col := by
  pointwise [k0_pay62]
  rw [hm, ninf, fold_max_bot, mpP, mpP, sup_range_add (m := 64)]
  refine congrArg (max _) (Finset.sup_congr rfl fun x _ => ?_)
  rw [pay60_eq wk wq hk hq hn]
  exact congrArg (fun z => MS kn qt a z col) (by show 8 * n + (x.val * 8 + r.val) = 8 * (n + x.val) + r.val; omega)

/-- The scores of 256 keys. -/
theorem pay42_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n + 256 ≤ 256 * a) (i : Fin 256) (col : Fin 512) :
    k0_pay42 (F := Ideal) wk wq (ix2 i col) = MS kn qt a (8 * n + i.val) col := by
  pointwise [k0_pay42]
  rw [MS_low (by omega), rawS]
  exact Finset.sum_congr rfl fun x _ => by rw [hk, hq]

theorem pay43_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n + 256 ≤ 256 * a) (i : Fin 256) (col : Fin 512) :
    k0_pay43 (F := Ideal) wk wq (ix3 0 i col) = MS kn qt a (8 * n + i.val) col := by
  pointwise [k0_pay43]
  exact pay42_eq wk wq hk hq hn i col

/-- The running maxima after 256 more keys. -/
theorem pay44_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n + 256 ≤ 256 * a) (wm : Vec Ideal S1x8x512 .f32) (hm : ∀ r col, wm (ix3 0 r col) = mpP kn qt a n r col) (r : Fin 8) (col : Fin 512) :
    k0_pay44 (F := Ideal) wk wq wm (ix3 0 r col) = mpP kn qt a (n + 32) r col := by
  pointwise [k0_pay44]
  rw [hm, ninf, fold_max_bot, mpP, mpP, sup_range_add (m := 32)]
  refine congrArg (max _) (Finset.sup_congr rfl fun x _ => ?_)
  rw [pay42_eq wk wq hk hq hn]
  exact congrArg (fun z => MS kn qt a z col) (by show 8 * n + (x.val * 8 + r.val) = 8 * (n + x.val) + r.val; omega)

/-- The scores of 256 keys on the diagonal. -/
theorem pay45_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n = 256 * a) (i : Fin 256) (col : Fin 512) :
    k0_pay45 (F := Ideal) wk wq (ix2 i col) = MS kn qt a (8 * n + i.val) col := by
  pointwise [k0_pay45]
  rw [mask_eq, MS, ninf]
  have e : (∑ x, wk (ix2 i x) * wq (ix3 0 x col)) = rawS kn qt a (8 * n + i.val) col :=
    Finset.sum_congr rfl fun x _ => by rw [hk, hq]
  rw [e]
  by_cases h : i.val ≤ col.val % 256
  · rw [if_pos h, if_pos (by omega)]
  · rw [if_neg h, if_neg (by omega)]

theorem pay46_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n = 256 * a) (i : Fin 256) (col : Fin 512) :
    k0_pay46 (F := Ideal) wk wq (ix3 0 i col) = MS kn qt a (8 * n + i.val) col := by
  pointwise [k0_pay46]
  exact pay45_eq wk wq hk hq hn i col

/-- The running maxima after 256 more keys. -/
theorem pay47_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n = 256 * a) (wm : Vec Ideal S1x8x512 .f32) (hm : ∀ r col, wm (ix3 0 r col) = mpP kn qt a n r col) (r : Fin 8) (col : Fin 512) :
    k0_pay47 (F := Ideal) wk wq wm (ix3 0 r col) = mpP kn qt a (n + 32) r col := by
  pointwise [k0_pay47]
  rw [hm, ninf, fold_max_bot, mpP, mpP, sup_range_add (m := 32)]
  refine congrArg (max _) (Finset.sup_congr rfl fun x _ => ?_)
  rw [pay45_eq wk wq hk hq hn]
  exact congrArg (fun z => MS kn qt a z col) (by show 8 * n + (x.val * 8 + r.val) = 8 * (n + x.val) + r.val; omega)

/-- The scores of 256 keys on the diagonal. -/
theorem pay67_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n = 256 * a) (i : Fin 256) (col : Fin 512) :
    k0_pay67 (F := Ideal) wk wq (ix2 i col) = MS kn qt a (8 * n + i.val) col := by
  pointwise [k0_pay67]
  rw [mask_eq, MS, ninf]
  have e : (∑ x, wk (ix2 i x) * wq (ix3 0 x col)) = rawS kn qt a (8 * n + i.val) col :=
    Finset.sum_congr rfl fun x _ => by rw [hk, hq]
  rw [e]
  by_cases h : i.val ≤ col.val % 256
  · rw [if_pos h, if_pos (by omega)]
  · rw [if_neg h, if_neg (by omega)]

theorem pay68_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n = 256 * a) (i : Fin 256) (col : Fin 512) :
    k0_pay68 (F := Ideal) wk wq (ix3 0 i col) = MS kn qt a (8 * n + i.val) col := by
  pointwise [k0_pay68]
  exact pay67_eq wk wq hk hq hn i col

/-- The running maxima after 256 more keys. -/
theorem pay69_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n = 256 * a) (wm : Vec Ideal S1x8x512 .f32) (hm : ∀ r col, wm (ix3 0 r col) = mpP kn qt a n r col) (r : Fin 8) (col : Fin 512) :
    k0_pay69 (F := Ideal) wk wq wm (ix3 0 r col) = mpP kn qt a (n + 32) r col := by
  pointwise [k0_pay69]
  rw [hm, ninf, fold_max_bot, mpP, mpP, sup_range_add (m := 32)]
  refine congrArg (max _) (Finset.sup_congr rfl fun x _ => ?_)
  rw [pay67_eq wk wq hk hq hn]
  exact congrArg (fun z => MS kn qt a z col) (by show 8 * n + (x.val * 8 + r.val) = 8 * (n + x.val) + r.val; omega)

/-- The scores of 256 keys on the diagonal. -/
theorem pay113_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n = 256 * a) (i : Fin 256) (col : Fin 512) :
    k0_pay113 (F := Ideal) wk wq (ix2 i col) = MS kn qt a (8 * n + i.val) col := by
  pointwise [k0_pay113]
  rw [mask_eq, MS, ninf]
  have e : (∑ x, wk (ix2 i x) * wq (ix3 0 x col)) = rawS kn qt a (8 * n + i.val) col :=
    Finset.sum_congr rfl fun x _ => by rw [hk, hq]
  rw [e]
  by_cases h : i.val ≤ col.val % 256
  · rw [if_pos h, if_pos (by omega)]
  · rw [if_neg h, if_neg (by omega)]

theorem pay114_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n = 256 * a) (i : Fin 256) (col : Fin 512) :
    k0_pay114 (F := Ideal) wk wq (ix3 0 i col) = MS kn qt a (8 * n + i.val) col := by
  pointwise [k0_pay114]
  exact pay113_eq wk wq hk hq hn i col

/-- The running maxima after 256 more keys. -/
theorem pay115_eq (wk : Vec Ideal S256x128 .fp8e4m3) (wq : Vec Ideal S1x128x512 .fp8e4m3) {a n : ℕ}
    (hk : ∀ i x, wk (ix2 i x) = kn (ix2 (tok (8 * n + i.val)) x)) (hq : ∀ x col, wq (ix3 0 x col) = qzS qt a x col)
    (hn : 8 * n = 256 * a) (wm : Vec Ideal S1x8x512 .f32) (hm : ∀ r col, wm (ix3 0 r col) = mpP kn qt a n r col) (r : Fin 8) (col : Fin 512) :
    k0_pay115 (F := Ideal) wk wq wm (ix2 r col) = mpP kn qt a (n + 32) r col := by
  pointwise [k0_pay115]
  rw [hm, ninf, fold_max_bot, mpP, mpP, sup_range_add (m := 32)]
  refine congrArg (max _) (Finset.sup_congr rfl fun x _ => ?_)
  rw [pay113_eq wk wq hk hq hn]
  exact congrArg (fun z => MS kn qt a z col) (by show 8 * n + (x.val * 8 + r.val) = 8 * (n + x.val) + r.val; omega)

/-- The weights of 512 keys. -/
theorem pay6_eq (ws : Vec Ideal S1x512x512 .f32) (wm wc : Vec Ideal S1x8x512 .f32) {a n : ℕ}
    (hs : ∀ i col, ws (ix3 0 i col) = MS kn qt a (8 * n + i.val) col) (hm : ∀ r col, wm (ix3 0 r col) = mS kn qt a col)
    (hc : ∀ r col, wc (ix3 0 r col) = cv col)
    (g : Fin 64) (r : Fin 8) (col : Fin 512) :
    k0_pay6 (F := Ideal) ws wm wc (ix3 g r col) = pS kn qt cv a (8 * (n + g.val) + r.val) col := by
  pointwise [k0_pay6]
  rw [hs, hm, hc, pS]
  exact congrArg (fun z => FloatOps.exp2 (F := Ideal) (φ := .f32) ((MS kn qt a z col - mS kn qt a col) * cv col))
    (by show 8 * n + (g.val * 8 + r.val) = 8 * (n + g.val) + r.val; omega)

theorem pay8_eq (ws : Vec Ideal S1x512x512 .f32) (wm wc : Vec Ideal S1x8x512 .f32) {a n : ℕ}
    (hs : ∀ i col, ws (ix3 0 i col) = MS kn qt a (8 * n + i.val) col) (hm : ∀ r col, wm (ix3 0 r col) = mS kn qt a col)
    (hc : ∀ r col, wc (ix3 0 r col) = cv col)
    (i : Fin 512) (col : Fin 512) :
    k0_pay8 (F := Ideal) ws wm wc (ix2 i col) = pS kn qt cv a (8 * n + i.val) col := by
  pointwise [k0_pay8, k0_pay6]
  rw [hs, hm, hc, pS]

/-- The running sums of the weights after 512 more keys. -/
theorem pay7_eq (ws : Vec Ideal S1x512x512 .f32) (wm wc : Vec Ideal S1x8x512 .f32) {a n : ℕ}
    (hs : ∀ i col, ws (ix3 0 i col) = MS kn qt a (8 * n + i.val) col) (hm : ∀ r col, wm (ix3 0 r col) = mS kn qt a col)
    (hc : ∀ r col, wc (ix3 0 r col) = cv col)
    (l : Vec Ideal S8x512 .f32) (hl : ∀ r col, l (ix2 r col) = lpP kn qt cv a n r col) (r : Fin 8) (col : Fin 512) :
    k0_pay7 (F := Ideal) ws wm wc l (ix2 r col) = lpP kn qt cv a (n + 64) r col := by
  pointwise [k0_pay7]
  rw [hl, lpP.eq_1 kn qt cv a (n + 64), sum_range_add' (m := 64)]
  refine congrArg₂ (fun x y : EReal => x + y) rfl (Finset.sum_congr rfl fun x _ => ?_)
  exact pay6_eq ws wm wc hs hm hc x r col

/-- The running weighted sums of head 0 after 512 more keys. -/
theorem pay9_eq (ws : Vec Ideal S1x512x512 .f32) (wm wc : Vec Ideal S1x8x512 .f32) (P : FVec Ideal S512x512 .fp8e4m3) (hP : P = k0_pay8 (F := Ideal) ws wm wc) {a n : ℕ}
    (hp : ∀ (i : Fin 512) (col : Fin 512), P (ix2 i col) = pS kn qt cv a (8 * n + i.val) col)
    (wv : Vec Ideal S1x64x512 .fp8e4m3) (wo : Vec Ideal S64x256 .f32)
    (hv : ∀ (d : Fin 64) (i : Fin 512), wv (ix3 0 d i) = vt (ix3 0 (⟨d.val, by omega⟩ : Fin 128) (tok (8 * n + i.val))))
    (ho : ∀ (d : Fin 64) (q : Fin 256), wo (ix2 d q) = oP kn qt vt cv a (8 * n) (⟨d.val, by omega⟩ : Fin 128) q)
    (d : Fin 64) (q : Fin 256) :
    k0_pay9 (F := Ideal) ws wm wc wo wv (ix2 d q) = oP kn qt vt cv a (8 * (n + 64)) (⟨d.val, by omega⟩ : Fin 128) q := by
  pointwise [k0_pay9]
  simp only [← hP]
  rw [ho, oP, oP, show 8 * (n + 64) = 8 * n + 512 by omega, sum_range_add' (m := 512)]
  refine congrArg₂ (fun x y : EReal => x + y) rfl (Finset.sum_congr rfl fun x _ => ?_)
  rw [hv, hp]
  refine congrArg (fun z => _ * pS kn qt cv a _ z) (Fin.ext ?_)
  show q.val = 256 * ((d.val) / 64) + q.val
  omega

/-- The running weighted sums of head 1 after 512 more keys. -/
theorem pay28_eq (P : FVec Ideal S512x512 .fp8e4m3) {a n : ℕ}
    (hp : ∀ (i : Fin 512) (col : Fin 512), P (ix2 i col) = pS kn qt cv a (8 * n + i.val) col)
    (wv : Vec Ideal S1x64x512 .fp8e4m3) (wo : Vec Ideal S64x256 .f32)
    (hv : ∀ (d : Fin 64) (i : Fin 512), wv (ix3 0 d i) = vt (ix3 0 (⟨64 + d.val, by omega⟩ : Fin 128) (tok (8 * n + i.val))))
    (ho : ∀ (d : Fin 64) (q : Fin 256), wo (ix2 d q) = oP kn qt vt cv a (8 * n) (⟨64 + d.val, by omega⟩ : Fin 128) q)
    (d : Fin 64) (q : Fin 256) :
    k0_pay28 (F := Ideal) P wo wv (ix2 d q) = oP kn qt vt cv a (8 * (n + 64)) (⟨64 + d.val, by omega⟩ : Fin 128) q := by
  pointwise [k0_pay28]
  rw [ho, oP, oP, show 8 * (n + 64) = 8 * n + 512 by omega, sum_range_add' (m := 512)]
  refine congrArg₂ (fun x y : EReal => x + y) rfl (Finset.sum_congr rfl fun x _ => ?_)
  rw [hv, hp]
  refine congrArg (fun z => _ * pS kn qt cv a _ z) (Fin.ext ?_)
  show 256 + q.val = 256 * ((64 + d.val) / 64) + q.val
  omega

/-- The weights of 512 keys. -/
theorem pay14_eq (ws : Vec Ideal S1x512x512 .f32) (wm wc : Vec Ideal S1x8x512 .f32) {a n : ℕ}
    (hs : ∀ i col, ws (ix3 0 i col) = MS kn qt a (8 * n + i.val) col) (hm : ∀ r col, wm (ix3 0 r col) = mS kn qt a col)
    (hc : ∀ r col, wc (ix3 0 r col) = cv col)
    (g : Fin 64) (r : Fin 8) (col : Fin 512) :
    k0_pay14 (F := Ideal) ws wm wc (ix3 g r col) = pS kn qt cv a (8 * (n + g.val) + r.val) col := by
  pointwise [k0_pay14]
  rw [hs, hm, hc, pS]
  exact congrArg (fun z => FloatOps.exp2 (F := Ideal) (φ := .f32) ((MS kn qt a z col - mS kn qt a col) * cv col))
    (by show 8 * n + (g.val * 8 + r.val) = 8 * (n + g.val) + r.val; omega)

theorem pay16_eq (ws : Vec Ideal S1x512x512 .f32) (wm wc : Vec Ideal S1x8x512 .f32) {a n : ℕ}
    (hs : ∀ i col, ws (ix3 0 i col) = MS kn qt a (8 * n + i.val) col) (hm : ∀ r col, wm (ix3 0 r col) = mS kn qt a col)
    (hc : ∀ r col, wc (ix3 0 r col) = cv col)
    (i : Fin 512) (col : Fin 512) :
    k0_pay16 (F := Ideal) ws wm wc (ix2 i col) = pS kn qt cv a (8 * n + i.val) col := by
  pointwise [k0_pay16, k0_pay14]
  rw [hs, hm, hc, pS]

/-- The running sums of the weights after 512 more keys. -/
theorem pay15_eq (ws : Vec Ideal S1x512x512 .f32) (wm wc : Vec Ideal S1x8x512 .f32) {a n : ℕ}
    (hs : ∀ i col, ws (ix3 0 i col) = MS kn qt a (8 * n + i.val) col) (hm : ∀ r col, wm (ix3 0 r col) = mS kn qt a col)
    (hc : ∀ r col, wc (ix3 0 r col) = cv col)
    (l : Vec Ideal S8x512 .f32) (hl : ∀ r col, l (ix2 r col) = lpP kn qt cv a n r col) (r : Fin 8) (col : Fin 512) :
    k0_pay15 (F := Ideal) ws wm wc l (ix2 r col) = lpP kn qt cv a (n + 64) r col := by
  pointwise [k0_pay15]
  rw [hl, lpP.eq_1 kn qt cv a (n + 64), sum_range_add' (m := 64)]
  refine congrArg₂ (fun x y : EReal => x + y) rfl (Finset.sum_congr rfl fun x _ => ?_)
  exact pay14_eq ws wm wc hs hm hc x r col

/-- The running weighted sums of head 0 after 512 more keys. -/
theorem pay17_eq (ws : Vec Ideal S1x512x512 .f32) (wm wc : Vec Ideal S1x8x512 .f32) (P : FVec Ideal S512x512 .fp8e4m3) (hP : P = k0_pay16 (F := Ideal) ws wm wc) {a n : ℕ}
    (hp : ∀ (i : Fin 512) (col : Fin 512), P (ix2 i col) = pS kn qt cv a (8 * n + i.val) col)
    (wv : Vec Ideal S1x64x512 .fp8e4m3) (wo : Vec Ideal S64x256 .f32)
    (hv : ∀ (d : Fin 64) (i : Fin 512), wv (ix3 0 d i) = vt (ix3 0 (⟨d.val, by omega⟩ : Fin 128) (tok (8 * n + i.val))))
    (ho : ∀ (d : Fin 64) (q : Fin 256), wo (ix2 d q) = oP kn qt vt cv a (8 * n) (⟨d.val, by omega⟩ : Fin 128) q)
    (d : Fin 64) (q : Fin 256) :
    k0_pay17 (F := Ideal) ws wm wc wo wv (ix2 d q) = oP kn qt vt cv a (8 * (n + 64)) (⟨d.val, by omega⟩ : Fin 128) q := by
  pointwise [k0_pay17]
  simp only [← hP]
  rw [ho, oP, oP, show 8 * (n + 64) = 8 * n + 512 by omega, sum_range_add' (m := 512)]
  refine congrArg₂ (fun x y : EReal => x + y) rfl (Finset.sum_congr rfl fun x _ => ?_)
  rw [hv, hp]
  refine congrArg (fun z => _ * pS kn qt cv a _ z) (Fin.ext ?_)
  show q.val = 256 * ((d.val) / 64) + q.val
  omega

/-- The running weighted sums of head 1 after 512 more keys. -/
theorem pay59_eq (P : FVec Ideal S512x512 .fp8e4m3) {a n : ℕ}
    (hp : ∀ (i : Fin 512) (col : Fin 512), P (ix2 i col) = pS kn qt cv a (8 * n + i.val) col)
    (wv : Vec Ideal S1x64x512 .fp8e4m3) (wo : Vec Ideal S64x256 .f32)
    (hv : ∀ (d : Fin 64) (i : Fin 512), wv (ix3 0 d i) = vt (ix3 0 (⟨64 + d.val, by omega⟩ : Fin 128) (tok (8 * n + i.val))))
    (ho : ∀ (d : Fin 64) (q : Fin 256), wo (ix2 d q) = oP kn qt vt cv a (8 * n) (⟨64 + d.val, by omega⟩ : Fin 128) q)
    (d : Fin 64) (q : Fin 256) :
    k0_pay59 (F := Ideal) P wo wv (ix2 d q) = oP kn qt vt cv a (8 * (n + 64)) (⟨64 + d.val, by omega⟩ : Fin 128) q := by
  pointwise [k0_pay59]
  rw [ho, oP, oP, show 8 * (n + 64) = 8 * n + 512 by omega, sum_range_add' (m := 512)]
  refine congrArg₂ (fun x y : EReal => x + y) rfl (Finset.sum_congr rfl fun x _ => ?_)
  rw [hv, hp]
  refine congrArg (fun z => _ * pS kn qt cv a _ z) (Fin.ext ?_)
  show 256 + q.val = 256 * ((64 + d.val) / 64) + q.val
  omega

/-- The weights of 256 keys. -/
theorem pay36_eq (ws : Vec Ideal S1x256x512 .f32) (wm wc : Vec Ideal S1x8x512 .f32) {a n : ℕ}
    (hs : ∀ i col, ws (ix3 0 i col) = MS kn qt a (8 * n + i.val) col) (hm : ∀ r col, wm (ix3 0 r col) = mS kn qt a col)
    (hc : ∀ r col, wc (ix3 0 r col) = cv col)
    (g : Fin 32) (r : Fin 8) (col : Fin 512) :
    k0_pay36 (F := Ideal) ws wm wc (ix3 g r col) = pS kn qt cv a (8 * (n + g.val) + r.val) col := by
  pointwise [k0_pay36]
  rw [hs, hm, hc, pS]
  exact congrArg (fun z => FloatOps.exp2 (F := Ideal) (φ := .f32) ((MS kn qt a z col - mS kn qt a col) * cv col))
    (by show 8 * n + (g.val * 8 + r.val) = 8 * (n + g.val) + r.val; omega)

theorem pay38_eq (ws : Vec Ideal S1x256x512 .f32) (wm wc : Vec Ideal S1x8x512 .f32) {a n : ℕ}
    (hs : ∀ i col, ws (ix3 0 i col) = MS kn qt a (8 * n + i.val) col) (hm : ∀ r col, wm (ix3 0 r col) = mS kn qt a col)
    (hc : ∀ r col, wc (ix3 0 r col) = cv col)
    (i : Fin 256) (col : Fin 512) :
    k0_pay38 (F := Ideal) ws wm wc (ix2 i col) = pS kn qt cv a (8 * n + i.val) col := by
  pointwise [k0_pay38, k0_pay36]
  rw [hs, hm, hc, pS]

/-- The running sums of the weights after 256 more keys. -/
theorem pay37_eq (ws : Vec Ideal S1x256x512 .f32) (wm wc : Vec Ideal S1x8x512 .f32) {a n : ℕ}
    (hs : ∀ i col, ws (ix3 0 i col) = MS kn qt a (8 * n + i.val) col) (hm : ∀ r col, wm (ix3 0 r col) = mS kn qt a col)
    (hc : ∀ r col, wc (ix3 0 r col) = cv col)
    (l : Vec Ideal S8x512 .f32) (hl : ∀ r col, l (ix2 r col) = lpP kn qt cv a n r col) (r : Fin 8) (col : Fin 512) :
    k0_pay37 (F := Ideal) ws wm wc l (ix2 r col) = lpP kn qt cv a (n + 32) r col := by
  pointwise [k0_pay37]
  rw [hl, lpP.eq_1 kn qt cv a (n + 32), sum_range_add' (m := 32)]
  refine congrArg₂ (fun x y : EReal => x + y) rfl (Finset.sum_congr rfl fun x _ => ?_)
  exact pay36_eq ws wm wc hs hm hc x r col

/-- The running weighted sums of head 0 after 256 more keys. -/
theorem pay40_eq (ws : Vec Ideal S1x256x512 .f32) (wm wc : Vec Ideal S1x8x512 .f32) (P : FVec Ideal S256x512 .fp8e4m3) (hP : P = k0_pay38 (F := Ideal) ws wm wc) {a n : ℕ}
    (hp : ∀ (i : Fin 256) (col : Fin 512), P (ix2 i col) = pS kn qt cv a (8 * n + i.val) col)
    (wv : Vec Ideal S1x64x256 .fp8e4m3) (wo : Vec Ideal S64x256 .f32)
    (hv : ∀ (d : Fin 64) (i : Fin 256), wv (ix3 0 d i) = vt (ix3 0 (⟨d.val, by omega⟩ : Fin 128) (tok (8 * n + i.val))))
    (ho : ∀ (d : Fin 64) (q : Fin 256), wo (ix2 d q) = oP kn qt vt cv a (8 * n) (⟨d.val, by omega⟩ : Fin 128) q)
    (d : Fin 64) (q : Fin 256) :
    k0_pay40 (F := Ideal) wo (k0_pay39 (F := Ideal) ws wm wc wv) (ix2 d q) = oP kn qt vt cv a (8 * (n + 32)) (⟨d.val, by omega⟩ : Fin 128) q := by
  pointwise [k0_pay40, k0_pay39]
  simp only [← hP]
  rw [ho, oP, oP, show 8 * (n + 32) = 8 * n + 256 by omega, sum_range_add' (m := 256)]
  refine congrArg₂ (fun x y : EReal => x + y) rfl (Finset.sum_congr rfl fun x _ => ?_)
  rw [hv, hp]
  refine congrArg (fun z => _ * pS kn qt cv a _ z) (Fin.ext ?_)
  show q.val = 256 * ((d.val) / 64) + q.val
  omega

/-- The running weighted sums of head 1 after 256 more keys. -/
theorem pay41_eq (P : FVec Ideal S256x512 .fp8e4m3) {a n : ℕ}
    (hp : ∀ (i : Fin 256) (col : Fin 512), P (ix2 i col) = pS kn qt cv a (8 * n + i.val) col)
    (wv : Vec Ideal S1x64x256 .fp8e4m3) (wo : Vec Ideal S64x256 .f32)
    (hv : ∀ (d : Fin 64) (i : Fin 256), wv (ix3 0 d i) = vt (ix3 0 (⟨64 + d.val, by omega⟩ : Fin 128) (tok (8 * n + i.val))))
    (ho : ∀ (d : Fin 64) (q : Fin 256), wo (ix2 d q) = oP kn qt vt cv a (8 * n) (⟨64 + d.val, by omega⟩ : Fin 128) q)
    (d : Fin 64) (q : Fin 256) :
    k0_pay41 (F := Ideal) P wo wv (ix2 d q) = oP kn qt vt cv a (8 * (n + 32)) (⟨64 + d.val, by omega⟩ : Fin 128) q := by
  pointwise [k0_pay41]
  rw [ho, oP, oP, show 8 * (n + 32) = 8 * n + 256 by omega, sum_range_add' (m := 256)]
  refine congrArg₂ (fun x y : EReal => x + y) rfl (Finset.sum_congr rfl fun x _ => ?_)
  rw [hv, hp]
  refine congrArg (fun z => _ * pS kn qt cv a _ z) (Fin.ext ?_)
  show 256 + q.val = 256 * ((64 + d.val) / 64) + q.val
  omega

/-- The maxima of a block from its eight running maxima. -/
theorem pay2_eq (w : Vec Ideal S1x8x512 .f32) {a : ℕ} (hm : ∀ r col, w (ix3 0 r col) = mpP kn qt a (32 * (a + 1)) r col)
    (r : Fin 8) (col : Fin 512) : k0_pay2 (F := Ideal) w (ix3 0 r col) = mS kn qt a col := by
  pointwise [k0_pay2]
  rw [ninf, fold_max_bot, mS]
  exact Finset.sup_congr rfl fun x _ => hm x col

/-- The maxima of a block from its eight running maxima. -/
theorem pay50_eq (w : Vec Ideal S1x8x512 .f32) {a : ℕ} (hm : ∀ r col, w (ix3 0 r col) = mpP kn qt a (32 * (a + 1)) r col)
    (r : Fin 8) (col : Fin 512) : k0_pay50 (F := Ideal) w (ix3 0 r col) = mS kn qt a col := by
  pointwise [k0_pay50]
  rw [ninf, fold_max_bot, mS]
  exact Finset.sup_congr rfl fun x _ => hm x col

/-- The maxima of a block from its eight running maxima. -/
theorem pay72_eq (w : Vec Ideal S1x8x512 .f32) {a : ℕ} (hm : ∀ r col, w (ix3 0 r col) = mpP kn qt a (32 * (a + 1)) r col)
    (r : Fin 8) (col : Fin 512) : k0_pay72 (F := Ideal) w (ix3 0 r col) = mS kn qt a col := by
  pointwise [k0_pay72]
  rw [ninf, fold_max_bot, mS]
  exact Finset.sup_congr rfl fun x _ => hm x col

theorem pay3_eq (i) : k0_pay3 (F := Ideal) i = 0 := by
  pointwise [k0_pay3]

theorem pay51_eq (i) : k0_pay51 (F := Ideal) i = 0 := by
  pointwise [k0_pay51]

theorem pay73_eq (i) : k0_pay73 (F := Ideal) i = 0 := by
  pointwise [k0_pay73]

theorem pay4_eq (i) : k0_pay4 (F := Ideal) i = 0 := by
  pointwise [k0_pay4]

theorem pay52_eq (i) : k0_pay52 (F := Ideal) i = 0 := by
  pointwise [k0_pay52]

theorem pay74_eq (i) : k0_pay74 (F := Ideal) i = 0 := by
  pointwise [k0_pay74]

theorem pay5_eq (w : FVec Ideal S128x256 .f32) : k0_pay5 (F := Ideal) w = w := by
  funext i; rw [eq_ix2 i]; pointwise [k0_pay5]

theorem pay1_eq (w : FVec Ideal S8x512 .f32) (r : Fin 8) (col : Fin 512) : k0_pay1 (F := Ideal) w (ix3 0 r col) = w (ix2 r col) := by
  pointwise [k0_pay1]

theorem pay24_eq (d : Fin 64) (q : Fin 256) : k0_pay24 (F := Ideal) (ix3 0 d q) = 0 := by
  pointwise! [k0_pay24, k0_pay22, k0_pay53, k0_pay107]
  exact Ideal.ofBits_zero .fp8e4m3

theorem pay25_eq (d : Fin 64) (q : Fin 256) : k0_pay25 (F := Ideal) (ix3 0 d q) = 0 := by
  pointwise! [k0_pay25, k0_pay22, k0_pay53, k0_pay107]
  exact Ideal.ofBits_zero .fp8e4m3

theorem pay55_eq (d : Fin 64) (q : Fin 256) : k0_pay55 (F := Ideal) (ix3 0 d q) = 0 := by
  pointwise! [k0_pay55, k0_pay22, k0_pay53, k0_pay107]
  exact Ideal.ofBits_zero .fp8e4m3

theorem pay56_eq (d : Fin 64) (q : Fin 256) : k0_pay56 (F := Ideal) (ix3 0 d q) = 0 := by
  pointwise! [k0_pay56, k0_pay22, k0_pay53, k0_pay107]
  exact Ideal.ofBits_zero .fp8e4m3

theorem pay109_eq (d : Fin 64) (q : Fin 256) : k0_pay109 (F := Ideal) (ix3 0 d q) = 0 := by
  pointwise! [k0_pay109, k0_pay22, k0_pay53, k0_pay107]
  exact Ideal.ofBits_zero .fp8e4m3

theorem pay110_eq (d : Fin 64) (q : Fin 256) : k0_pay110 (F := Ideal) (ix3 0 d q) = 0 := by
  pointwise! [k0_pay110, k0_pay22, k0_pay53, k0_pay107]
  exact Ideal.ofBits_zero .fp8e4m3

theorem pay23_eq (w : Vec Ideal S1x64x256 .fp8e4m3) (d : Fin 64) (q : Fin 256) :
    k0_pay23 (F := Ideal) w (ix3 0 d q) = w (ix3 0 d q) := by
  pointwise [k0_pay23]

theorem pay26_eq (w : Vec Ideal S1x64x256 .fp8e4m3) (d : Fin 64) (q : Fin 256) :
    k0_pay26 (F := Ideal) w (ix3 0 d q) = w (ix3 0 d q) := by
  pointwise [k0_pay26]

theorem pay54_eq (w : Vec Ideal S1x64x256 .fp8e4m3) (d : Fin 64) (q : Fin 256) :
    k0_pay54 (F := Ideal) w (ix3 0 d q) = w (ix3 0 d q) := by
  pointwise [k0_pay54]

theorem pay57_eq (w : Vec Ideal S1x64x256 .fp8e4m3) (d : Fin 64) (q : Fin 256) :
    k0_pay57 (F := Ideal) w (ix3 0 d q) = w (ix3 0 d q) := by
  pointwise [k0_pay57]

theorem pay108_eq (w : Vec Ideal S1x64x256 .fp8e4m3) (d : Fin 64) (q : Fin 256) :
    k0_pay108 (F := Ideal) w (ix3 0 d q) = w (ix3 0 d q) := by
  pointwise [k0_pay108]

theorem pay111_eq (w : Vec Ideal S1x64x256 .fp8e4m3) (d : Fin 64) (q : Fin 256) :
    k0_pay111 (F := Ideal) w (ix3 0 d q) = w (ix3 0 d q) := by
  pointwise [k0_pay111]

theorem pay27_eq (r : Fin 8) (col : Fin 512) : k0_pay27 (F := Ideal) (ix3 0 r col) = ⊥ := by
  pointwise [k0_pay27]
  exact ninf

theorem pay58_eq (r : Fin 8) (col : Fin 512) : k0_pay58 (F := Ideal) (ix3 0 r col) = ⊥ := by
  pointwise [k0_pay58]
  exact ninf

theorem pay112_eq (r : Fin 8) (col : Fin 512) : k0_pay112 (F := Ideal) (ix3 0 r col) = ⊥ := by
  pointwise [k0_pay112]
  exact ninf

theorem pay48_eq (w : Vec Ideal S8x512 .f32) (v : Vec Ideal S1x1x512 .f32) (col : Fin 512) :
    k0_pay48 (F := Ideal) w v (ix2 0 col) = Ideal.div (v (ix3 0 0 col)) (∑ r, w (ix2 r col)) := by
  pointwise [k0_pay48]

/-- The rows of the result a block stores. -/
theorem pay49_eq (w : Vec Ideal S8x512 .f32) (v : Vec Ideal S1x1x512 .f32) (o1 o2 : Vec Ideal S64x256 .f32) {a : ℕ}
    {vv : Fin 512 → EReal} (hv : ∀ col, v (ix3 0 0 col) = vv col)
    (hl : ∀ r col, w (ix2 r col) = lpP kn qt cv a (32 * (a + 1)) r col)
    (h1 : ∀ (d : Fin 64) (q : Fin 256), o1 (ix2 d q) = oP kn qt vt cv a (256 * (a + 1)) (⟨d.val, by omega⟩ : Fin 128) q)
    (h2 : ∀ (d : Fin 64) (q : Fin 256), o2 (ix2 d q) = oP kn qt vt cv a (256 * (a + 1)) (⟨64 + d.val, by omega⟩ : Fin 128) q)
    (q : Fin 256) (d : Fin 128) :
    k0_pay49 (F := Ideal) (k0_pay48 (F := Ideal) w v) o1 o2 (ix3 0 q d) = outS kn qt vt cv vv a d q := by
  pointwise [k0_pay49]
  have hr : ∀ col, k0_pay48 (F := Ideal) w v (ix2 0 col) = Ideal.div (vv col) (∑ r : Fin 8, lpP kn qt cv a (32 * (a + 1)) r col) := by
    intro col; rw [pay48_eq, hv]; exact congrArg _ (Finset.sum_congr rfl fun r _ => hl r col)
  simp only [hr]
  by_cases h : d.val < 64
  · rw [dif_pos h, h1, outS]
    have e : colOf d q = ⟨q.val, by omega⟩ := Fin.ext (by show 256 * (d.val / 64) + q.val = q.val; omega)
    rw [e]
  · rw [dif_neg h, h2, outS]
    have e : colOf d q = ⟨256 + q.val, by omega⟩ := Fin.ext (by show 256 * (d.val / 64) + q.val = 256 + q.val; omega)
    have e' : (⟨64 + (d.val - 64), by omega⟩ : Fin 128) = d := Fin.ext (by show 64 + (d.val - 64) = d.val; omega)
    rw [e]; simp only [e']

/-- The rows of the result the second block of a pair stores. -/
theorem pay71_eq (w : Vec Ideal S8x512 .f32) (v : Vec Ideal S1x1x512 .f32) (o1 o2 : Vec Ideal S64x256 .f32) {a : ℕ}
    {vv : Fin 512 → EReal} (hv : ∀ col, v (ix3 0 0 col) = vv col)
    (hl : ∀ r col, w (ix2 r col) = lpP kn qt cv a (32 * (a + 1)) r col)
    (h1 : ∀ (d : Fin 64) (q : Fin 256), o1 (ix2 d q) = oP kn qt vt cv a (256 * (a + 1)) (⟨d.val, by omega⟩ : Fin 128) q)
    (h2 : ∀ (d : Fin 64) (q : Fin 256), o2 (ix2 d q) = oP kn qt vt cv a (256 * (a + 1)) (⟨64 + d.val, by omega⟩ : Fin 128) q)
    (q : Fin 256) (d : Fin 128) :
    k0_pay71 (F := Ideal) (k0_pay70 (F := Ideal) w) v o1 o2 (ix3 0 q d) = outS kn qt vt cv vv a d q := by
  pointwise [k0_pay71, k0_pay70]
  have hr : ∀ col, (∑ r : Fin 8, w (ix2 r col)) = ∑ r : Fin 8, lpP kn qt cv a (32 * (a + 1)) r col := by
    intro col; exact Finset.sum_congr rfl fun r _ => hl r col
  simp only [hr, hv]
  by_cases h : d.val < 64
  · rw [dif_pos h, h1, outS]
    have e : colOf d q = ⟨q.val, by omega⟩ := Fin.ext (by show 256 * (d.val / 64) + q.val = q.val; omega)
    rw [e]
  · rw [dif_neg h, h2, outS]
    have e : colOf d q = ⟨256 + q.val, by omega⟩ := Fin.ext (by show 256 * (d.val / 64) + q.val = 256 + q.val; omega)
    have e' : (⟨64 + (d.val - 64), by omega⟩ : Fin 128) = d := Fin.ext (by show 64 + (d.val - 64) = d.val; omega)
    rw [e]; simp only [e']

end Cert.KernelIdeal.Hand
-- ==== Proof.TripA.lean ====
/-
  One trip of the inner loop of the first half of a pair of query blocks: block `2 * k.val` attends to 512 more keys and the scores of
  block `2 * k.val + 1` with the same keys are computed.
-/
module

public import proofs.«01_k».proof.Proof.Gen.KernelIdeal.Frame
public import proofs.«01_k».proof.Proof.Gen.KernelIdeal.Skeleton
public import proofs.«01_k».proof.Proof.Windows
public import proofs.«01_k».proof.Proof.Payloads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Before trip `n`: what the buffers the loop reads hold is unchanged, the loop's results so far are those of the first
    `512 n` keys. -/
abbrev invA (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X8 : BufTy.Contents (Elt Ideal) arg8.view.ty) (X12 : BufTy.Contents (Elt Ideal) arg12.view.ty) (X14 : BufTy.Contents (Elt Ideal) arg14.view.ty) (X15 : BufTy.Contents (Elt Ideal) arg15.view.ty) (X17 : BufTy.Contents (Elt Ideal) arg17.view.ty) (kn : Vec Ideal S8192x128 .fp8e4m3) (qt vt : Vec Ideal S1x128x8192 .fp8e4m3) (cv : Fin 512 → EReal) (k : Fin k0_t7_loop.trips) (n : ℕ) : sProp 𝕄 :=
  iprop((arg8.view.loc (c : Thread nD τ) ↦[arg8.view.set]{fullShare} X8) ∗ (arg12.view.loc (c : Thread nD τ) ↦[arg12.view.set]{fullShare} X12) ∗ (arg14.view.loc (c : Thread nD τ) ↦[arg14.view.set]{fullShare} X14) ∗ (arg15.view.loc (c : Thread nD τ) ↦[arg15.view.set]{fullShare} X15) ∗ (arg17.view.loc (c : Thread nD τ) ↦[arg17.view.set]{fullShare} X17) ∗ (∃ f, (arg13.view.loc (c : Thread nD τ) ↦[arg13.view.set]{fullShare} f) ∗ ⌜(∀ (key : Fin 8192) (col : Fin 512), key.val < 512 * k.val + 256 → arg13.view.read (Elt Ideal) f (ix3 0 key col) = MS kn qt (2 * k.val) key.val col) ∧ (∀ (key : Fin 8192) (col : Fin 512), key.val < 512 * n → arg13.view.read (Elt Ideal) f (ix3 1 key col) = MS kn qt (2 * k.val + 1) key.val col)⌝) ∗ (∃ f, (arg16.view.loc (c : Thread nD τ) ↦[arg16.view.set]{fullShare} f) ∗ ⌜∀ (r : Fin 8) (col : Fin 512), arg16.view.read (Elt Ideal) f (ix3 1 r col) = mpP kn qt (2 * k.val + 1) (64 * n) r col⌝) ∗ (∃ f, (arg18.view.loc (c : Thread nD τ) ↦[arg18.view.set]{fullShare} f) ∗ ⌜∀ (r : Fin 8) (col : Fin 512), arg18.view.read (Elt Ideal) f (ix2 r col) = lpP kn qt cv (2 * k.val) (64 * n) r col⌝) ∗ (∃ f, (arg19.view.loc (c : Thread nD τ) ↦[arg19.view.set]{fullShare} f) ∗ ⌜∀ (d : Fin 128) (q : Fin 256), arg19.view.read (Elt Ideal) f (ix2 d q) = oP kn qt vt cv (2 * k.val) (8 * (64 * n)) d q⌝))

set_option maxHeartbeats 2000000 in
/-- One trip preserves it. -/
theorem stepA (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X8 : BufTy.Contents (Elt Ideal) arg8.view.ty) (X12 : BufTy.Contents (Elt Ideal) arg12.view.ty) (X14 : BufTy.Contents (Elt Ideal) arg14.view.ty) (X15 : BufTy.Contents (Elt Ideal) arg15.view.ty) (X17 : BufTy.Contents (Elt Ideal) arg17.view.ty) (kn : Vec Ideal S8192x128 .fp8e4m3) (qt vt : Vec Ideal S1x128x8192 .fp8e4m3) (cv : Fin 512 → EReal) (k : Fin k0_t7_loop.trips) (v277 : BitVec 32) (c0_i32_173 : BitVec 32) (c0_i32_174 : BitVec 32) (v304 : BitVec 32)
    (h8 : arg8.view.read (Elt Ideal) X8 = vt) (h12 : arg12.view.read (Elt Ideal) X12 = kn)
    (h14 : ∀ (x : Fin 128) (col : Fin 512), arg14.view.read (Elt Ideal) X14 (ix3 1 x col) = qzS qt (2 * k.val + 1) x col)
    (h15 : ∀ (r : Fin 8) (col : Fin 512), arg15.view.read (Elt Ideal) X15 (ix3 0 r col) = cv col)
    (h17 : ∀ (r : Fin 8) (col : Fin 512), arg17.view.read (Elt Ideal) X17 (ix3 0 r col) = mS kn qt (2 * k.val) col)
    (j : Fin (k0_t8_loop k).trips) (acc : BitVec 32) :
    invA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k j.val ⊢ wp frame (wpE (defs₀ (F := Ideal)) Variants.none (c : Thread nD τ) none) Set.univ
      (k0_t8_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v277 c0_i32_173 c0_i32_174 v304 j acc) (fun _ => invA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k (j.val + 1)) := by
  have hj : j.val < k.val := by have := j.isLt; have e := trips8 k; omega
  have hk : k.val < 16 := by have := k.isLt; have e := trips7; omega
  unfold k0_t8_body invA
  iintro ⟨H8, H12, H14, H15, H17, ⟨%f13, H13, %hf13⟩, ⟨%f16, H16, %hf16⟩, ⟨%f18, H18, %hf18⟩, ⟨%f19, H19, %hf19⟩⟩
  simp only [k0_part1_eq_skeleton, k0_part3_eq_skeleton]
  sl_exec
  sl_step
  subst h8 h12
  have hs : ∀ (i : Fin 512) (col : Fin 512), (arg13.view.readAt (Elt Ideal) (Rect.unit (s := S2x8192x512) (k0_off13 k j) S1x512x512.size (k0_off13_inb k j)).toLoadRect f13) (ix3 0 i col) = MS (arg12.view.read (Elt Ideal) X12) qt (2 * k.val) (8 * (64 * j.val) + i.val) col := by
    intro i col
    refine (rd3 arg13.view f13 _ (off13_at k j) 0 i col 0 ⟨512 * j.val + i.val, by omega⟩ col rfl rfl (by simp)).trans ?_
    rw [hf13.1 _ _ (by show 512 * j.val + i.val < _; omega)]
    exact congrArg (fun z => MS _ qt (2 * k.val) z col) (by show 512 * j.val + i.val = _; omega)
  have hm : ∀ (r : Fin 8) (col : Fin 512), (arg17.view.readAt (Elt Ideal) (Rect.unit (s := S2x8x512) ![0, 0, 0] S1x8x512.size inb_S2x8x512_S1x8x512_0_0_0).toLoadRect X17) (ix3 0 r col) = mS (arg12.view.read (Elt Ideal) X12) qt (2 * k.val) col := fun r col =>
    (rd3 arg17.view X17 _ rfl 0 r col 0 r col rfl (by simp) (by simp)).trans (h17 r col)
  have hc' : ∀ (r : Fin 8) (col : Fin 512), (arg15.view.readAt (Elt Ideal) (Rect.unit (s := S2x8x512) ![0, 0, 0] S1x8x512.size inb_S2x8x512_S1x8x512_0_0_0).toLoadRect X15) (ix3 0 r col) = cv col := fun r col =>
    (rd3 arg15.view X15 _ rfl 0 r col 0 r col rfl (by simp) (by simp)).trans (h15 r col)
  have hwk : ∀ (i : Fin 512) (x : Fin 128), (arg12.view.readAt (Elt Ideal) (Rect.unit (s := S8192x128) (k0_off16 k j) S512x128.size (k0_off16_inb k j)).toLoadRect X12) (ix2 i x) = (arg12.view.read (Elt Ideal) X12) (ix2 (tok (8 * (64 * j.val) + i.val)) x) := fun i x =>
    rd2 arg12.view X12 _ (off16_at k j) i x _ x (by have e : (tok (8 * (64 * j.val) + i.val)).val = 8 * (64 * j.val) + i.val := congrArg Fin.val (tok_of_lt (by omega)); omega) (by simp)
  have hv0 : ∀ (d : Fin 64) (i : Fin 512), (arg8.view.readAt (Elt Ideal) (Rect.unit (s := S1x128x8192) (k0_off14 k j) S1x64x512.size (k0_off14_inb k j)).toLoadRect X8) (ix3 0 d i) = (arg8.view.read (Elt Ideal) X8) (ix3 0 (⟨d.val, by omega⟩ : Fin 128) (tok (8 * (64 * j.val) + i.val))) := fun d i =>
    rd3 arg8.view X8 _ (off14_at k j) 0 d i 0 _ _ rfl (by simp) (by have e : (tok (8 * (64 * j.val) + i.val)).val = 8 * (64 * j.val) + i.val := congrArg Fin.val (tok_of_lt (by omega)); omega)
  have hv1 : ∀ (d : Fin 64) (i : Fin 512), (arg8.view.readAt (Elt Ideal) (Rect.unit (s := S1x128x8192) (k0_off15 k j) S1x64x512.size (k0_off15_inb k j)).toLoadRect X8) (ix3 0 d i) = (arg8.view.read (Elt Ideal) X8) (ix3 0 (⟨64 + d.val, by omega⟩ : Fin 128) (tok (8 * (64 * j.val) + i.val))) := fun d i =>
    rd3 arg8.view X8 _ (off15_at k j) 0 d i 0 _ _ rfl rfl (by have e : (tok (8 * (64 * j.val) + i.val)).val = 8 * (64 * j.val) + i.val := congrArg Fin.val (tok_of_lt (by omega)); omega)
  have ho0 : ∀ (d : Fin 64) (q : Fin 256), (arg19.view.readAt (Elt Ideal) (Rect.unit (s := S128x256) ![0, 0] S64x256.size inb_S128x256_S64x256_0_0).toLoadRect f19) (ix2 d q) = oP (arg12.view.read (Elt Ideal) X12) qt (arg8.view.read (Elt Ideal) X8) cv (2 * k.val) (8 * (64 * j.val)) (⟨d.val, by omega⟩ : Fin 128) q := fun d q =>
    (rd2 arg19.view f19 _ rfl d q (⟨d.val, by omega⟩ : Fin 128) q (by simp) (by simp)).trans (hf19 _ q)
  have ho1 : ∀ (d : Fin 64) (q : Fin 256), (arg19.view.readAt (Elt Ideal) (Rect.unit (s := S128x256) ![64, 0] S64x256.size inb_S128x256_S64x256_64_0).toLoadRect f19) (ix2 d q) = oP (arg12.view.read (Elt Ideal) X12) qt (arg8.view.read (Elt Ideal) X8) cv (2 * k.val) (8 * (64 * j.val)) (⟨64 + d.val, by omega⟩ : Fin 128) q := fun d q =>
    (rd2 arg19.view f19 _ rfl d q (⟨64 + d.val, by omega⟩ : Fin 128) q rfl (by simp)).trans (hf19 _ q)
  have hl : ∀ (r : Fin 8) (col : Fin 512), arg18.view.readAt (Elt Ideal) (Rect.unit (s := S8x512) ![0, 0] S8x512.size inb_S8x512_S8x512_0_0).toLoadRect f18 (ix2 r col) = lpP (arg12.view.read (Elt Ideal) X12) qt cv (2 * k.val) (64 * j.val) r col := fun r col =>
    (rd2 arg18.view f18 _ rfl r col r col (by simp) (by simp)).trans (hf18 r col)
  have hp := pay8_eq (arg13.view.readAt (Elt Ideal) (Rect.unit (s := S2x8192x512) (k0_off13 k j) S1x512x512.size (k0_off13_inb k j)).toLoadRect f13) (arg17.view.readAt (Elt Ideal) (Rect.unit (s := S2x8x512) ![0, 0, 0] S1x8x512.size inb_S2x8x512_S1x8x512_0_0_0).toLoadRect X17) (arg15.view.readAt (Elt Ideal) (Rect.unit (s := S2x8x512) ![0, 0, 0] S1x8x512.size inb_S2x8x512_S1x8x512_0_0_0).toLoadRect X15) hs hm hc'
  have e64 : 64 * (j.val + 1) = 64 * j.val + 64 := by omega
  isplitl [H8]
  · iexact H8
  isplitl [H12]
  · iexact H12
  isplitl [H14]
  · iexact H14
  isplitl [H15]
  · iexact H15
  isplitl [H17]
  · iexact H17
  isplitl [H13]
  · iexists _
    isplitl [H13]
    · iexact H13
    · ipureintro
      refine ⟨fun key col hkey => ?_, fun key col hkey => ?_⟩
      · refine (wr3_out arg13.view f13 _ (off17_at k j) _ [] 0 key col (by rintro ⟨⟨h1, h2⟩, -, -⟩; revert h1 h2; decide)).trans ?_
        exact hf13.1 key col hkey
      · have hwq : ∀ (x : Fin 128) (col : Fin 512), (arg14.view.readAt (Elt Ideal) (Rect.unit (s := S2x128x512) ![1, 0, 0] S1x128x512.size inb_S2x128x512_S1x128x512_1_0_0).toLoadRect X14) (ix3 0 x col) = qzS qt (2 * k.val + 1) x col := fun x col =>
          (rd3 arg14.view X14 _ rfl 0 x col 1 x col rfl (by simp) (by simp)).trans (h14 x col)
        by_cases hlt : key.val < 512 * j.val
        · refine (wr3_out arg13.view f13 _ (off17_at k j) _ [] 1 key col (by rintro ⟨-, ⟨h1, h2⟩, -⟩; omega)).trans ?_
          exact hf13.2 key col hlt
        · refine (wr3_in arg13.view f13 _ (off17_at k j) _ [] 1 key col 0 ⟨key.val - 512 * j.val, by omega⟩ col rfl (by simp only []; omega) (by simp)).trans ?_
          refine (pay30_eq (arg12.view.readAt (Elt Ideal) (Rect.unit (s := S8192x128) (k0_off16 k j) S512x128.size (k0_off16_inb k j)).toLoadRect X12) (arg14.view.readAt (Elt Ideal) (Rect.unit (s := S2x128x512) ![1, 0, 0] S1x128x512.size inb_S2x128x512_S1x128x512_1_0_0).toLoadRect X14) hwk hwq (by omega) _ col).trans ?_
          exact congrArg (fun z => MS _ qt (2 * k.val + 1) z col) (by simp only []; omega)
  isplitl [H16]
  · iexists _
    isplitl [H16]
    · iexact H16
    · ipureintro
      intro r col
      have hwq : ∀ (x : Fin 128) (col : Fin 512), (arg14.view.readAt (Elt Ideal) (Rect.unit (s := S2x128x512) ![1, 0, 0] S1x128x512.size inb_S2x128x512_S1x128x512_1_0_0).toLoadRect X14) (ix3 0 x col) = qzS qt (2 * k.val + 1) x col := fun x col =>
        (rd3 arg14.view X14 _ rfl 0 x col 1 x col rfl (by simp) (by simp)).trans (h14 x col)
      have hmp : ∀ (r : Fin 8) (col : Fin 512), (arg16.view.readAt (Elt Ideal) (Rect.unit (s := S2x8x512) ![1, 0, 0] S1x8x512.size inb_S2x8x512_S1x8x512_1_0_0).toLoadRect f16) (ix3 0 r col) = mpP (arg12.view.read (Elt Ideal) X12) qt (2 * k.val + 1) (64 * j.val) r col := fun r col =>
        (rd3 arg16.view f16 _ rfl 0 r col 1 r col rfl (by simp) (by simp)).trans (hf16 r col)
      refine (wr3_in arg16.view f16 _ rfl _ [] 1 r col 0 r col rfl (by simp) (by simp)).trans ?_
      rw [e64]
      exact pay31_eq (arg12.view.readAt (Elt Ideal) (Rect.unit (s := S8192x128) (k0_off16 k j) S512x128.size (k0_off16_inb k j)).toLoadRect X12) (arg14.view.readAt (Elt Ideal) (Rect.unit (s := S2x128x512) ![1, 0, 0] S1x128x512.size inb_S2x128x512_S1x128x512_1_0_0).toLoadRect X14) hwk hwq (by omega) (arg16.view.readAt (Elt Ideal) (Rect.unit (s := S2x8x512) ![1, 0, 0] S1x8x512.size inb_S2x8x512_S1x8x512_1_0_0).toLoadRect f16) hmp r col
  isplitl [H18]
  · iexists _
    isplitl [H18]
    · iexact H18
    · ipureintro
      intro r col
      refine (wr2_in arg18.view f18 _ rfl _ [] r col r col (by simp) (by simp)).trans ?_
      rw [e64]
      exact pay7_eq (arg13.view.readAt (Elt Ideal) (Rect.unit (s := S2x8192x512) (k0_off13 k j) S1x512x512.size (k0_off13_inb k j)).toLoadRect f13) (arg17.view.readAt (Elt Ideal) (Rect.unit (s := S2x8x512) ![0, 0, 0] S1x8x512.size inb_S2x8x512_S1x8x512_0_0_0).toLoadRect X17) (arg15.view.readAt (Elt Ideal) (Rect.unit (s := S2x8x512) ![0, 0, 0] S1x8x512.size inb_S2x8x512_S1x8x512_0_0_0).toLoadRect X15) hs hm hc' _ hl r col
  · iexists _
    isplitl [H19]
    · iexact H19
    · ipureintro
      intro d q
      rw [e64]
      by_cases hd : d.val < 64
      · refine (wr2_out arg19.view f19 _ rfl _ _ d q (by rintro ⟨⟨h1, h2⟩, -⟩; omega)).trans ?_
        refine (wr2_in arg19.view f19 _ rfl _ [] d q ⟨d.val, hd⟩ q (by simp) (by simp)).trans ?_
        exact pay9_eq (arg13.view.readAt (Elt Ideal) (Rect.unit (s := S2x8192x512) (k0_off13 k j) S1x512x512.size (k0_off13_inb k j)).toLoadRect f13) (arg17.view.readAt (Elt Ideal) (Rect.unit (s := S2x8x512) ![0, 0, 0] S1x8x512.size inb_S2x8x512_S1x8x512_0_0_0).toLoadRect X17) (arg15.view.readAt (Elt Ideal) (Rect.unit (s := S2x8x512) ![0, 0, 0] S1x8x512.size inb_S2x8x512_S1x8x512_0_0_0).toLoadRect X15) _ rfl hp (arg8.view.readAt (Elt Ideal) (Rect.unit (s := S1x128x8192) (k0_off14 k j) S1x64x512.size (k0_off14_inb k j)).toLoadRect X8) (arg19.view.readAt (Elt Ideal) (Rect.unit (s := S128x256) ![0, 0] S64x256.size inb_S128x256_S64x256_0_0).toLoadRect f19) hv0 ho0 ⟨d.val, hd⟩ q
      · refine (wr2_in arg19.view f19 _ rfl _ _ d q ⟨d.val - 64, by omega⟩ q (by simp only []; omega) (by simp)).trans ?_
        refine (pay28_eq _ hp (arg8.view.readAt (Elt Ideal) (Rect.unit (s := S1x128x8192) (k0_off15 k j) S1x64x512.size (k0_off15_inb k j)).toLoadRect X8) (arg19.view.readAt (Elt Ideal) (Rect.unit (s := S128x256) ![64, 0] S64x256.size inb_S128x256_S64x256_64_0).toLoadRect f19) hv1 ho1 ⟨d.val - 64, by omega⟩ q).trans ?_
        exact congrArg (fun z => oP _ qt _ cv (2 * k.val) _ z q) (Fin.ext (by show 64 + (d.val - 64) = d.val; omega))

end Cert.KernelIdeal.Hand

end
-- ==== Proof.TripB.lean ====
/-
  One trip of the inner loop of the second half of a pair of query blocks: block `2 * k.val + 1` attends to 512 more keys and the scores of
  block `2 * k.val + 2` with the same keys are computed.
-/
module

public import proofs.«01_k».proof.Proof.Gen.KernelIdeal.Frame
public import proofs.«01_k».proof.Proof.Gen.KernelIdeal.Skeleton
public import proofs.«01_k».proof.Proof.Windows
public import proofs.«01_k».proof.Proof.Payloads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Before trip `n`: what the buffers the loop reads hold is unchanged, the loop's results so far are those of the first
    `512 n` keys. -/
abbrev invB (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X8 : BufTy.Contents (Elt Ideal) arg8.view.ty) (X12 : BufTy.Contents (Elt Ideal) arg12.view.ty) (X14 : BufTy.Contents (Elt Ideal) arg14.view.ty) (X15 : BufTy.Contents (Elt Ideal) arg15.view.ty) (X17 : BufTy.Contents (Elt Ideal) arg17.view.ty) (kn : Vec Ideal S8192x128 .fp8e4m3) (qt vt : Vec Ideal S1x128x8192 .fp8e4m3) (cv : Fin 512 → EReal) (k : Fin k0_t7_loop.trips) (n : ℕ) : sProp 𝕄 :=
  iprop((arg8.view.loc (c : Thread nD τ) ↦[arg8.view.set]{fullShare} X8) ∗ (arg12.view.loc (c : Thread nD τ) ↦[arg12.view.set]{fullShare} X12) ∗ (arg14.view.loc (c : Thread nD τ) ↦[arg14.view.set]{fullShare} X14) ∗ (arg15.view.loc (c : Thread nD τ) ↦[arg15.view.set]{fullShare} X15) ∗ (arg17.view.loc (c : Thread nD τ) ↦[arg17.view.set]{fullShare} X17) ∗ (∃ f, (arg13.view.loc (c : Thread nD τ) ↦[arg13.view.set]{fullShare} f) ∗ ⌜(∀ (key : Fin 8192) (col : Fin 512), key.val < 512 * k.val + 512 → arg13.view.read (Elt Ideal) f (ix3 1 key col) = MS kn qt (2 * k.val + 1) key.val col) ∧ (k.val + 1 < 16 → ∀ (key : Fin 8192) (col : Fin 512), key.val < 512 * n → arg13.view.read (Elt Ideal) f (ix3 0 key col) = MS kn qt (2 * k.val + 2) key.val col)⌝) ∗ (∃ f, (arg16.view.loc (c : Thread nD τ) ↦[arg16.view.set]{fullShare} f) ∗ ⌜k.val + 1 < 16 → ∀ (r : Fin 8) (col : Fin 512), arg16.view.read (Elt Ideal) f (ix3 0 r col) = mpP kn qt (2 * k.val + 2) (64 * n) r col⌝) ∗ (∃ f, (arg18.view.loc (c : Thread nD τ) ↦[arg18.view.set]{fullShare} f) ∗ ⌜∀ (r : Fin 8) (col : Fin 512), arg18.view.read (Elt Ideal) f (ix2 r col) = lpP kn qt cv (2 * k.val + 1) (64 * n) r col⌝) ∗ (∃ f, (arg19.view.loc (c : Thread nD τ) ↦[arg19.view.set]{fullShare} f) ∗ ⌜∀ (d : Fin 128) (q : Fin 256), arg19.view.read (Elt Ideal) f (ix2 d q) = oP kn qt vt cv (2 * k.val + 1) (8 * (64 * n)) d q⌝))

set_option maxHeartbeats 2000000 in
/-- One trip preserves it. -/
theorem stepB (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X8 : BufTy.Contents (Elt Ideal) arg8.view.ty) (X12 : BufTy.Contents (Elt Ideal) arg12.view.ty) (X14 : BufTy.Contents (Elt Ideal) arg14.view.ty) (X15 : BufTy.Contents (Elt Ideal) arg15.view.ty) (X17 : BufTy.Contents (Elt Ideal) arg17.view.ty) (kn : Vec Ideal S8192x128 .fp8e4m3) (qt vt : Vec Ideal S1x128x8192 .fp8e4m3) (cv : Fin 512 → EReal) (k : Fin k0_t7_loop.trips) (v277 : BitVec 32) (v443 : BitVec 32) (c0_i32_289 : BitVec 32) (c0_i32_290 : BitVec 32) (v470 : BitVec 32)
    (h8 : arg8.view.read (Elt Ideal) X8 = vt) (h12 : arg12.view.read (Elt Ideal) X12 = kn)
    (h14 : k.val + 1 < 16 → ∀ (x : Fin 128) (col : Fin 512), arg14.view.read (Elt Ideal) X14 (ix3 0 x col) = qzS qt (2 * k.val + 2) x col)
    (h15 : ∀ (r : Fin 8) (col : Fin 512), arg15.view.read (Elt Ideal) X15 (ix3 0 r col) = cv col)
    (h17 : ∀ (r : Fin 8) (col : Fin 512), arg17.view.read (Elt Ideal) X17 (ix3 1 r col) = mS kn qt (2 * k.val + 1) col)
    (j : Fin (k0_t10_loop k).trips) (acc : BitVec 32) :
    invB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k j.val ⊢ wp frame (wpE (defs₀ (F := Ideal)) Variants.none (c : Thread nD τ) none) Set.univ
      (k0_t10_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v277 v443 c0_i32_289 c0_i32_290 v470 j acc) (fun _ => invB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k (j.val + 1)) := by
  have hj : j.val < k.val + 1 := by have := j.isLt; have e := trips10 k; omega
  have hk : k.val < 16 := by have := k.isLt; have e := trips7; omega
  unfold k0_t10_body invB
  iintro ⟨H8, H12, H14, H15, H17, ⟨%f13, H13, %hf13⟩, ⟨%f16, H16, %hf16⟩, ⟨%f18, H18, %hf18⟩, ⟨%f19, H19, %hf19⟩⟩
  simp only [k0_part1_eq_skeleton, k0_part3_eq_skeleton]
  sl_exec
  sl_step
  subst h8 h12
  have hs : ∀ (i : Fin 512) (col : Fin 512), (arg13.view.readAt (Elt Ideal) (Rect.unit (s := S2x8192x512) (k0_off33 k j) S1x512x512.size (k0_off33_inb k j)).toLoadRect f13) (ix3 0 i col) = MS (arg12.view.read (Elt Ideal) X12) qt (2 * k.val + 1) (8 * (64 * j.val) + i.val) col := by
    intro i col
    refine (rd3 arg13.view f13 _ (off33_at k j) 0 i col 1 ⟨512 * j.val + i.val, by omega⟩ col rfl rfl (by simp)).trans ?_
    rw [hf13.1 _ _ (by show 512 * j.val + i.val < _; omega)]
    exact congrArg (fun z => MS _ qt (2 * k.val + 1) z col) (by show 512 * j.val + i.val = _; omega)
  have hm : ∀ (r : Fin 8) (col : Fin 512), (arg17.view.readAt (Elt Ideal) (Rect.unit (s := S2x8x512) ![1, 0, 0] S1x8x512.size inb_S2x8x512_S1x8x512_1_0_0).toLoadRect X17) (ix3 0 r col) = mS (arg12.view.read (Elt Ideal) X12) qt (2 * k.val + 1) col := fun r col =>
    (rd3 arg17.view X17 _ rfl 0 r col 1 r col rfl (by simp) (by simp)).trans (h17 r col)
  have hc' : ∀ (r : Fin 8) (col : Fin 512), (arg15.view.readAt (Elt Ideal) (Rect.unit (s := S2x8x512) ![0, 0, 0] S1x8x512.size inb_S2x8x512_S1x8x512_0_0_0).toLoadRect X15) (ix3 0 r col) = cv col := fun r col =>
    (rd3 arg15.view X15 _ rfl 0 r col 0 r col rfl (by simp) (by simp)).trans (h15 r col)
  have hwk : ∀ (i : Fin 512) (x : Fin 128), (arg12.view.readAt (Elt Ideal) (Rect.unit (s := S8192x128) (k0_off36 k j) S512x128.size (k0_off36_inb k j)).toLoadRect X12) (ix2 i x) = (arg12.view.read (Elt Ideal) X12) (ix2 (tok (8 * (64 * j.val) + i.val)) x) := fun i x =>
    rd2 arg12.view X12 _ (off36_at k j) i x _ x (by have e : (tok (8 * (64 * j.val) + i.val)).val = 8 * (64 * j.val) + i.val := congrArg Fin.val (tok_of_lt (by omega)); omega) (by simp)
  have hv0 : ∀ (d : Fin 64) (i : Fin 512), (arg8.view.readAt (Elt Ideal) (Rect.unit (s := S1x128x8192) (k0_off34 k j) S1x64x512.size (k0_off34_inb k j)).toLoadRect X8) (ix3 0 d i) = (arg8.view.read (Elt Ideal) X8) (ix3 0 (⟨d.val, by omega⟩ : Fin 128) (tok (8 * (64 * j.val) + i.val))) := fun d i =>
    rd3 arg8.view X8 _ (off34_at k j) 0 d i 0 _ _ rfl (by simp) (by have e : (tok (8 * (64 * j.val) + i.val)).val = 8 * (64 * j.val) + i.val := congrArg Fin.val (tok_of_lt (by omega)); omega)
  have hv1 : ∀ (d : Fin 64) (i : Fin 512), (arg8.view.readAt (Elt Ideal) (Rect.unit (s := S1x128x8192) (k0_off35 k j) S1x64x512.size (k0_off35_inb k j)).toLoadRect X8) (ix3 0 d i) = (arg8.view.read (Elt Ideal) X8) (ix3 0 (⟨64 + d.val, by omega⟩ : Fin 128) (tok (8 * (64 * j.val) + i.val))) := fun d i =>
    rd3 arg8.view X8 _ (off35_at k j) 0 d i 0 _ _ rfl rfl (by have e : (tok (8 * (64 * j.val) + i.val)).val = 8 * (64 * j.val) + i.val := congrArg Fin.val (tok_of_lt (by omega)); omega)
  have ho0 : ∀ (d : Fin 64) (q : Fin 256), (arg19.view.readAt (Elt Ideal) (Rect.unit (s := S128x256) ![0, 0] S64x256.size inb_S128x256_S64x256_0_0).toLoadRect f19) (ix2 d q) = oP (arg12.view.read (Elt Ideal) X12) qt (arg8.view.read (Elt Ideal) X8) cv (2 * k.val + 1) (8 * (64 * j.val)) (⟨d.val, by omega⟩ : Fin 128) q := fun d q =>
    (rd2 arg19.view f19 _ rfl d q (⟨d.val, by omega⟩ : Fin 128) q (by simp) (by simp)).trans (hf19 _ q)
  have ho1 : ∀ (d : Fin 64) (q : Fin 256), (arg19.view.readAt (Elt Ideal) (Rect.unit (s := S128x256) ![64, 0] S64x256.size inb_S128x256_S64x256_64_0).toLoadRect f19) (ix2 d q) = oP (arg12.view.read (Elt Ideal) X12) qt (arg8.view.read (Elt Ideal) X8) cv (2 * k.val + 1) (8 * (64 * j.val)) (⟨64 + d.val, by omega⟩ : Fin 128) q := fun d q =>
    (rd2 arg19.view f19 _ rfl d q (⟨64 + d.val, by omega⟩ : Fin 128) q rfl (by simp)).trans (hf19 _ q)
  have hl : ∀ (r : Fin 8) (col : Fin 512), arg18.view.readAt (Elt Ideal) (Rect.unit (s := S8x512) ![0, 0] S8x512.size inb_S8x512_S8x512_0_0).toLoadRect f18 (ix2 r col) = lpP (arg12.view.read (Elt Ideal) X12) qt cv (2 * k.val + 1) (64 * j.val) r col := fun r col =>
    (rd2 arg18.view f18 _ rfl r col r col (by simp) (by simp)).trans (hf18 r col)
  have hp := pay16_eq (arg13.view.readAt (Elt Ideal) (Rect.unit (s := S2x8192x512) (k0_off33 k j) S1x512x512.size (k0_off33_inb k j)).toLoadRect f13) (arg17.view.readAt (Elt Ideal) (Rect.unit (s := S2x8x512) ![1, 0, 0] S1x8x512.size inb_S2x8x512_S1x8x512_1_0_0).toLoadRect X17) (arg15.view.readAt (Elt Ideal) (Rect.unit (s := S2x8x512) ![0, 0, 0] S1x8x512.size inb_S2x8x512_S1x8x512_0_0_0).toLoadRect X15) hs hm hc'
  have e64 : 64 * (j.val + 1) = 64 * j.val + 64 := by omega
  isplitl [H8]
  · iexact H8
  isplitl [H12]
  · iexact H12
  isplitl [H14]
  · iexact H14
  isplitl [H15]
  · iexact H15
  isplitl [H17]
  · iexact H17
  isplitl [H13]
  · iexists _
    isplitl [H13]
    · iexact H13
    · ipureintro
      refine ⟨fun key col hkey => ?_, fun hc key col hkey => ?_⟩
      · refine (wr3_out arg13.view f13 _ (off37_at k j) _ [] 1 key col (by rintro ⟨⟨h1, h2⟩, -, -⟩; revert h1 h2; decide)).trans ?_
        exact hf13.1 key col hkey
      · have hwq : ∀ (x : Fin 128) (col : Fin 512), (arg14.view.readAt (Elt Ideal) (Rect.unit (s := S2x128x512) ![0, 0, 0] S1x128x512.size inb_S2x128x512_S1x128x512_0_0_0).toLoadRect X14) (ix3 0 x col) = qzS qt (2 * k.val + 2) x col := fun x col =>
          (rd3 arg14.view X14 _ rfl 0 x col 0 x col rfl (by simp) (by simp)).trans (h14 hc x col)
        by_cases hlt : key.val < 512 * j.val
        · refine (wr3_out arg13.view f13 _ (off37_at k j) _ [] 0 key col (by rintro ⟨-, ⟨h1, h2⟩, -⟩; omega)).trans ?_
          exact hf13.2 hc key col hlt
        · refine (wr3_in arg13.view f13 _ (off37_at k j) _ [] 0 key col 0 ⟨key.val - 512 * j.val, by omega⟩ col rfl (by simp only []; omega) (by simp)).trans ?_
          refine (pay61_eq (arg12.view.readAt (Elt Ideal) (Rect.unit (s := S8192x128) (k0_off36 k j) S512x128.size (k0_off36_inb k j)).toLoadRect X12) (arg14.view.readAt (Elt Ideal) (Rect.unit (s := S2x128x512) ![0, 0, 0] S1x128x512.size inb_S2x128x512_S1x128x512_0_0_0).toLoadRect X14) hwk hwq (by omega) _ col).trans ?_
          exact congrArg (fun z => MS _ qt (2 * k.val + 2) z col) (by simp only []; omega)
  isplitl [H16]
  · iexists _
    isplitl [H16]
    · iexact H16
    · ipureintro
      intro hc r col
      have hwq : ∀ (x : Fin 128) (col : Fin 512), (arg14.view.readAt (Elt Ideal) (Rect.unit (s := S2x128x512) ![0, 0, 0] S1x128x512.size inb_S2x128x512_S1x128x512_0_0_0).toLoadRect X14) (ix3 0 x col) = qzS qt (2 * k.val + 2) x col := fun x col =>
        (rd3 arg14.view X14 _ rfl 0 x col 0 x col rfl (by simp) (by simp)).trans (h14 hc x col)
      have hmp : ∀ (r : Fin 8) (col : Fin 512), (arg16.view.readAt (Elt Ideal) (Rect.unit (s := S2x8x512) ![0, 0, 0] S1x8x512.size inb_S2x8x512_S1x8x512_0_0_0).toLoadRect f16) (ix3 0 r col) = mpP (arg12.view.read (Elt Ideal) X12) qt (2 * k.val + 2) (64 * j.val) r col := fun r col =>
        (rd3 arg16.view f16 _ rfl 0 r col 0 r col rfl (by simp) (by simp)).trans (hf16 hc r col)
      refine (wr3_in arg16.view f16 _ rfl _ [] 0 r col 0 r col rfl (by simp) (by simp)).trans ?_
      rw [e64]
      exact pay62_eq (arg12.view.readAt (Elt Ideal) (Rect.unit (s := S8192x128) (k0_off36 k j) S512x128.size (k0_off36_inb k j)).toLoadRect X12) (arg14.view.readAt (Elt Ideal) (Rect.unit (s := S2x128x512) ![0, 0, 0] S1x128x512.size inb_S2x128x512_S1x128x512_0_0_0).toLoadRect X14) hwk hwq (by omega) (arg16.view.readAt (Elt Ideal) (Rect.unit (s := S2x8x512) ![0, 0, 0] S1x8x512.size inb_S2x8x512_S1x8x512_0_0_0).toLoadRect f16) hmp r col
  isplitl [H18]
  · iexists _
    isplitl [H18]
    · iexact H18
    · ipureintro
      intro r col
      refine (wr2_in arg18.view f18 _ rfl _ [] r col r col (by simp) (by simp)).trans ?_
      rw [e64]
      exact pay15_eq (arg13.view.readAt (Elt Ideal) (Rect.unit (s := S2x8192x512) (k0_off33 k j) S1x512x512.size (k0_off33_inb k j)).toLoadRect f13) (arg17.view.readAt (Elt Ideal) (Rect.unit (s := S2x8x512) ![1, 0, 0] S1x8x512.size inb_S2x8x512_S1x8x512_1_0_0).toLoadRect X17) (arg15.view.readAt (Elt Ideal) (Rect.unit (s := S2x8x512) ![0, 0, 0] S1x8x512.size inb_S2x8x512_S1x8x512_0_0_0).toLoadRect X15) hs hm hc' _ hl r col
  · iexists _
    isplitl [H19]
    · iexact H19
    · ipureintro
      intro d q
      rw [e64]
      by_cases hd : d.val < 64
      · refine (wr2_out arg19.view f19 _ rfl _ _ d q (by rintro ⟨⟨h1, h2⟩, -⟩; omega)).trans ?_
        refine (wr2_in arg19.view f19 _ rfl _ [] d q ⟨d.val, hd⟩ q (by simp) (by simp)).trans ?_
        exact pay17_eq (arg13.view.readAt (Elt Ideal) (Rect.unit (s := S2x8192x512) (k0_off33 k j) S1x512x512.size (k0_off33_inb k j)).toLoadRect f13) (arg17.view.readAt (Elt Ideal) (Rect.unit (s := S2x8x512) ![1, 0, 0] S1x8x512.size inb_S2x8x512_S1x8x512_1_0_0).toLoadRect X17) (arg15.view.readAt (Elt Ideal) (Rect.unit (s := S2x8x512) ![0, 0, 0] S1x8x512.size inb_S2x8x512_S1x8x512_0_0_0).toLoadRect X15) _ rfl hp (arg8.view.readAt (Elt Ideal) (Rect.unit (s := S1x128x8192) (k0_off34 k j) S1x64x512.size (k0_off34_inb k j)).toLoadRect X8) (arg19.view.readAt (Elt Ideal) (Rect.unit (s := S128x256) ![0, 0] S64x256.size inb_S128x256_S64x256_0_0).toLoadRect f19) hv0 ho0 ⟨d.val, hd⟩ q
      · refine (wr2_in arg19.view f19 _ rfl _ _ d q ⟨d.val - 64, by omega⟩ q (by simp only []; omega) (by simp)).trans ?_
        refine (pay59_eq _ hp (arg8.view.readAt (Elt Ideal) (Rect.unit (s := S1x128x8192) (k0_off35 k j) S1x64x512.size (k0_off35_inb k j)).toLoadRect X8) (arg19.view.readAt (Elt Ideal) (Rect.unit (s := S128x256) ![64, 0] S64x256.size inb_S128x256_S64x256_64_0).toLoadRect f19) hv1 ho1 ⟨d.val - 64, by omega⟩ q).trans ?_
        exact congrArg (fun z => oP _ qt _ cv (2 * k.val + 1) _ z q) (Fin.ext (by show 64 + (d.val - 64) = d.val; omega))

end Cert.KernelIdeal.Hand

end
-- ==== Proof.PairValue.lean ====
/-
  One trip of the loop over pairs of query blocks: the blocks `2 k` and `2 k + 1` are finished and the scores of block
  `2 k + 2` are computed.
-/
module

public import proofs.«01_k».proof.Proof.TripA
public import proofs.«01_k».proof.Proof.TripB
public import proofs.«01_k».proof.Proof.Quadrants
public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The invariant of the inner loop with the query block and the maxima named by what they hold. -/
abbrev innerA (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X8 : BufTy.Contents (Elt Ideal) arg8.view.ty) (X12 : BufTy.Contents (Elt Ideal) arg12.view.ty) (X15 : BufTy.Contents (Elt Ideal) arg15.view.ty) (kn : Vec Ideal S8192x128 .fp8e4m3) (qt vt : Vec Ideal S1x128x8192 .fp8e4m3) (cv : Fin 512 → EReal) (k : Fin k0_t7_loop.trips) (n : ℕ) : sProp 𝕄 :=
  iprop(∃ X14, ∃ X17, invA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k n ∗ ⌜(∀ (x : Fin 128) (col : Fin 512), arg14.view.read (Elt Ideal) X14 (ix3 1 x col) = qzS qt (2 * k.val + 1) x col) ∧ (∀ (r : Fin 8) (col : Fin 512), arg17.view.read (Elt Ideal) X17 (ix3 0 r col) = mS kn qt (2 * k.val) col)⌝)

theorem innerA_step (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X8 : BufTy.Contents (Elt Ideal) arg8.view.ty) (X12 : BufTy.Contents (Elt Ideal) arg12.view.ty) (X15 : BufTy.Contents (Elt Ideal) arg15.view.ty) (kn : Vec Ideal S8192x128 .fp8e4m3) (qt vt : Vec Ideal S1x128x8192 .fp8e4m3) (cv : Fin 512 → EReal) (k : Fin k0_t7_loop.trips) (v277 : BitVec 32) (c0_i32_173 : BitVec 32) (c0_i32_174 : BitVec 32) (v304 : BitVec 32)
    (h8 : arg8.view.read (Elt Ideal) X8 = vt) (h12 : arg12.view.read (Elt Ideal) X12 = kn)
    (h15 : ∀ (r : Fin 8) (col : Fin 512), arg15.view.read (Elt Ideal) X15 (ix3 0 r col) = cv col)
    (j : Fin (k0_t8_loop k).trips) (acc : BitVec 32) :
    innerA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 kn qt vt cv k j.val ⊢ wp frame (wpE (defs₀ (F := Ideal)) Variants.none (c : Thread nD τ) none) Set.univ
      (k0_t8_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v277 c0_i32_173 c0_i32_174 v304 j acc) (fun _ => innerA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 kn qt vt cv k (j.val + 1)) := by
  iintro ⟨%X14, %X17, H, %hp⟩
  have hmono : ∀ _ : BitVec 32, invA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k (j.val + 1) ⊢ innerA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 kn qt vt cv k (j.val + 1) := by
    intro _
    iintro H
    iexists X14, X17
    isplitl [H]
    · iexact H
    · ipureintro
      exact hp
  iapply ((stepA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k v277 c0_i32_173 c0_i32_174 v304 h8 h12 hp.1 h15 hp.2 j acc).trans (wp_mono frame _ _ hmono)) $$ H

/-- The invariant of the inner loop with the query block and the maxima named by what they hold. -/
abbrev innerB (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X8 : BufTy.Contents (Elt Ideal) arg8.view.ty) (X12 : BufTy.Contents (Elt Ideal) arg12.view.ty) (X15 : BufTy.Contents (Elt Ideal) arg15.view.ty) (kn : Vec Ideal S8192x128 .fp8e4m3) (qt vt : Vec Ideal S1x128x8192 .fp8e4m3) (cv : Fin 512 → EReal) (k : Fin k0_t7_loop.trips) (n : ℕ) : sProp 𝕄 :=
  iprop(∃ X14, ∃ X17, invB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k n ∗ ⌜(k.val + 1 < 16 → ∀ (x : Fin 128) (col : Fin 512), arg14.view.read (Elt Ideal) X14 (ix3 0 x col) = qzS qt (2 * k.val + 2) x col) ∧ (∀ (r : Fin 8) (col : Fin 512), arg17.view.read (Elt Ideal) X17 (ix3 1 r col) = mS kn qt (2 * k.val + 1) col)⌝)

theorem innerB_step (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X8 : BufTy.Contents (Elt Ideal) arg8.view.ty) (X12 : BufTy.Contents (Elt Ideal) arg12.view.ty) (X15 : BufTy.Contents (Elt Ideal) arg15.view.ty) (kn : Vec Ideal S8192x128 .fp8e4m3) (qt vt : Vec Ideal S1x128x8192 .fp8e4m3) (cv : Fin 512 → EReal) (k : Fin k0_t7_loop.trips) (v277 : BitVec 32) (v443 : BitVec 32) (c0_i32_289 : BitVec 32) (c0_i32_290 : BitVec 32) (v470 : BitVec 32)
    (h8 : arg8.view.read (Elt Ideal) X8 = vt) (h12 : arg12.view.read (Elt Ideal) X12 = kn)
    (h15 : ∀ (r : Fin 8) (col : Fin 512), arg15.view.read (Elt Ideal) X15 (ix3 0 r col) = cv col)
    (j : Fin (k0_t10_loop k).trips) (acc : BitVec 32) :
    innerB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 kn qt vt cv k j.val ⊢ wp frame (wpE (defs₀ (F := Ideal)) Variants.none (c : Thread nD τ) none) Set.univ
      (k0_t10_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v277 v443 c0_i32_289 c0_i32_290 v470 j acc) (fun _ => innerB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 kn qt vt cv k (j.val + 1)) := by
  iintro ⟨%X14, %X17, H, %hp⟩
  have hmono : ∀ _ : BitVec 32, invB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k (j.val + 1) ⊢ innerB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 kn qt vt cv k (j.val + 1) := by
    intro _
    iintro H
    iexists X14, X17
    isplitl [H]
    · iexact H
    · ipureintro
      exact hp
  iapply ((stepB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X14 X15 X17 kn qt vt cv k v277 v443 c0_i32_289 c0_i32_290 v470 h8 h12 hp.1 h15 hp.2 j acc).trans (wp_mono frame _ _ hmono)) $$ H

/-- Before trip `n`: the first `512 n` rows of the output are written, block `2 n` has its scores and their maxima, and the
    running sums are zero. -/
abbrev invP (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X6 : BufTy.Contents (Elt Ideal) arg6.view.ty) (X8 : BufTy.Contents (Elt Ideal) arg8.view.ty) (X12 : BufTy.Contents (Elt Ideal) arg12.view.ty) (X15 : BufTy.Contents (Elt Ideal) arg15.view.ty) (kn : Vec Ideal S8192x128 .fp8e4m3) (qt vt : Vec Ideal S1x128x8192 .fp8e4m3) (cv : Fin 512 → EReal) (vv : Fin 512 → EReal) (n : ℕ) : sProp 𝕄 :=
  iprop((arg6.view.loc (c : Thread nD τ) ↦[arg6.view.set]{fullShare} X6) ∗ (arg8.view.loc (c : Thread nD τ) ↦[arg8.view.set]{fullShare} X8) ∗ (arg12.view.loc (c : Thread nD τ) ↦[arg12.view.set]{fullShare} X12) ∗ (arg15.view.loc (c : Thread nD τ) ↦[arg15.view.set]{fullShare} X15) ∗ (∃ f, (arg5.view.loc (c : Thread nD τ) ↦[arg5.view.set]{fullShare} f) ∗ ⌜∀ (t : Fin 8192) (d : Fin 128), t.val < 512 * n → arg5.view.read (Elt Ideal) f (ix3 0 t d) = outS kn qt vt cv vv (t.val / 256) d ⟨t.val % 256, Nat.mod_lt _ (by decide)⟩⌝) ∗ (∃ f, (arg13.view.loc (c : Thread nD τ) ↦[arg13.view.set]{fullShare} f) ∗ ⌜n < 16 → ∀ (key : Fin 8192) (col : Fin 512), key.val < 512 * n + 256 → arg13.view.read (Elt Ideal) f (ix3 0 key col) = MS kn qt (2 * n) key.val col⌝) ∗ (∃ f, (arg14.view.loc (c : Thread nD τ) ↦[arg14.view.set]{fullShare} f)) ∗ (∃ f, (arg16.view.loc (c : Thread nD τ) ↦[arg16.view.set]{fullShare} f)) ∗ (∃ f, (arg17.view.loc (c : Thread nD τ) ↦[arg17.view.set]{fullShare} f) ∗ ⌜n < 16 → ∀ (r : Fin 8) (col : Fin 512), arg17.view.read (Elt Ideal) f (ix3 0 r col) = mS kn qt (2 * n) col⌝) ∗ (∃ f, (arg18.view.loc (c : Thread nD τ) ↦[arg18.view.set]{fullShare} f) ∗ ⌜∀ (r : Fin 8) (col : Fin 512), arg18.view.read (Elt Ideal) f (ix2 r col) = 0⌝) ∗ (∃ f, (arg19.view.loc (c : Thread nD τ) ↦[arg19.view.set]{fullShare} f) ∗ ⌜∀ (d : Fin 128) (q : Fin 256), arg19.view.read (Elt Ideal) f (ix2 d q) = 0⌝))

set_option maxHeartbeats 4000000 in
/-- One trip preserves it. -/
theorem stepP (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole) (X6 : BufTy.Contents (Elt Ideal) arg6.view.ty) (X8 : BufTy.Contents (Elt Ideal) arg8.view.ty) (X12 : BufTy.Contents (Elt Ideal) arg12.view.ty) (X15 : BufTy.Contents (Elt Ideal) arg15.view.ty) (kn : Vec Ideal S8192x128 .fp8e4m3) (qt vt : Vec Ideal S1x128x8192 .fp8e4m3) (cv : Fin 512 → EReal) (vv : Fin 512 → EReal)
    (h6 : arg6.view.read (Elt Ideal) X6 = qt) (h8 : arg8.view.read (Elt Ideal) X8 = vt) (h12 : arg12.view.read (Elt Ideal) X12 = kn)
    (h15 : ∀ (r : Fin 8) (col : Fin 512), arg15.view.read (Elt Ideal) X15 (ix3 0 r col) = cv col)
    (h15' : ∀ (r : Fin 8) (col : Fin 512), arg15.view.read (Elt Ideal) X15 (ix3 1 r col) = vv col)
    (k : Fin k0_t7_loop.trips) (acc : Unit) :
    invP c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X6 X8 X12 X15 kn qt vt cv vv k.val ⊢ wp frame (wpE (defs₀ (F := Ideal)) Variants.none (c : Thread nD τ) none) Set.univ
      (k0_t7_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc) (fun _ => invP c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X6 X8 X12 X15 kn qt vt cv vv (k.val + 1)) := by
  have hk : k.val < 16 := by have := k.isLt; have e := trips7; omega
  unfold k0_t7_body invP
  iintro ⟨H6, H8, H12, H15, ⟨%f5, H5, %hf5⟩, ⟨%f13, H13, %hf13⟩, ⟨%f14, H14⟩, ⟨%f16, H16⟩, ⟨%f17, H17, %hf17⟩, ⟨%f18, H18, %hf18⟩, ⟨%f19, H19, %hf19⟩⟩
  simp only [k0_part5_eq_skeleton, k0_part6_eq_skeleton, k0_part7_eq_skeleton, k0_part8_eq_skeleton, k0_part9_eq_skeleton, k0_part10_eq_skeleton, k0_part11_eq_skeleton, k0_part12_eq_skeleton]
  sl_exec
  sl_for (fun n _ => innerA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 kn qt vt cv k n) $$ [H8 H12 H14 H15 H17 H13 H16 H18 H19]
  · intro j acc
    exact innerA_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 kn qt vt cv k _ _ _ _ h8 h12 h15 j acc
  · iexists _, f17
    isplitl [H8 H12 H14 H15 H17 H13 H16 H18 H19]
    · isplitl [H8]
      · iexact H8
      isplitl [H12]
      · iexact H12
      isplitl [H14]
      · iexact H14
      isplitl [H15]
      · iexact H15
      isplitl [H17]
      · iexact H17
      isplitl [H13]
      · iexists _
        isplitl [H13]
        · iexact H13
        · ipureintro
          exact ⟨fun key col h => hf13 hk key col (by omega), fun key col h => absurd h (by omega)⟩
      isplitl [H16]
      · iexists _
        isplitl [H16]
        · iexact H16
        · ipureintro
          intro r col
          refine (wr3_in arg16.view _ _ rfl _ [] 1 r col 0 r col rfl (by simp) (by simp)).trans ?_
          exact (pay27_eq r col).trans (by simp [mpP])
      isplitl [H18]
      · iexists _
        isplitl [H18]
        · iexact H18
        · ipureintro
          intro r col
          exact (hf18 r col).trans (by simp [lpP])
      · iexists _
        isplitl [H19]
        · iexact H19
        · ipureintro
          intro d q
          exact (hf19 d q).trans (by simp [oP])
    · ipureintro
      refine ⟨fun x col => ?_, fun r col => hf17 hk r col⟩
      clear hf5 hf13 hf17 hf18 hf19
      refine quadrants arg14.view _ qt _ 1 _ _ _ _ rfl rfl rfl rfl _ _ _ _ (fun d q => ?_) pay25_eq pay24_eq (fun d q => ?_) x col
      · refine (pay26_eq _ d q).trans ?_
        subst h6
        refine rd3 arg6.view X6 _ (off12_at k) 0 d q 0 _ _ rfl rfl ?_
        have e : (tok (256 * (2 * k.val + 1) + q.val)).val = 256 * (2 * k.val + 1) + q.val := congrArg Fin.val (tok_of_lt (by omega))
        omega
      · refine (pay23_eq _ d q).trans ?_
        subst h6
        refine rd3 arg6.view X6 _ (off11_at k) 0 d q 0 _ _ rfl (by simp) ?_
        have e : (tok (256 * (2 * k.val + 1) + q.val)).val = 256 * (2 * k.val + 1) + q.val := congrArg Fin.val (tok_of_lt (by omega))
        omega
  · iintro %acc1 HI
    sl_for0 (trips9 k)
    icases HI with ⟨%X14, %X17, ⟨H8, H12, H14, H15, H17, ⟨%g13, H13, %hg13⟩, ⟨%g16, H16, %hg16⟩, ⟨%g18, H18, %hg18⟩, ⟨%g19, H19, %hg19⟩⟩, %hA⟩
    sl_exec
    subst h6 h8 h12
    have e8 : Scf.trips (k0_t8_loop k).lb (k0_t8_loop k).ub (k0_t8_loop k).st = k.val := trips8 k
    rw [e8] at hg13 hg16 hg18 hg19
    have hs : ∀ (i : Fin 256) (col : Fin 512), (arg13.view.readAt (Elt Ideal) (Rect.unit (s := S2x8192x512) (k0_off23 k) S1x256x512.size (k0_off23_inb k)).toLoadRect g13) (ix3 0 i col) = MS (arg12.view.read (Elt Ideal) X12) (arg6.view.read (Elt Ideal) X6) (2 * k.val) (8 * (64 * k.val) + i.val) col := by
      intro i col
      refine (rd3 arg13.view g13 _ (off23_at k) 0 i col 0 ⟨512 * k.val + i.val, by omega⟩ col rfl rfl (by simp)).trans ?_
      rw [hg13.1 _ _ (by show 512 * k.val + i.val < _; omega)]
      exact congrArg (fun z => MS _ (arg6.view.read (Elt Ideal) X6) (2 * k.val) z col) (by show 512 * k.val + i.val = _; omega)
    have hm : ∀ (r : Fin 8) (col : Fin 512), (arg17.view.readAt (Elt Ideal) (Rect.unit (s := S2x8x512) ![0, 0, 0] S1x8x512.size inb_S2x8x512_S1x8x512_0_0_0).toLoadRect X17) (ix3 0 r col) = mS (arg12.view.read (Elt Ideal) X12) (arg6.view.read (Elt Ideal) X6) (2 * k.val) col := fun r col =>
      (rd3 arg17.view X17 _ rfl 0 r col 0 r col rfl (by simp) (by simp)).trans (hA.2 r col)
    have hc : ∀ (r : Fin 8) (col : Fin 512), (arg15.view.readAt (Elt Ideal) (Rect.unit (s := S2x8x512) ![0, 0, 0] S1x8x512.size inb_S2x8x512_S1x8x512_0_0_0).toLoadRect X15) (ix3 0 r col) = cv col := fun r col =>
      (rd3 arg15.view X15 _ rfl 0 r col 0 r col rfl (by simp) (by simp)).trans (h15 r col)
    have hp := pay38_eq (arg13.view.readAt (Elt Ideal) (Rect.unit (s := S2x8192x512) (k0_off23 k) S1x256x512.size (k0_off23_inb k)).toLoadRect g13) (arg17.view.readAt (Elt Ideal) (Rect.unit (s := S2x8x512) ![0, 0, 0] S1x8x512.size inb_S2x8x512_S1x8x512_0_0_0).toLoadRect X17) (arg15.view.readAt (Elt Ideal) (Rect.unit (s := S2x8x512) ![0, 0, 0] S1x8x512.size inb_S2x8x512_S1x8x512_0_0_0).toLoadRect X15) hs hm hc
    have hwk : ∀ (i : Fin 256) (x : Fin 128), (arg12.view.readAt (Elt Ideal) (Rect.unit (s := S8192x128) (k0_off26 k) S256x128.size (k0_off26_inb k)).toLoadRect X12) (ix2 i x) = (arg12.view.read (Elt Ideal) X12) (ix2 (tok (8 * (64 * k.val) + i.val)) x) := fun i x =>
      rd2 arg12.view X12 _ (off26_at k) i x _ x (by have e : (tok (8 * (64 * k.val) + i.val)).val = 8 * (64 * k.val) + i.val := congrArg Fin.val (tok_of_lt (by omega)); omega) (by simp)
    have hwk2 : ∀ (i : Fin 256) (x : Fin 128), (arg12.view.readAt (Elt Ideal) (Rect.unit (s := S8192x128) (k0_off28 k) S256x128.size (k0_off28_inb k)).toLoadRect X12) (ix2 i x) = (arg12.view.read (Elt Ideal) X12) (ix2 (tok (8 * (64 * k.val + 32) + i.val)) x) := fun i x =>
      rd2 arg12.view X12 _ (off28_at k) i x _ x (by have e : (tok (8 * (64 * k.val + 32) + i.val)).val = 8 * (64 * k.val + 32) + i.val := congrArg Fin.val (tok_of_lt (by omega)); omega) (by simp)
    have hwq : ∀ (x : Fin 128) (col : Fin 512), (arg14.view.readAt (Elt Ideal) (Rect.unit (s := S2x128x512) ![1, 0, 0] S1x128x512.size inb_S2x128x512_S1x128x512_1_0_0).toLoadRect X14) (ix3 0 x col) = qzS (arg6.view.read (Elt Ideal) X6) (2 * k.val + 1) x col := fun x col =>
      (rd3 arg14.view X14 _ rfl 0 x col 1 x col rfl (by simp) (by simp)).trans (hA.1 x col)
    have hmp : ∀ (r : Fin 8) (col : Fin 512), (arg16.view.readAt (Elt Ideal) (Rect.unit (s := S2x8x512) ![1, 0, 0] S1x8x512.size inb_S2x8x512_S1x8x512_1_0_0).toLoadRect g16) (ix3 0 r col) = mpP (arg12.view.read (Elt Ideal) X12) (arg6.view.read (Elt Ideal) X6) (2 * k.val + 1) (64 * k.val) r col := fun r col =>
      (rd3 arg16.view g16 _ rfl 0 r col 1 r col rfl (by simp) (by simp)).trans (hg16 r col)
    have hmp1 := pay44_eq (arg12.view.readAt (Elt Ideal) (Rect.unit (s := S8192x128) (k0_off26 k) S256x128.size (k0_off26_inb k)).toLoadRect X12) (arg14.view.readAt (Elt Ideal) (Rect.unit (s := S2x128x512) ![1, 0, 0] S1x128x512.size inb_S2x128x512_S1x128x512_1_0_0).toLoadRect X14) hwk hwq (by omega) (arg16.view.readAt (Elt Ideal) (Rect.unit (s := S2x8x512) ![1, 0, 0] S1x8x512.size inb_S2x8x512_S1x8x512_1_0_0).toLoadRect g16) hmp
    have hv0 : ∀ (d : Fin 64) (i : Fin 256), (arg8.view.readAt (Elt Ideal) (Rect.unit (s := S1x128x8192) (k0_off24 k) S1x64x256.size (k0_off24_inb k)).toLoadRect X8) (ix3 0 d i) = (arg8.view.read (Elt Ideal) X8) (ix3 0 (⟨d.val, by omega⟩ : Fin 128) (tok (8 * (64 * k.val) + i.val))) := fun d i =>
      rd3 arg8.view X8 _ (off24_at k) 0 d i 0 _ _ rfl (by simp) (by have e : (tok (8 * (64 * k.val) + i.val)).val = 8 * (64 * k.val) + i.val := congrArg Fin.val (tok_of_lt (by omega)); omega)
    have hv1 : ∀ (d : Fin 64) (i : Fin 256), (arg8.view.readAt (Elt Ideal) (Rect.unit (s := S1x128x8192) (k0_off25 k) S1x64x256.size (k0_off25_inb k)).toLoadRect X8) (ix3 0 d i) = (arg8.view.read (Elt Ideal) X8) (ix3 0 (⟨64 + d.val, by omega⟩ : Fin 128) (tok (8 * (64 * k.val) + i.val))) := fun d i =>
      rd3 arg8.view X8 _ (off25_at k) 0 d i 0 _ _ rfl rfl (by have e : (tok (8 * (64 * k.val) + i.val)).val = 8 * (64 * k.val) + i.val := congrArg Fin.val (tok_of_lt (by omega)); omega)
    ihave ⟨%x5, H5, %hx5⟩ : iprop(∃ f, (arg5.view.loc (c : Thread nD τ) ↦[arg5.view.set]{fullShare} f) ∗ ⌜∀ (t : Fin 8192) (d : Fin 128), t.val < 512 * k.val + 256 → arg5.view.read (Elt Ideal) f (ix3 0 t d) = outS (arg12.view.read (Elt Ideal) X12) (arg6.view.read (Elt Ideal) X6) (arg8.view.read (Elt Ideal) X8) cv vv (t.val / 256) d ⟨t.val % 256, Nat.mod_lt _ (by decide)⟩⌝) $$ [H5]
    · iexists _
      isplitl [H5]
      · iexact H5
      · ipureintro
        intro t d ht
        by_cases h0 : t.val < 512 * k.val
        · exact (wr3_out arg5.view f5 _ (off30_at k) _ [] 0 t d (by omega)).trans (hf5 t d h0)
        · refine (wr3_in arg5.view f5 _ (off30_at k) _ [] 0 t d 0 ⟨t.val - 512 * k.val, by omega⟩ d rfl (by simp only []; omega) (by simp)).trans ?_
          refine (pay49_eq (kn := (arg12.view.read (Elt Ideal) X12)) (qt := (arg6.view.read (Elt Ideal) X6)) (vt := (arg8.view.read (Elt Ideal) X8)) (cv := cv) (vv := vv) (a := 2 * k.val) _ _ _ _ (fun col => ?_) (fun r col => ?_) (fun d q => ?_) (fun d q => ?_) _ d).trans ?_
          · exact (rd3 arg15.view X15 _ rfl 0 0 col 1 0 col rfl rfl (by simp)).trans (h15' 0 col)
          · refine (rd2 arg18.view _ _ rfl r col r col (by simp) (by simp)).trans ((wr2_in arg18.view _ _ rfl _ [] r col r col (by simp) (by simp)).trans ?_)
            refine (pay37_eq (n := 64 * k.val) (arg13.view.readAt (Elt Ideal) (Rect.unit (s := S2x8192x512) (k0_off23 k) S1x256x512.size (k0_off23_inb k)).toLoadRect g13) (arg17.view.readAt (Elt Ideal) (Rect.unit (s := S2x8x512) ![0, 0, 0] S1x8x512.size inb_S2x8x512_S1x8x512_0_0_0).toLoadRect X17) (arg15.view.readAt (Elt Ideal) (Rect.unit (s := S2x8x512) ![0, 0, 0] S1x8x512.size inb_S2x8x512_S1x8x512_0_0_0).toLoadRect X15) hs hm hc _ (fun r col => ?_) r col).trans ?_
            · exact (rd2 arg18.view g18 _ rfl r col r col (by simp) (by simp)).trans (hg18 r col)
            · exact congrArg (fun n => lpP _ (arg6.view.read (Elt Ideal) X6) cv (2 * k.val) n r col) (by omega)
          · refine (rd2 arg19.view _ _ rfl d q (⟨d.val, by omega⟩ : Fin 128) q (by simp) (by simp)).trans ((wr2_out arg19.view _ _ rfl _ _ _ q (by simp only []; omega)).trans
              ((wr2_in arg19.view _ _ rfl _ [] _ q d q (by simp) (by simp)).trans ?_))
            refine (pay40_eq (n := 64 * k.val) (arg13.view.readAt (Elt Ideal) (Rect.unit (s := S2x8192x512) (k0_off23 k) S1x256x512.size (k0_off23_inb k)).toLoadRect g13) (arg17.view.readAt (Elt Ideal) (Rect.unit (s := S2x8x512) ![0, 0, 0] S1x8x512.size inb_S2x8x512_S1x8x512_0_0_0).toLoadRect X17) (arg15.view.readAt (Elt Ideal) (Rect.unit (s := S2x8x512) ![0, 0, 0] S1x8x512.size inb_S2x8x512_S1x8x512_0_0_0).toLoadRect X15) _ rfl hp (arg8.view.readAt (Elt Ideal) (Rect.unit (s := S1x128x8192) (k0_off24 k) S1x64x256.size (k0_off24_inb k)).toLoadRect X8) _ hv0 (fun d q => ?_) d q).trans ?_
            · exact (rd2 arg19.view g19 _ rfl d q (⟨d.val, by omega⟩ : Fin 128) q (by simp) (by simp)).trans (hg19 _ q)
            · exact congrArg (fun n => oP _ (arg6.view.read (Elt Ideal) X6) _ cv (2 * k.val) n _ q) (by omega)
          · refine (rd2 arg19.view _ _ rfl d q (⟨64 + d.val, by omega⟩ : Fin 128) q rfl (by simp)).trans
              ((wr2_in arg19.view _ _ rfl _ _ _ q d q rfl (by simp)).trans ?_)
            refine (pay41_eq (n := 64 * k.val) _ hp (arg8.view.readAt (Elt Ideal) (Rect.unit (s := S1x128x8192) (k0_off25 k) S1x64x256.size (k0_off25_inb k)).toLoadRect X8) _ hv1 (fun d q => ?_) d q).trans ?_
            · exact (rd2 arg19.view g19 _ rfl d q (⟨64 + d.val, by omega⟩ : Fin 128) q rfl (by simp)).trans (hg19 _ q)
            · exact congrArg (fun n => oP _ (arg6.view.read (Elt Ideal) X6) _ cv (2 * k.val) n _ q) (by omega)
          · have e : t.val / 256 = 2 * k.val := by omega
            have e' : t.val - 512 * k.val = t.val % 256 := by omega
            simp only [e, e']
    ihave ⟨%x13, H13, %hx13⟩ : iprop(∃ f, (arg13.view.loc (c : Thread nD τ) ↦[arg13.view.set]{fullShare} f) ∗ ⌜∀ (key : Fin 8192) (col : Fin 512), key.val < 512 * k.val + 512 → arg13.view.read (Elt Ideal) f (ix3 1 key col) = MS (arg12.view.read (Elt Ideal) X12) (arg6.view.read (Elt Ideal) X6) (2 * k.val + 1) key.val col⌝) $$ [H13]
    · iexists _
      isplitl [H13]
      · iexact H13
      · ipureintro
        intro key col hkey
        by_cases h1 : key.val < 512 * k.val + 256
        · refine (wr3_out arg13.view _ _ (off29_at k) _ _ 1 key col (by omega)).trans ?_
          by_cases h0 : key.val < 512 * k.val
          · exact (wr3_out arg13.view _ _ (off27_at k) _ _ 1 key col (by omega)).trans (hg13.2 key col h0)
          · refine (wr3_in arg13.view _ _ (off27_at k) _ _ 1 key col 0 ⟨key.val - 512 * k.val, by omega⟩ col rfl (by simp only []; omega) (by simp)).trans ?_
            refine (pay43_eq (arg12.view.readAt (Elt Ideal) (Rect.unit (s := S8192x128) (k0_off26 k) S256x128.size (k0_off26_inb k)).toLoadRect X12) (arg14.view.readAt (Elt Ideal) (Rect.unit (s := S2x128x512) ![1, 0, 0] S1x128x512.size inb_S2x128x512_S1x128x512_1_0_0).toLoadRect X14) hwk hwq (by omega) _ col).trans ?_
            exact congrArg (fun z => MS _ (arg6.view.read (Elt Ideal) X6) (2 * k.val + 1) z col) (by simp only []; omega)
        · refine (wr3_in arg13.view _ _ (off29_at k) _ _ 1 key col 0 ⟨key.val - (512 * k.val + 256), by omega⟩ col rfl (by simp only []; omega) (by simp)).trans ?_
          refine (pay46_eq (arg12.view.readAt (Elt Ideal) (Rect.unit (s := S8192x128) (k0_off28 k) S256x128.size (k0_off28_inb k)).toLoadRect X12) (arg14.view.readAt (Elt Ideal) (Rect.unit (s := S2x128x512) ![1, 0, 0] S1x128x512.size inb_S2x128x512_S1x128x512_1_0_0).toLoadRect X14) hwk2 hwq (by omega) _ col).trans ?_
          exact congrArg (fun z => MS _ (arg6.view.read (Elt Ideal) X6) (2 * k.val + 1) z col) (by simp only []; omega)
    ihave ⟨%x14, H14, %hx14⟩ : iprop(∃ f, (arg14.view.loc (c : Thread nD τ) ↦[arg14.view.set]{fullShare} f) ∗ ⌜k.val + 1 < 16 → ∀ (x : Fin 128) (col : Fin 512), arg14.view.read (Elt Ideal) f (ix3 0 x col) = qzS (arg6.view.read (Elt Ideal) X6) (2 * k.val + 2) x col⌝) $$ [H14]
    · iexists _
      isplitl [H14]
      · iexact H14
      · ipureintro
        intro hk1 x col
        refine quadrants arg14.view _ (arg6.view.read (Elt Ideal) X6) _ 0 _ _ _ _ rfl rfl rfl rfl _ _ _ _ (fun d q => ?_) pay56_eq pay55_eq (fun d q => ?_) x col
        · refine (pay57_eq _ d q).trans ?_
          refine rd3 arg6.view X6 _ (off32_at k) 0 d q 0 _ _ rfl rfl ?_
          have e : (tok (256 * (2 * k.val + 2) + q.val)).val = 256 * (2 * k.val + 2) + q.val := congrArg Fin.val (tok_of_lt (by omega))
          omega
        · refine (pay54_eq _ d q).trans ?_
          refine rd3 arg6.view X6 _ (off31_at k) 0 d q 0 _ _ rfl (by simp) ?_
          have e : (tok (256 * (2 * k.val + 2) + q.val)).val = 256 * (2 * k.val + 2) + q.val := congrArg Fin.val (tok_of_lt (by omega))
          omega
    ihave ⟨%x16, H16, %hx16⟩ : iprop(∃ f, (arg16.view.loc (c : Thread nD τ) ↦[arg16.view.set]{fullShare} f) ∗ ⌜∀ (r : Fin 8) (col : Fin 512), arg16.view.read (Elt Ideal) f (ix3 0 r col) = ⊥⌝) $$ [H16]
    · iexists _
      isplitl [H16]
      · iexact H16
      · ipureintro
        intro r col
        exact (wr3_in arg16.view _ _ rfl _ _ 0 r col 0 r col rfl (by simp) (by simp)).trans (pay58_eq r col)
    ihave ⟨%x17, H17, %hx17⟩ : iprop(∃ f, (arg17.view.loc (c : Thread nD τ) ↦[arg17.view.set]{fullShare} f) ∗ ⌜∀ (r : Fin 8) (col : Fin 512), arg17.view.read (Elt Ideal) f (ix3 1 r col) = mS (arg12.view.read (Elt Ideal) X12) (arg6.view.read (Elt Ideal) X6) (2 * k.val + 1) col⌝) $$ [H17]
    · iexists _
      isplitl [H17]
      · iexact H17
      · ipureintro
        intro r col
        refine (wr3_in arg17.view _ _ rfl _ _ 1 r col 0 r col rfl (by simp) (by simp)).trans ?_
        refine pay50_eq _ (fun r col => ?_) r col
        refine (rd3 arg16.view _ _ rfl 0 r col 1 r col rfl (by simp) (by simp)).trans ((wr3_in arg16.view _ _ rfl _ _ 1 r col 0 r col rfl (by simp) (by simp)).trans ?_)
        refine (pay47_eq (n := 64 * k.val + 32) (arg12.view.readAt (Elt Ideal) (Rect.unit (s := S8192x128) (k0_off28 k) S256x128.size (k0_off28_inb k)).toLoadRect X12) (arg14.view.readAt (Elt Ideal) (Rect.unit (s := S2x128x512) ![1, 0, 0] S1x128x512.size inb_S2x128x512_S1x128x512_1_0_0).toLoadRect X14) hwk2 hwq (by omega) _ (fun r col => ?_) r col).trans ?_
        · exact (rd3 arg16.view _ _ rfl 0 r col 1 r col rfl (by simp) (by simp)).trans ((wr3_in arg16.view _ _ rfl _ _ 1 r col 0 r col rfl (by simp) (by simp)).trans (hmp1 r col))
        · exact congrArg (fun n => mpP _ (arg6.view.read (Elt Ideal) X6) (2 * k.val + 1) n r col) (by omega)
    ihave ⟨%x18, H18, %hx18⟩ : iprop(∃ f, (arg18.view.loc (c : Thread nD τ) ↦[arg18.view.set]{fullShare} f) ∗ ⌜∀ (r : Fin 8) (col : Fin 512), arg18.view.read (Elt Ideal) f (ix2 r col) = 0⌝) $$ [H18]
    · iexists _
      isplitl [H18]
      · iexact H18
      · ipureintro
        intro r col
        exact (wr2_in arg18.view _ _ rfl _ _ r col r col (by simp) (by simp)).trans (pay51_eq _)
    ihave ⟨%x19, H19, %hx19⟩ : iprop(∃ f, (arg19.view.loc (c : Thread nD τ) ↦[arg19.view.set]{fullShare} f) ∗ ⌜∀ (d : Fin 128) (q : Fin 256), arg19.view.read (Elt Ideal) f (ix2 d q) = 0⌝) $$ [H19]
    · iexists _
      isplitl [H19]
      · iexact H19
      · ipureintro
        intro d q
        exact (wr2_in arg19.view _ _ rfl _ _ d q d q (by simp) (by simp)).trans (pay52_eq _)
    sl_for (fun n _ => innerB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 (arg12.view.read (Elt Ideal) X12) (arg6.view.read (Elt Ideal) X6) (arg8.view.read (Elt Ideal) X8) cv k n) $$ [H8 H12 H14 H15 H17 H13 H16 H18 H19]
    · intro j acc
      exact innerB_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X8 X12 X15 (arg12.view.read (Elt Ideal) X12) (arg6.view.read (Elt Ideal) X6) (arg8.view.read (Elt Ideal) X8) cv k _ _ _ _ _ rfl rfl h15 j acc
    · iexists x14, x17
      isplitl [H8 H12 H14 H15 H17 H13 H16 H18 H19]
      · isplitl [H8]
        · iexact H8
        isplitl [H12]
        · iexact H12
        isplitl [H14]
        · iexact H14
        isplitl [H15]
        · iexact H15
        isplitl [H17]
        · iexact H17
        isplitl [H13]
        · iexists _
          isplitl [H13]
          · iexact H13
          · ipureintro
            exact ⟨fun key col h => hx13 key col h, fun _ key col h => absurd h (by omega)⟩
        isplitl [H16]
        · iexists _
          isplitl [H16]
          · iexact H16
          · ipureintro
            intro _ r col
            exact (hx16 r col).trans (by simp [mpP])
        isplitl [H18]
        · iexists _
          isplitl [H18]
          · iexact H18
          · ipureintro
            intro r col
            exact (hx18 r col).trans (by simp [lpP])
        · iexists _
          isplitl [H19]
          · iexact H19
          · ipureintro
            intro d q
            exact (hx19 d q).trans (by simp [oP])
      · ipureintro
        exact ⟨hx14, hx17⟩
    · iintro %acc2 HI
      sl_for0 (trips11 k)
      icases HI with ⟨%Y14, %Y17, ⟨H8, H12, H14, H15, H17, ⟨%u13, H13, %hu13⟩, ⟨%u16, H16, %hu16⟩, ⟨%u18, H18, %hu18⟩, ⟨%u19, H19, %hu19⟩⟩, %hB⟩
      sl_exec
      sl_step
      have e10 : Scf.trips (k0_t10_loop k).lb (k0_t10_loop k).ub (k0_t10_loop k).st = k.val + 1 := trips10 k
      rw [e10] at hu13 hu16 hu18 hu19
      have hwkB : k.val + 1 < 16 → ∀ (i : Fin 256) (x : Fin 128), (arg12.view.readAt (Elt Ideal) (Rect.unit (s := S8192x128) (k0_off43 k) S256x128.size (k0_off43_inb k)).toLoadRect X12) (ix2 i x) = (arg12.view.read (Elt Ideal) X12) (ix2 (tok (8 * (64 * (k.val + 1)) + i.val)) x) := fun hk1 i x =>
        rd2 arg12.view X12 _ (off43_at k) i x _ x (by have e : (tok (8 * (64 * (k.val + 1)) + i.val)).val = 8 * (64 * (k.val + 1)) + i.val := congrArg Fin.val (tok_of_lt (by omega)); omega) (by simp)
      have hwqB : k.val + 1 < 16 → ∀ (x : Fin 128) (col : Fin 512), (arg14.view.readAt (Elt Ideal) (Rect.unit (s := S2x128x512) ![0, 0, 0] S1x128x512.size inb_S2x128x512_S1x128x512_0_0_0).toLoadRect Y14) (ix3 0 x col) = qzS (arg6.view.read (Elt Ideal) X6) (2 * k.val + 2) x col := fun hk1 x col =>
        (rd3 arg14.view Y14 _ rfl 0 x col 0 x col rfl (by simp) (by simp)).trans (hB.1 hk1 x col)
      isplitl [H6]
      · iexact H6
      isplitl [H8]
      · iexact H8
      isplitl [H12]
      · iexact H12
      isplitl [H15]
      · iexact H15
      isplitl [H5]
      · iexists _
        isplitl [H5]
        · iexact H5
        · ipureintro
          intro t d ht
          by_cases h0 : t.val < 512 * k.val + 256
          · exact (wr3_out arg5.view x5 _ (off45_at k) _ [] 0 t d (by omega)).trans (hx5 t d h0)
          · refine (wr3_in arg5.view x5 _ (off45_at k) _ [] 0 t d 0 ⟨t.val - (512 * k.val + 256), by omega⟩ d rfl (by simp only []; omega) (by simp)).trans ?_
            refine (pay71_eq (kn := (arg12.view.read (Elt Ideal) X12)) (qt := (arg6.view.read (Elt Ideal) X6)) (vt := (arg8.view.read (Elt Ideal) X8)) (cv := cv) (vv := vv) (a := 2 * k.val + 1) _ _ _ _ (fun col => ?_) (fun r col => ?_) (fun d q => ?_) (fun d q => ?_) _ d).trans ?_
            · exact (rd3 arg15.view X15 _ rfl 0 0 col 1 0 col rfl rfl (by simp)).trans (h15' 0 col)
            · exact ((rd2 arg18.view u18 _ rfl r col r col (by simp) (by simp)).trans (hu18 r col)).trans (congrArg (fun n => lpP _ (arg6.view.read (Elt Ideal) X6) cv (2 * k.val + 1) n r col) (by omega))
            · exact ((rd2 arg19.view u19 _ rfl d q (⟨d.val, by omega⟩ : Fin 128) q (by simp) (by simp)).trans (hu19 _ q)).trans (congrArg (fun n => oP _ (arg6.view.read (Elt Ideal) X6) _ cv (2 * k.val + 1) n _ q) (by omega))
            · exact ((rd2 arg19.view u19 _ rfl d q (⟨64 + d.val, by omega⟩ : Fin 128) q rfl (by simp)).trans (hu19 _ q)).trans (congrArg (fun n => oP _ (arg6.view.read (Elt Ideal) X6) _ cv (2 * k.val + 1) n _ q) (by omega))
            · have e : t.val / 256 = 2 * k.val + 1 := by omega
              have e' : t.val - (512 * k.val + 256) = t.val % 256 := by omega
              simp only [e, e']
      isplitl [H13]
      · iexists _
        isplitl [H13]
        · iexact H13
        · ipureintro
          intro hk1 key col hkey
          have e2 : 2 * (k.val + 1) = 2 * k.val + 2 := by omega
          rw [e2]
          by_cases h0 : key.val < 512 * (k.val + 1)
          · exact (wr3_out arg13.view _ _ (off44_at k) _ _ 0 key col (by omega)).trans (hu13.2 hk1 key col h0)
          · refine (wr3_in arg13.view _ _ (off44_at k) _ _ 0 key col 0 ⟨key.val - 512 * (k.val + 1), by omega⟩ col rfl (by simp only []; omega) (by simp)).trans ?_
            refine (pay68_eq (arg12.view.readAt (Elt Ideal) (Rect.unit (s := S8192x128) (k0_off43 k) S256x128.size (k0_off43_inb k)).toLoadRect X12) (arg14.view.readAt (Elt Ideal) (Rect.unit (s := S2x128x512) ![0, 0, 0] S1x128x512.size inb_S2x128x512_S1x128x512_0_0_0).toLoadRect Y14) (hwkB hk1) (hwqB hk1) (by omega) _ col).trans ?_
            exact congrArg (fun z => MS _ (arg6.view.read (Elt Ideal) X6) (2 * k.val + 2) z col) (by simp only []; omega)
      isplitl [H14]
      · iexists _
        iexact H14
      isplitl [H16]
      · iexists _
        iexact H16
      isplitl [H17]
      · iexists _
        isplitl [H17]
        · iexact H17
        · ipureintro
          intro hk1 r col
          have e2 : 2 * (k.val + 1) = 2 * k.val + 2 := by omega
          rw [e2]
          refine (wr3_in arg17.view _ _ rfl _ _ 0 r col 0 r col rfl (by simp) (by simp)).trans ?_
          refine pay72_eq _ (fun r col => ?_) r col
          refine (rd3 arg16.view _ _ rfl 0 r col 0 r col rfl (by simp) (by simp)).trans ((wr3_in arg16.view _ _ rfl _ _ 0 r col 0 r col rfl (by simp) (by simp)).trans ?_)
          refine (pay69_eq (n := 64 * (k.val + 1)) (arg12.view.readAt (Elt Ideal) (Rect.unit (s := S8192x128) (k0_off43 k) S256x128.size (k0_off43_inb k)).toLoadRect X12) (arg14.view.readAt (Elt Ideal) (Rect.unit (s := S2x128x512) ![0, 0, 0] S1x128x512.size inb_S2x128x512_S1x128x512_0_0_0).toLoadRect Y14) (hwkB hk1) (hwqB hk1) (by omega) _ (fun r col => ?_) r col).trans ?_
          · exact (rd3 arg16.view _ _ rfl 0 r col 0 r col rfl (by simp) (by simp)).trans (hu16 hk1 r col)
          · exact congrArg (fun n => mpP _ (arg6.view.read (Elt Ideal) X6) (2 * k.val + 2) n r col) (by omega)
      isplitl [H18]
      · iexists _
        isplitl [H18]
        · iexact H18
        · ipureintro
          intro r col
          exact (wr2_in arg18.view _ _ rfl _ _ r col r col (by simp) (by simp)).trans (pay73_eq _)
      · iexists _
        isplitl [H19]
        · iexact H19
        · ipureintro
          intro d q
          exact (wr2_in arg19.view _ _ rfl _ _ d q d q (by simp) (by simp)).trans ((congrFun (pay5_eq _) _).trans (pay74_eq _))

end Cert.KernelIdeal.Hand

end
-- ==== Proof.BodyValue.lean ====
/-
  One call of the kernel's body, exactly: from any contents of its buffers it leaves the three input blocks as they were, the
  output block, the three blocks of codes and the three of scales at the functions of the inputs stated here.
-/
module

public import proofs.«01_k».proof.Proof.Gen.KernelIdeal.Frame
public import proofs.«01_k».proof.Proof.Gen.KernelIdeal.Skeleton
public import proofs.«01_k».proof.Proof.Windows
public import proofs.«01_k».proof.Proof.Scales
public import proofs.«01_k».proof.Proof.Prologue
public import proofs.«01_k».proof.Proof.Quadrants
public import proofs.«01_k».proof.Proof.PairValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The output block. -/
def outB (x k v : Vec Ideal S1x8192x128 .bf16) : Vec Ideal S1x8192x128 .bf16 := fun j =>
  outS (codesN k) (codesT x) (codesT v) (cvS x k) (vvS v) ((j (1 : Fin 3)).val / 256) (j (2 : Fin 3))
    ⟨(j (1 : Fin 3)).val % 256, Nat.mod_lt _ (by decide)⟩

/-- The scales, by lane. -/
def scaleB (x : Vec Ideal S1x8192x128 .bf16) : Vec Ideal S1x1x1x128 .f32 := fun j => scaleOf (headM x (j (3 : Fin 4)))

theorem vec2_ext {a b : ℕ} {α : Type} {f g : (⟨2, ![a, b]⟩ : Shape).Idx → α} (h : ∀ (i : Fin a) (j : Fin b), f (ix2 i j) = g (ix2 i j)) :
    f = g := by
  funext x
  have e : x = ix2 (n0 := a) (n1 := b) (x 0) (x 1) := by
    funext y
    match y with
    | ⟨0, _⟩ => rfl
    | ⟨1, _⟩ => rfl
  rw [e]; exact h _ _

theorem vec3_ext {a b : ℕ} {α : Type} {f g : (⟨3, ![1, a, b]⟩ : Shape).Idx → α}
    (h : ∀ (i : Fin a) (j : Fin b), f (ix3 0 i j) = g (ix3 0 i j)) : f = g := by
  funext x
  have e : x = ix3 (n0 := 1) (n1 := a) (n2 := b) 0 (x 1) (x 2) := by
    funext y
    match y with
    | ⟨0, _⟩ => exact Subsingleton.elim (α := Fin 1) _ _
    | ⟨1, _⟩ => rfl
    | ⟨2, _⟩ => rfl
  rw [e]; exact h _ _

theorem vec4_ext {a : ℕ} {α : Type} {f g : (⟨4, ![1, 1, 1, a]⟩ : Shape).Idx → α}
    (h : ∀ (i : Fin a), f (ix4 0 0 0 i) = g (ix4 0 0 0 i)) : f = g := by
  funext x
  have e : x = ix4 (n0 := 1) (n1 := 1) (n2 := 1) (n3 := a) 0 0 0 (x 3) := by
    funext y
    match y with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  rw [e]; exact h _

set_option maxHeartbeats 1200000 in
theorem sound_kernelV (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x128x8192 .fp8e4m3) (harg6 : arg6.IsWhole) (arg7 : Memref sig .tc .vmem S1x128x8192 .fp8e4m3) (harg7 : arg7.IsWhole) (arg8 : Memref sig .tc .vmem S1x128x8192 .fp8e4m3) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x1x128 .f32) (harg11 : arg11.IsWhole) (arg12 : Memref sig .tc .vmem S8192x128 .fp8e4m3) (harg12 : arg12.IsWhole) (arg13 : Memref sig .tc .vmem S2x8192x512 .f32) (harg13 : arg13.IsWhole) (arg14 : Memref sig .tc .vmem S2x128x512 .fp8e4m3) (harg14 : arg14.IsWhole) (arg15 : Memref sig .tc .vmem S2x8x512 .f32) (harg15 : arg15.IsWhole) (arg16 : Memref sig .tc .vmem S2x8x512 .f32) (harg16 : arg16.IsWhole) (arg17 : Memref sig .tc .vmem S2x8x512 .f32) (harg17 : arg17.IsWhole) (arg18 : Memref sig .tc .vmem S8x512 .f32) (harg18 : arg18.IsWhole) (arg19 : Memref sig .tc .vmem S128x256 .f32) (harg19 : arg19.IsWhole)
    (x2 x3 x4 : Vec Ideal S1x8192x128 .bf16) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x2 ∗ owns (c : Thread nD τ) arg3 fullShare x3 ∗ owns (c : Thread nD τ) arg4 fullShare x4 ∗ owns (c : Thread nD τ) arg5 fullShare (outB x2 x3 x4) ∗ owns (c : Thread nD τ) arg6 fullShare (codesT x2) ∗ owns (c : Thread nD τ) arg7 fullShare (codesT x3) ∗ owns (c : Thread nD τ) arg8 fullShare (codesT x4) ∗ owns (c : Thread nD τ) arg9 fullShare (scaleB x2) ∗ owns (c : Thread nD τ) arg10 fullShare (scaleB x3) ∗ owns (c : Thread nD τ) arg11 fullShare (scaleB x4) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ()))
      ⊢ wp frame (wpE (defs₀ (F := Ideal)) Variants.none c none) Set.univ (cc0_fp8_causal_attention (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_fp8_causal_attention_eq_skeleton]; unfold cc0_fp8_causal_attention_skel
  simp only [k0_part13_eq_skeleton, k0_part14_eq_skeleton, k0_part15_eq_skeleton, k0_part16_eq_skeleton, k0_part17_eq_skeleton, k0_part18_eq_skeleton, k0_part19_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf2 hf3 hf4
  sl_exec
  sl_for (fun n acc => invM1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 n acc) $$ [H2]
  · intro k acc
    exact stepM1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 k acc
  · isplitl [H2]
    · iexact H2
    · ipureintro
      exact fun r l => pay75_eq r l
  iintro %a1 HI
  icases HI with ⟨H2, %ha1⟩
  have e1 : Scf.trips k0_t1_loop.lb k0_t1_loop.ub k0_t1_loop.st = 16 := trips1
  rw [e1] at ha1
  sl_exec
  sl_for (fun n acc => invM2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f3 n acc) $$ [H3]
  · intro k acc
    exact stepM2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f3 _ _ _ k acc
  · isplitl [H3]
    · iexact H3
    · ipureintro
      exact fun r l => pay82_eq r l
  iintro %a2 HI
  icases HI with ⟨H3, %ha2⟩
  have e2 : Scf.trips k0_t2_loop.lb k0_t2_loop.ub k0_t2_loop.st = 16 := trips2
  rw [e2] at ha2
  sl_exec
  sl_for (fun n acc => invM3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f4 n acc) $$ [H4]
  · intro k acc
    exact stepM3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f4 _ _ k acc
  · isplitl [H4]
    · iexact H4
    · ipureintro
      exact fun r l => pay89_eq r l
  iintro %a3 HI
  icases HI with ⟨H4, %ha3⟩
  have e3 : Scf.trips k0_t3_loop.lb k0_t3_loop.ub k0_t3_loop.st = 16 := trips3
  rw [e3] at ha3
  sl_exec
  sl_for (fun n _ => invC4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 n) $$ [H2 H6]
  · intro k acc
    exact stepC4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f2 _ _ _ _ _ _ _ (fun l => pay81_eq _ _ l (pay77_eq a1 ha1 l) (pay78_eq a1 ha1 l)) k acc
  · isplitl [H2]
    · iexact H2
    · iexists _
      isplitl [H6]
      · iexact H6
      · ipureintro
        exact fun t l h => absurd h (by omega)
  iintro %a4 HI
  icases HI with ⟨H2, ⟨%g6, H6, %hg6⟩⟩
  have e4 : Scf.trips k0_t4_loop.lb k0_t4_loop.ub k0_t4_loop.st = 16 := trips4
  rw [e4] at hg6
  sl_exec
  sl_for (fun n _ => invC5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f3 n) $$ [H3 H12 H7]
  · intro k acc
    exact stepC5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f3 _ _ _ _ _ _ _ (fun l => pay88_eq _ l (pay84_eq a2 ha2 l)) k acc
  · isplitl [H3]
    · iexact H3
    isplitl [H12]
    · iexists _
      isplitl [H12]
      · iexact H12
      · ipureintro
        exact fun t l h => absurd h (by omega)
    · iexists _
      isplitl [H7]
      · iexact H7
      · ipureintro
        exact fun t l h => absurd h (by omega)
  iintro %a5 HI
  icases HI with ⟨H3, ⟨%g12, H12, %hg12⟩, ⟨%g7, H7, %hg7⟩⟩
  have e5 : Scf.trips k0_t5_loop.lb k0_t5_loop.ub k0_t5_loop.st = 16 := trips5
  rw [e5] at hg12 hg7
  sl_exec
  sl_for (fun n _ => invC6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f4 n) $$ [H4 H8]
  · intro k acc
    exact stepC6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f4 _ _ _ _ _ _ _ (fun l => pay93_eq a3 ha3 l) rfl k acc
  · isplitl [H4]
    · iexact H4
    · iexists _
      isplitl [H8]
      · iexact H8
      · ipureintro
        exact fun t l h => absurd h (by omega)
  iintro %a6 HI
  icases HI with ⟨H4, ⟨%g8, H8, %hg8⟩⟩
  have e6 : Scf.trips k0_t6_loop.lb k0_t6_loop.ub k0_t6_loop.st = 16 := trips6
  rw [e6] at hg8
  sl_exec
  have h6 : arg6.view.read (Elt Ideal) g6 = codesT (arg2.view.read (Elt Ideal) f2) := vec3_ext fun l t => hg6 t l (by omega)
  have h7 : arg7.view.read (Elt Ideal) g7 = codesT (arg3.view.read (Elt Ideal) f3) := vec3_ext fun l t => hg7 t l (by omega)
  have h8 : arg8.view.read (Elt Ideal) g8 = codesT (arg4.view.read (Elt Ideal) f4) := vec3_ext fun l t => hg8 t l (by omega)
  have h12 : arg12.view.read (Elt Ideal) g12 = codesN (arg3.view.read (Elt Ideal) f3) := vec2_ext fun t l => hg12 t l (by omega)
  have hwk : ∀ (i : Fin 256) (x : Fin 128), (arg12.view.readAt (Elt Ideal) (Rect.unit (s := S8192x128) ![0, 0] S256x128.size inb_S8192x128_S256x128_0_0).toLoadRect g12) (ix2 i x) = (codesN (arg3.view.read (Elt Ideal) f3)) (ix2 (tok (8 * 0 + i.val)) x) := fun i x => by
    rw [← h12]
    exact rd2 arg12.view g12 _ rfl i x _ x (by have e : (tok (8 * 0 + i.val)).val = 8 * 0 + i.val := congrArg Fin.val (tok_of_lt (by omega)); omega) (by simp)
  ihave ⟨%x15, H15, %hx15⟩ : iprop(∃ f, (arg15.view.loc (c : Thread nD τ) ↦[arg15.view.set]{fullShare} f) ∗ ⌜(∀ (r : Fin 8) (col : Fin 512), arg15.view.read (Elt Ideal) f (ix3 0 r col) = (cvS (arg2.view.read (Elt Ideal) f2) (arg3.view.read (Elt Ideal) f3)) col) ∧ (∀ (r : Fin 8) (col : Fin 512), arg15.view.read (Elt Ideal) f (ix3 1 r col) = (vvS (arg4.view.read (Elt Ideal) f4)) col)⌝) $$ [H15]
  · iexists _
    isplitl [H15]
    · iexact H15
    · ipureintro
      refine ⟨fun r col => ?_, fun r col => ?_⟩
      · refine (wr3_out arg15.view _ _ rfl _ _ 0 r col (by simp)).trans ((wr3_in arg15.view _ _ rfl _ _ 0 r col 0 r col rfl (by simp) (by simp)).trans ?_)
        exact pay105_eq _ _ (fun l => pay80_eq _ _ l (pay77_eq a1 ha1 l) (pay78_eq a1 ha1 l)) (fun l => pay87_eq _ l (pay84_eq a2 ha2 l)) r col
      · refine (wr3_in arg15.view _ _ rfl _ _ 1 r col 0 r col rfl (by simp) (by simp)).trans ?_
        exact pay106_eq _ (fun l => pay94_eq a3 ha3 l) r col
  ihave ⟨%x13, H13, %hx13⟩ : iprop(∃ f, (arg13.view.loc (c : Thread nD τ) ↦[arg13.view.set]{fullShare} f) ∗ ⌜∀ (key : Fin 8192) (col : Fin 512), key.val < 256 → arg13.view.read (Elt Ideal) f (ix3 0 key col) = MS (codesN (arg3.view.read (Elt Ideal) f3)) (codesT (arg2.view.read (Elt Ideal) f2)) 0 key.val col⌝) $$ [H13]
  · iexists _
    isplitl [H13]
    · iexact H13
    · ipureintro
      intro key col hkey
      refine (wr3_in arg13.view _ _ rfl _ _ 0 key col 0 ⟨key.val, by omega⟩ col rfl (by simp) (by simp)).trans ?_
      refine (pay114_eq (kn := (codesN (arg3.view.read (Elt Ideal) f3))) (qt := (codesT (arg2.view.read (Elt Ideal) f2))) (a := 0) (n := 0) _ _ hwk (fun x col => ?_) (by omega) _ col).trans ?_
      · refine (rd3 arg14.view _ _ rfl 0 x col 0 x col rfl (by simp) (by simp)).trans ?_
        refine quadrants arg14.view _ (codesT (arg2.view.read (Elt Ideal) f2)) 0 0 _ _ _ _ rfl rfl rfl rfl _ _ _ _ (fun d q => ?_) pay110_eq pay109_eq (fun d q => ?_) x col
        · refine (pay111_eq _ d q).trans ?_
          rw [← h6]
          refine rd3 arg6.view g6 _ rfl 0 d q 0 _ _ rfl rfl ?_
          have e : (tok (256 * 0 + q.val)).val = 256 * 0 + q.val := congrArg Fin.val (tok_of_lt (by omega))
          omega
        · refine (pay108_eq _ d q).trans ?_
          rw [← h6]
          refine rd3 arg6.view g6 _ rfl 0 d q 0 _ _ rfl (by simp) ?_
          have e : (tok (256 * 0 + q.val)).val = 256 * 0 + q.val := congrArg Fin.val (tok_of_lt (by omega))
          omega
      · exact congrArg (fun z => MS _ _ 0 z col) (by simp)
  ihave ⟨%x17, H17, %hx17⟩ : iprop(∃ f, (arg17.view.loc (c : Thread nD τ) ↦[arg17.view.set]{fullShare} f) ∗ ⌜∀ (r : Fin 8) (col : Fin 512), arg17.view.read (Elt Ideal) f (ix3 0 r col) = mS (codesN (arg3.view.read (Elt Ideal) f3)) (codesT (arg2.view.read (Elt Ideal) f2)) 0 col⌝) $$ [H17]
  · iexists _
    isplitl [H17]
    · iexact H17
    · ipureintro
      intro r col
      refine (wr3_in arg17.view _ _ rfl _ _ 0 r col 0 r col rfl (by simp) (by simp)).trans ?_
      refine pay2_eq _ (fun r col => ?_) r col
      refine (rd3 arg16.view _ _ rfl 0 r col 0 r col rfl (by simp) (by simp)).trans ((wr3_in arg16.view _ _ rfl _ _ 0 r col 0 r col rfl (by simp) (by simp)).trans ?_)
      refine (pay1_eq _ r col).trans ?_
      refine (pay115_eq (kn := (codesN (arg3.view.read (Elt Ideal) f3))) (qt := (codesT (arg2.view.read (Elt Ideal) f2))) (a := 0) (n := 0) _ _ hwk (fun x col => ?_) (by omega) _ (fun r col => ?_) r col).trans ?_
      · refine (rd3 arg14.view _ _ rfl 0 x col 0 x col rfl (by simp) (by simp)).trans ?_
        refine quadrants arg14.view _ (codesT (arg2.view.read (Elt Ideal) f2)) 0 0 _ _ _ _ rfl rfl rfl rfl _ _ _ _ (fun d q => ?_) pay110_eq pay109_eq (fun d q => ?_) x col
        · refine (pay111_eq _ d q).trans ?_
          rw [← h6]
          refine rd3 arg6.view g6 _ rfl 0 d q 0 _ _ rfl rfl ?_
          have e : (tok (256 * 0 + q.val)).val = 256 * 0 + q.val := congrArg Fin.val (tok_of_lt (by omega))
          omega
        · refine (pay108_eq _ d q).trans ?_
          rw [← h6]
          refine rd3 arg6.view g6 _ rfl 0 d q 0 _ _ rfl (by simp) ?_
          have e : (tok (256 * 0 + q.val)).val = 256 * 0 + q.val := congrArg Fin.val (tok_of_lt (by omega))
          omega
      · refine (rd3 arg16.view _ _ rfl 0 r col 0 r col rfl (by simp) (by simp)).trans ((wr3_in arg16.view _ _ rfl _ _ 0 r col 0 r col rfl (by simp) (by simp)).trans ?_)
        exact (pay112_eq r col).trans (by simp [mpP])
      · rfl
  ihave ⟨%x18, H18, %hx18⟩ : iprop(∃ f, (arg18.view.loc (c : Thread nD τ) ↦[arg18.view.set]{fullShare} f) ∗ ⌜∀ (r : Fin 8) (col : Fin 512), arg18.view.read (Elt Ideal) f (ix2 r col) = 0⌝) $$ [H18]
  · iexists _
    isplitl [H18]
    · iexact H18
    · ipureintro
      intro r col
      exact (wr2_in arg18.view _ _ rfl _ _ r col r col (by simp) (by simp)).trans (pay3_eq _)
  ihave ⟨%x19, H19, %hx19⟩ : iprop(∃ f, (arg19.view.loc (c : Thread nD τ) ↦[arg19.view.set]{fullShare} f) ∗ ⌜∀ (d : Fin 128) (q : Fin 256), arg19.view.read (Elt Ideal) f (ix2 d q) = 0⌝) $$ [H19]
  · iexists _
    isplitl [H19]
    · iexact H19
    · ipureintro
      intro d q
      exact (wr2_in arg19.view _ _ rfl _ _ d q d q (by simp) (by simp)).trans (pay4_eq _)
  ihave ⟨%x9, H9, %hx9⟩ : iprop(∃ f, (arg9.view.loc (c : Thread nD τ) ↦[arg9.view.set]{fullShare} f) ∗ ⌜arg9.view.read (Elt Ideal) f = scaleB (arg2.view.read (Elt Ideal) f2)⌝) $$ [H9]
  · iexists _
    isplitl [H9]
    · iexact H9
    · ipureintro
      refine (View.read_writes_full _ _ _ _ _).trans (vec4_ext fun l => ?_)
      exact (pay96_eq _ l).trans (pay80_eq _ _ l (pay77_eq a1 ha1 l) (pay78_eq a1 ha1 l))
  ihave ⟨%x10, H10, %hx10⟩ : iprop(∃ f, (arg10.view.loc (c : Thread nD τ) ↦[arg10.view.set]{fullShare} f) ∗ ⌜arg10.view.read (Elt Ideal) f = scaleB (arg3.view.read (Elt Ideal) f3)⌝) $$ [H10]
  · iexists _
    isplitl [H10]
    · iexact H10
    · ipureintro
      refine (View.read_writes_full _ _ _ _ _).trans (vec4_ext fun l => ?_)
      exact (pay97_eq _ l).trans (pay87_eq _ l (pay84_eq a2 ha2 l))
  ihave ⟨%x11, H11, %hx11⟩ : iprop(∃ f, (arg11.view.loc (c : Thread nD τ) ↦[arg11.view.set]{fullShare} f) ∗ ⌜arg11.view.read (Elt Ideal) f = scaleB (arg4.view.read (Elt Ideal) f4)⌝) $$ [H11]
  · iexists _
    isplitl [H11]
    · iexact H11
    · ipureintro
      refine (View.read_writes_full _ _ _ _ _).trans (vec4_ext fun l => ?_)
      exact (pay98_eq _ l).trans (pay94_eq a3 ha3 l)
  sl_for (fun n _ => invP c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 g6 g8 g12 x15 (codesN (arg3.view.read (Elt Ideal) f3)) (codesT (arg2.view.read (Elt Ideal) f2)) (codesT (arg4.view.read (Elt Ideal) f4)) (cvS (arg2.view.read (Elt Ideal) f2) (arg3.view.read (Elt Ideal) f3)) (vvS (arg4.view.read (Elt Ideal) f4)) n) $$ [H6 H8 H12 H15 H5 H13 H14 H16 H17 H18 H19]
  · intro k acc
    exact stepP c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 g6 g8 g12 x15 (codesN (arg3.view.read (Elt Ideal) f3)) (codesT (arg2.view.read (Elt Ideal) f2)) (codesT (arg4.view.read (Elt Ideal) f4)) (cvS (arg2.view.read (Elt Ideal) f2) (arg3.view.read (Elt Ideal) f3)) (vvS (arg4.view.read (Elt Ideal) f4)) h6 h8 h12 hx15.1 hx15.2 k acc
  · isplitl [H6]
    · iexact H6
    isplitl [H8]
    · iexact H8
    isplitl [H12]
    · iexact H12
    isplitl [H15]
    · iexact H15
    isplitl [H5]
    · iexists _
      isplitl [H5]
      · iexact H5
      · ipureintro
        exact fun t d h => absurd h (by omega)
    isplitl [H13]
    · iexists _
      isplitl [H13]
      · iexact H13
      · ipureintro
        exact fun _ key col h => hx13 key col (by omega)
    isplitl [H14]
    · iexists _
      iexact H14
    isplitl [H16]
    · iexists _
      iexact H16
    isplitl [H17]
    · iexists _
      isplitl [H17]
      · iexact H17
      · ipureintro
        exact fun _ r col => hx17 r col
    isplitl [H18]
    · iexists _
      isplitl [H18]
      · iexact H18
      · ipureintro
        exact hx18
    · iexists _
      isplitl [H19]
      · iexact H19
      · ipureintro
        exact hx19
  iintro %a7 HI
  icases HI with ⟨H6, H8, H12, H15, ⟨%g5, H5, %hg5⟩, ⟨%g13, H13, %hg13⟩, ⟨%g14, H14⟩, ⟨%g16, H16⟩, ⟨%g17, H17, %hg17⟩, ⟨%g18, H18, %hg18⟩, ⟨%g19, H19, %hg19⟩⟩
  have e7 : Scf.trips k0_t7_loop.lb k0_t7_loop.ub k0_t7_loop.st = 16 := trips7
  rw [e7] at hg5
  sl_step
  iapply Hk
  isplitl [H2]
  · iexists f2
    isplitr
    · ipureintro
      exact rfl
    · iexact H2
  isplitl [H3]
  · iexists f3
    isplitr
    · ipureintro
      exact rfl
    · iexact H3
  isplitl [H4]
  · iexists f4
    isplitr
    · ipureintro
      exact rfl
    · iexact H4
  isplitl [H5]
  · iexists g5
    isplitr
    · ipureintro
      exact vec3_ext fun t d => hg5 t d (by omega)
    · iexact H5
  isplitl [H6]
  · iexists g6
    isplitr
    · ipureintro
      exact h6
    · iexact H6
  isplitl [H7]
  · iexists g7
    isplitr
    · ipureintro
      exact h7
    · iexact H7
  isplitl [H8]
  · iexists g8
    isplitr
    · ipureintro
      exact h8
    · iexact H8
  isplitl [H9]
  · iexists x9
    isplitr
    · ipureintro
      exact hx9
    · iexact H9
  isplitl [H10]
  · iexists x10
    isplitr
    · ipureintro
      exact hx10
    · iexact H10
  isplitl [H11]
  · iexists x11
    isplitr
    · ipureintro
      exact hx11
    · iexact H11
  isplitl [H12]
  · iexists _, _
    isplitr; swap; · iexact H12
    ipureintro; rfl
  isplitl [H13]
  · iexists _, _
    isplitr; swap; · iexact H13
    ipureintro; rfl
  isplitl [H14]
  · iexists _, _
    isplitr; swap; · iexact H14
    ipureintro; rfl
  isplitl [H15]
  · iexists _, _
    isplitr; swap; · iexact H15
    ipureintro; rfl
  isplitl [H16]
  · iexists _, _
    isplitr; swap; · iexact H16
    ipureintro; rfl
  isplitl [H17]
  · iexists _, _
    isplitr; swap; · iexact H17
    ipureintro; rfl
  isplitl [H18]
  · iexists _, _
    isplitr; swap; · iexact H18
    ipureintro; rfl
  · iexists _, _
    isplitr; swap; · iexact H19
    ipureintro; rfl

end Cert.KernelIdeal.Hand

end
-- ==== Proof.KernelValueRun.lean ====
/-
  The kernel run with its values: each grid point leaves the output's block, the codes' blocks and the scales' blocks at
  the functions of the three input blocks that BodyValue.lean states.
-/
module

public import proofs.«01_k».proof.Proof.KernelIdealRun
public import proofs.«01_k».proof.Proof.BodyValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data: each array as the region finds it, each input's block left in place, each output's block at the
    body's value. -/
def datsV (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => outB (iblk m c 0 t) (iblk m c 1 t) (iblk m c 2 t)
    | 4 => codesT (iblk m c 0 t)
    | 5 => codesT (iblk m c 1 t)
    | 6 => codesT (iblk m c 2 t)
    | 7 => scaleB (iblk m c 0 t)
    | 8 => scaleB (iblk m c 1 t)
    | 9 => scaleB (iblk m c 2 t)
  Φ _ := Pipeline.ΦA spec0 c
  q _ := fullShare
  owed _ := 0

theorem A_eqV (c : Dev nD) (w : Fin cfg0.W) : (datsV m 0 c).A w = V m c (Pipeline.arrRef spec0 w) := by dsimp only [datsV]

theorem beforeV_0 (c : Dev nD) (t : Fin cfg0.N) (d) : (datsV m 0 c).before 0 t d = iblk m c 0 t :=
  before0_0_of m (datsV m 0 c) (A_eqV m c 0) (fun _ => rfl) t d
theorem beforeV_1 (c : Dev nD) (t : Fin cfg0.N) (d) : (datsV m 0 c).before 1 t d = iblk m c 1 t :=
  before0_1_of m (datsV m 0 c) (A_eqV m c 1) (fun _ => rfl) t d
theorem beforeV_2 (c : Dev nD) (t : Fin cfg0.N) (d) : (datsV m 0 c).before 2 t d = iblk m c 2 t :=
  before0_2_of m (datsV m 0 c) (A_eqV m c 2) (fun _ => rfl) t d

theorem afterV_0 (c : Dev nD) (t : Fin cfg0.N) : (datsV m 0 c).after 0 t = iblk m c 0 t := rfl
theorem afterV_1 (c : Dev nD) (t : Fin cfg0.N) : (datsV m 0 c).after 1 t = iblk m c 1 t := rfl
theorem afterV_2 (c : Dev nD) (t : Fin cfg0.N) : (datsV m 0 c).after 2 t = iblk m c 2 t := rfl
theorem afterV_3 (c : Dev nD) (t : Fin cfg0.N) : (datsV m 0 c).after 3 t = outB (iblk m c 0 t) (iblk m c 1 t) (iblk m c 2 t) := rfl
theorem afterV_4 (c : Dev nD) (t : Fin cfg0.N) : (datsV m 0 c).after 4 t = codesT (iblk m c 0 t) := rfl
theorem afterV_5 (c : Dev nD) (t : Fin cfg0.N) : (datsV m 0 c).after 5 t = codesT (iblk m c 1 t) := rfl
theorem afterV_6 (c : Dev nD) (t : Fin cfg0.N) : (datsV m 0 c).after 6 t = codesT (iblk m c 2 t) := rfl
theorem afterV_7 (c : Dev nD) (t : Fin cfg0.N) : (datsV m 0 c).after 7 t = scaleB (iblk m c 0 t) := rfl
theorem afterV_8 (c : Dev nD) (t : Fin cfg0.N) : (datsV m 0 c).after 8 t = scaleB (iblk m c 1 t) := rfl
theorem afterV_9 (c : Dev nD) (t : Fin cfg0.N) : (datsV m 0 c).after 9 t = scaleB (iblk m c 2 t) := rfl

/-- What the body is called with at a point, and what it returns. -/
def bodyPreV (c : Dev nD) (t : Fin cfg0.N) : sProp 𝕄 :=
  iprop((datsV m 0 c).Φ t.castSucc ∗ (datsV m 0 c).owesAt () t.castSucc ∗ (∃ d, owns (c : Thread nD τ) (win0_0.stage (cfg0.slots t 0)) fullShare ((datsV m 0 c).before 0 t d)) ∗ (∃ d, owns (c : Thread nD τ) (win0_1.stage (cfg0.slots t 1)) fullShare ((datsV m 0 c).before 1 t d)) ∗ (∃ d, owns (c : Thread nD τ) (win0_2.stage (cfg0.slots t 2)) fullShare ((datsV m 0 c).before 2 t d)) ∗ (∃ d, owns (c : Thread nD τ) (win0_3.stage (cfg0.slots t 3)) fullShare ((datsV m 0 c).before 3 t d)) ∗ (∃ d, owns (c : Thread nD τ) (win0_4.stage (cfg0.slots t 4)) fullShare ((datsV m 0 c).before 4 t d)) ∗ (∃ d, owns (c : Thread nD τ) (win0_5.stage (cfg0.slots t 5)) fullShare ((datsV m 0 c).before 5 t d)) ∗ (∃ d, owns (c : Thread nD τ) (win0_6.stage (cfg0.slots t 6)) fullShare ((datsV m 0 c).before 6 t d)) ∗ (∃ d, owns (c : Thread nD τ) (win0_7.stage (cfg0.slots t 7)) fullShare ((datsV m 0 c).before 7 t d)) ∗ (∃ d, owns (c : Thread nD τ) (win0_8.stage (cfg0.slots t 8)) fullShare ((datsV m 0 c).before 8 t d)) ∗ (∃ d, owns (c : Thread nD τ) (win0_9.stage (cfg0.slots t 9)) fullShare ((datsV m 0 c).before 9 t d)))
def bodyPostV (c : Dev nD) (t : Fin cfg0.N) : sProp 𝕄 :=
  iprop((datsV m 0 c).Φ t.succ ∗ (datsV m 0 c).owesAt () t.succ ∗ owns (c : Thread nD τ) (win0_0.stage (cfg0.slots t 0)) fullShare ((datsV m 0 c).after 0 t) ∗ owns (c : Thread nD τ) (win0_1.stage (cfg0.slots t 1)) fullShare ((datsV m 0 c).after 1 t) ∗ owns (c : Thread nD τ) (win0_2.stage (cfg0.slots t 2)) fullShare ((datsV m 0 c).after 2 t) ∗ owns (c : Thread nD τ) (win0_3.stage (cfg0.slots t 3)) fullShare ((datsV m 0 c).after 3 t) ∗ owns (c : Thread nD τ) (win0_4.stage (cfg0.slots t 4)) fullShare ((datsV m 0 c).after 4 t) ∗ owns (c : Thread nD τ) (win0_5.stage (cfg0.slots t 5)) fullShare ((datsV m 0 c).after 5 t) ∗ owns (c : Thread nD τ) (win0_6.stage (cfg0.slots t 6)) fullShare ((datsV m 0 c).after 6 t) ∗ owns (c : Thread nD τ) (win0_7.stage (cfg0.slots t 7)) fullShare ((datsV m 0 c).after 7 t) ∗ owns (c : Thread nD τ) (win0_8.stage (cfg0.slots t 8)) fullShare ((datsV m 0 c).after 8 t) ∗ owns (c : Thread nD τ) (win0_9.stage (cfg0.slots t 9)) fullShare ((datsV m 0 c).after 9 t))

set_option maxHeartbeats 1000000 in
/-- The body at any point. -/
theorem sound_bodyV (c : Dev nD) (t : Fin cfg0.N) :
    bodyPreV m c t ⊢ wp Idealize.ShloMosaic.frame (wpE (defs₀ (F := Ideal)) Variants.none c none) Set.univ (bodyAt0 t) (fun _ => bodyPostV m c t) := by
  unfold bodyPreV bodyPostV bodyAt0
  simp only [beforeV_0, beforeV_1, beforeV_2]
  rw [show (datsV m 0 c).Φ t.succ = (datsV m 0 c).Φ t.castSucc from rfl,
    show (datsV m 0 c).owesAt () t.succ = (datsV m 0 c).owesAt () t.castSucc from rfl,
    show (datsV m 0 c).Φ t.castSucc = Pipeline.ΦA spec0 c from rfl, Phi_eq]
  rw [afterV_0, afterV_1, afterV_2, afterV_3, afterV_4, afterV_5, afterV_6, afterV_7, afterV_8, afterV_9]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernelV c _ _ _ _ _ _ _ _ _ _ _ _ _ _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, S0, S1, S2, S3, S4, S5, S6, S7⟩
  isplitl [Hg S0 S1 S2 S3 S4 S5 S6 S7]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on the body. -/
theorem body_obligationV (c : Dev nD) :
    BodyObligation (datsV m 0 c) (defs₀ (F := Ideal)) Variants.none () Set.univ := fun t => by
  rw [bigSep_W0, bigSep_W0, defs₀_row]
  exact triple_restated (sound_bodyV m c t) rfl .rfl fun _ => .rfl

set_option backward.isDefEq.respectTransparency.types false in
/-- Every weakly fair execution of @main terminates without a fault, with every array of the call at what its blocks hold
    and every other buffer at what the host lines after the call leave there. -/
theorem run_mainV :
    θ_run defs (onTc (τ := τ) (main (F := Ideal))) (s₀ m ρ)
      (Pipeline.FramePost cfgs (datsV m) 0 (Pipeline.afterTail₀ cfgs (datsV m) 0 (V0 m) [hostOps1])) :=
  Pipeline.θ_run_frame_around (Q' := _) cfgs (datsV m) (0 : Fin 1) launch0 defs₀ Variants.none m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps)
    (hmain := hmain m Variants.none) (hA := A_eqV m) (hΦ := fun _ _ => rfl)

end Cert.KernelIdeal.Hand

end
-- ==== Proof.KernelArrays.lean ====
/-
  The arrays the kernel's grid leaves, each as one function of the three argument arrays: every block of an array is what
  the grid point of its batch and pair of heads computes from that batch's and that pair's blocks of the arguments.
-/
module

public import proofs.«01_k».proof.Proof.KernelValueRun
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The block of batch `b` and pair `p`: all tokens, the pair's 128 lanes. -/
def blkOf (X : Vec Ideal S4x8192x2048 .bf16) (b : Fin 4) (p : Fin 16) : Vec Ideal S1x8192x128 .bf16 := fun j =>
  X (ix3 b (j (1 : Fin 3)) ⟨128 * p.val + (j (2 : Fin 3)).val, by have := (j (2 : Fin 3)).isLt; have : (j (2 : Fin 3)).val < 128 := this; omega⟩)

/-- The windows' block indices. -/
theorem idxV : ∀ t : Fin cfg0.N, win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0, 0]
    ∧ win0_8.index t = ![(grid0.coords t 0).val, (grid0.coords t 1).val, 0, 0]
    ∧ win0_9.index t = ![(grid0.coords t 0).val, (grid0.coords t 1).val, 0, 0] :=
  (by decide +kernel : ∀ t : Fin grid0.N, _)

/-- The batch and the pair of a grid point. -/
def ptB (t : Fin cfg0.N) : Fin 4 := ⟨(grid0.coords t 0).val, (grid0.coords t 0).isLt⟩
def ptP (t : Fin cfg0.N) : Fin 16 := ⟨(grid0.coords t 1).val, (grid0.coords t 1).isLt⟩

theorem iblk0_eq (c : Dev nD) (t : Fin cfg0.N) :
    iblk m c 0 t = blkOf (m ((c : Thread nD τ).loc main_arg0)) (ptB t) (ptP t) := by
  funext y
  unfold blkOf ptB ptP
  blk_ext [iblk, V, idxV t]

theorem iblk1_eq (c : Dev nD) (t : Fin cfg0.N) :
    iblk m c 1 t = blkOf (m ((c : Thread nD τ).loc main_arg1)) (ptB t) (ptP t) := by
  funext y
  unfold blkOf ptB ptP
  blk_ext [iblk, V, idxV t]

theorem iblk2_eq (c : Dev nD) (t : Fin cfg0.N) :
    iblk m c 2 t = blkOf (m ((c : Thread nD τ).loc main_arg2)) (ptB t) (ptP t) := by
  funext y
  unfold blkOf ptB ptP
  blk_ext [iblk, V, idxV t]

/-- The result array, by batch, token and lane. -/
def outA (x k v : Vec Ideal S4x8192x2048 .bf16) (b : Fin 4) (t : Fin 8192) (l : Fin 2048) : EReal :=
  outB (blkOf x b ⟨l.val / 128, by omega⟩) (blkOf k b ⟨l.val / 128, by omega⟩) (blkOf v b ⟨l.val / 128, by omega⟩)
    (ix3 0 t ⟨l.val % 128, by omega⟩)

/-- An array of codes, by batch, lane and token. -/
def codeA (x : Vec Ideal S4x8192x2048 .bf16) (b : Fin 4) (l : Fin 2048) (t : Fin 8192) : EReal :=
  codeS (blkOf x b ⟨l.val / 128, by omega⟩) t ⟨l.val % 128, by omega⟩

/-- An array of scales, by batch, pair and lane. -/
def scaleA (x : Vec Ideal S4x8192x2048 .bf16) (b : Fin 4) (p : Fin 16) (l : Fin 128) : EReal :=
  scaleOf (headM (blkOf x b p) l)

theorem outA_at (x k v : Vec Ideal S4x8192x2048 .bf16) (b : Fin 4) (p : Fin 16) (y : S1x8192x128.Idx)
    (i : S4x8192x2048.Idx) (h0 : (i (0 : Fin 3)).val = b.val) (h1 : (i (1 : Fin 3)).val = (y (1 : Fin 3)).val)
    (h2 : (i (2 : Fin 3)).val = 128 * p.val + (y (2 : Fin 3)).val) :
    outB (blkOf x b p) (blkOf k b p) (blkOf v b p) y = outA x k v (i (0 : Fin 3)) (i (1 : Fin 3)) (i (2 : Fin 3)) := by
  have hy2 : (y (2 : Fin 3)).val < 128 := (y (2 : Fin 3)).isLt
  have e0 : (i (0 : Fin 3) : Fin 4) = b := Fin.ext h0
  have e1 : (i (1 : Fin 3) : Fin 8192) = y (1 : Fin 3) := Fin.ext h1
  unfold outA
  have ep : (⟨(i (2 : Fin 3)).val / 128, by have : (i (2 : Fin 3)).val < 2048 := (i (2 : Fin 3)).isLt; omega⟩ : Fin 16) = p := by
    apply Fin.ext; show (i (2 : Fin 3)).val / 128 = p.val; omega
  have el : (⟨(i (2 : Fin 3)).val % 128, by omega⟩ : Fin 128) = y (2 : Fin 3) := by
    apply Fin.ext; show (i (2 : Fin 3)).val % 128 = (y (2 : Fin 3)).val; omega
  rw [ep, el, e0, e1]
  rfl

theorem codeA_at (x : Vec Ideal S4x8192x2048 .bf16) (b : Fin 4) (p : Fin 16) (y : S1x128x8192.Idx)
    (i : S4x2048x8192.Idx) (h0 : (i (0 : Fin 3)).val = b.val) (h1 : (i (1 : Fin 3)).val = 128 * p.val + (y (1 : Fin 3)).val)
    (h2 : (i (2 : Fin 3)).val = (y (2 : Fin 3)).val) :
    codesT (blkOf x b p) y = codeA x (i (0 : Fin 3)) (i (1 : Fin 3)) (i (2 : Fin 3)) := by
  have hy2 : (y (1 : Fin 3)).val < 128 := (y (1 : Fin 3)).isLt
  have e0 : (i (0 : Fin 3) : Fin 4) = b := Fin.ext h0
  have e1 : (i (2 : Fin 3) : Fin 8192) = y (2 : Fin 3) := Fin.ext h2
  unfold codeA
  have ep : (⟨(i (1 : Fin 3)).val / 128, by have : (i (1 : Fin 3)).val < 2048 := (i (1 : Fin 3)).isLt; omega⟩ : Fin 16) = p := by
    apply Fin.ext; show (i (1 : Fin 3)).val / 128 = p.val; omega
  have el : (⟨(i (1 : Fin 3)).val % 128, by omega⟩ : Fin 128) = y (1 : Fin 3) := by
    apply Fin.ext; show (i (1 : Fin 3)).val % 128 = (y (1 : Fin 3)).val; omega
  rw [ep, el, e0, e1]
  rfl

theorem scaleA_at (x : Vec Ideal S4x8192x2048 .bf16) (b : Fin 4) (p : Fin 16) (y : S1x1x1x128.Idx)
    (i : S4x16x1x128.Idx) (h0 : (i (0 : Fin 4)).val = b.val) (h1 : (i (1 : Fin 4)).val = p.val)
    (h3 : (i (3 : Fin 4)).val = (y (3 : Fin 4)).val) :
    scaleB (blkOf x b p) y = scaleA x (i (0 : Fin 4)) (i (1 : Fin 4)) (i (3 : Fin 4)) := by
  have e0 : (i (0 : Fin 4) : Fin 4) = b := Fin.ext h0
  have e1 : (i (1 : Fin 4) : Fin 16) = p := Fin.ext h1
  have e3 : (i (3 : Fin 4) : Fin 128) = y (3 : Fin 4) := Fin.ext h3
  unfold scaleA
  rw [e0, e1, e3]
  rfl

theorem final3 (c : Dev nD) : (datsV m 0 c).arrAt 3 (cfgs 0).N = fun i : S4x8192x2048.Idx =>
    outA (m ((c : Thread nD τ).loc main_arg0)) (m ((c : Thread nD τ).loc main_arg1)) (m ((c : Thread nD τ).loc main_arg2))
      (i (0 : Fin 3)) (i (1 : Fin 3)) (i (2 : Fin 3)) := by
  refine (datsV m 0 c).arrAt_eq_of_covers 3 _ (by decide +kernel) fun t _ y => ?_
  blk_simp
  rw [afterV_3, iblk0_eq, iblk1_eq, iblk2_eq]
  refine outA_at _ _ _ _ _ _ _ ?_ ?_ ?_
  all_goals (blk_simp [idxV t]; first | done | (simp only [ptB, ptP] <;> omega))

theorem final4 (c : Dev nD) : (datsV m 0 c).arrAt 4 (cfgs 0).N = fun i : S4x2048x8192.Idx =>
    codeA (m ((c : Thread nD τ).loc main_arg0)) (i (0 : Fin 3)) (i (1 : Fin 3)) (i (2 : Fin 3)) := by
  refine (datsV m 0 c).arrAt_eq_of_covers 4 _ (by decide +kernel) fun t _ y => ?_
  blk_simp
  rw [afterV_4, iblk0_eq]
  refine codeA_at _ _ _ _ _ ?_ ?_ ?_
  all_goals (blk_simp [idxV t]; first | done | (simp only [ptB, ptP] <;> omega))

theorem final5 (c : Dev nD) : (datsV m 0 c).arrAt 5 (cfgs 0).N = fun i : S4x2048x8192.Idx =>
    codeA (m ((c : Thread nD τ).loc main_arg1)) (i (0 : Fin 3)) (i (1 : Fin 3)) (i (2 : Fin 3)) := by
  refine (datsV m 0 c).arrAt_eq_of_covers 5 _ (by decide +kernel) fun t _ y => ?_
  blk_simp
  rw [afterV_5, iblk1_eq]
  refine codeA_at _ _ _ _ _ ?_ ?_ ?_
  all_goals (blk_simp [idxV t]; first | done | (simp only [ptB, ptP] <;> omega))

theorem final6 (c : Dev nD) : (datsV m 0 c).arrAt 6 (cfgs 0).N = fun i : S4x2048x8192.Idx =>
    codeA (m ((c : Thread nD τ).loc main_arg2)) (i (0 : Fin 3)) (i (1 : Fin 3)) (i (2 : Fin 3)) := by
  refine (datsV m 0 c).arrAt_eq_of_covers 6 _ (by decide +kernel) fun t _ y => ?_
  blk_simp
  rw [afterV_6, iblk2_eq]
  refine codeA_at _ _ _ _ _ ?_ ?_ ?_
  all_goals (blk_simp [idxV t]; first | done | (simp only [ptB, ptP] <;> omega))

theorem final7 (c : Dev nD) : (datsV m 0 c).arrAt 7 (cfgs 0).N = fun i : S4x16x1x128.Idx =>
    scaleA (m ((c : Thread nD τ).loc main_arg0)) (i (0 : Fin 4)) (i (1 : Fin 4)) (i (3 : Fin 4)) := by
  refine (datsV m 0 c).arrAt_eq_of_covers 7 _ (by decide +kernel) fun t _ y => ?_
  blk_simp
  rw [afterV_7, iblk0_eq]
  refine scaleA_at _ _ _ _ _ ?_ ?_ ?_
  all_goals (blk_simp [idxV t]; first | done | (simp only [ptB, ptP] <;> omega))

theorem final8 (c : Dev nD) : (datsV m 0 c).arrAt 8 (cfgs 0).N = fun i : S4x16x1x128.Idx =>
    scaleA (m ((c : Thread nD τ).loc main_arg1)) (i (0 : Fin 4)) (i (1 : Fin 4)) (i (3 : Fin 4)) := by
  refine (datsV m 0 c).arrAt_eq_of_covers 8 _ (by decide +kernel) fun t _ y => ?_
  blk_simp
  rw [afterV_8, iblk1_eq]
  refine scaleA_at _ _ _ _ _ ?_ ?_ ?_
  all_goals (blk_simp [idxV t]; first | done | (simp only [ptB, ptP] <;> omega))

theorem final9 (c : Dev nD) : (datsV m 0 c).arrAt 9 (cfgs 0).N = fun i : S4x16x1x128.Idx =>
    scaleA (m ((c : Thread nD τ).loc main_arg2)) (i (0 : Fin 4)) (i (1 : Fin 4)) (i (3 : Fin 4)) := by
  refine (datsV m 0 c).arrAt_eq_of_covers 9 _ (by decide +kernel) fun t _ y => ?_
  blk_simp
  rw [afterV_9, iblk2_eq]
  refine scaleA_at _ _ _ _ _ ?_ ?_ ?_
  all_goals (blk_simp [idxV t]; first | done | (simp only [ptB, ptP] <;> omega))

end Cert.KernelIdeal.Hand

end
-- ==== Proof.KernelResults.lean ====
/-
  The kernel's seven results: what the host makes of the arrays the grid leaves, each result by its coordinates.
-/
module

public import proofs.«01_k».proof.Proof.KernelArrays
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- A result of codes, by batch, token, head and feature. -/
def codeR (x : Vec Ideal S4x8192x2048 .bf16) (b : Fin 4) (t : Fin 8192) (h : Fin 32) (d : Fin 64) : EReal :=
  codeA x b ⟨64 * h.val + d.val, by omega⟩ t

/-- A result of scales, by batch and head. -/
def scaleR (x : Vec Ideal S4x8192x2048 .bf16) (b : Fin 4) (h : Fin 32) : EReal :=
  scaleA x b ⟨h.val / 2, by omega⟩ ⟨64 * (h.val % 2), by omega⟩

/-- The host splits the lanes of an array of codes into heads and features, and puts the tokens second. -/
theorem tail_main_v2 (W : Valuation τ sig (Elt Ideal)) (A : Vec Ideal S4x2048x8192 .fp8e4m3)
    (h : W (Proc.devRef .tc main_v0_1) = A) (b : Fin 4) (t : Fin 8192) (hh : Fin 32) (d : Fin 64) :
    (show Vec Ideal S4x8192x32x64 .fp8e4m3 from StableHlo.after hostOps1 W (Proc.devRef .tc main_v2)) (ix4 b t hh d)
      = A (ix3 b ⟨64 * hh.val + d.val, by omega⟩ t) := by
  show StableHlo.after hostOps1 W (Proc.devRef .tc main_v2) (ix4 b t hh d) = _
  after_results
  rw [h]
  pointwise
  refine congrArg A ?_
  blk_ext

/-- The host splits the lanes of an array of codes into heads and features, and puts the tokens second. -/
theorem tail_main_v7 (W : Valuation τ sig (Elt Ideal)) (A : Vec Ideal S4x2048x8192 .fp8e4m3)
    (h : W (Proc.devRef .tc main_v0_2) = A) (b : Fin 4) (t : Fin 8192) (hh : Fin 32) (d : Fin 64) :
    (show Vec Ideal S4x8192x32x64 .fp8e4m3 from StableHlo.after hostOps1 W (Proc.devRef .tc main_v7)) (ix4 b t hh d)
      = A (ix3 b ⟨64 * hh.val + d.val, by omega⟩ t) := by
  show StableHlo.after hostOps1 W (Proc.devRef .tc main_v7) (ix4 b t hh d) = _
  after_results
  rw [h]
  pointwise
  refine congrArg A ?_
  blk_ext

/-- The host splits the lanes of an array of codes into heads and features, and puts the tokens second. -/
theorem tail_main_v12 (W : Valuation τ sig (Elt Ideal)) (A : Vec Ideal S4x2048x8192 .fp8e4m3)
    (h : W (Proc.devRef .tc main_v0_3) = A) (b : Fin 4) (t : Fin 8192) (hh : Fin 32) (d : Fin 64) :
    (show Vec Ideal S4x8192x32x64 .fp8e4m3 from StableHlo.after hostOps1 W (Proc.devRef .tc main_v12)) (ix4 b t hh d)
      = A (ix3 b ⟨64 * hh.val + d.val, by omega⟩ t) := by
  show StableHlo.after hostOps1 W (Proc.devRef .tc main_v12) (ix4 b t hh d) = _
  after_results
  rw [h]
  pointwise
  refine congrArg A ?_
  blk_ext

/-- The host takes one lane of each head's scale, and splits the heads out of the pairs. -/
theorem tail_main_v5 (W : Valuation τ sig (Elt Ideal)) (A : Vec Ideal S4x16x1x128 .f32)
    (h : W (Proc.devRef .tc main_v0_4) = A) (b : Fin 4) (hh : Fin 32) :
    (show Vec Ideal S4x32 .f32 from StableHlo.after hostOps1 W (Proc.devRef .tc main_v5)) (ix2 b hh)
      = A (ix4 b ⟨hh.val / 2, by omega⟩ 0 ⟨64 * (hh.val % 2), by omega⟩) := by
  show StableHlo.after hostOps1 W (Proc.devRef .tc main_v5) (ix2 b hh) = _
  after_results
  rw [h]
  pointwise

/-- The host takes one lane of each head's scale, and splits the heads out of the pairs. -/
theorem tail_main_v10 (W : Valuation τ sig (Elt Ideal)) (A : Vec Ideal S4x16x1x128 .f32)
    (h : W (Proc.devRef .tc main_v0_5) = A) (b : Fin 4) (hh : Fin 32) :
    (show Vec Ideal S4x32 .f32 from StableHlo.after hostOps1 W (Proc.devRef .tc main_v10)) (ix2 b hh)
      = A (ix4 b ⟨hh.val / 2, by omega⟩ 0 ⟨64 * (hh.val % 2), by omega⟩) := by
  show StableHlo.after hostOps1 W (Proc.devRef .tc main_v10) (ix2 b hh) = _
  after_results
  rw [h]
  pointwise

/-- The host takes one lane of each head's scale, and splits the heads out of the pairs. -/
theorem tail_main_v15 (W : Valuation τ sig (Elt Ideal)) (A : Vec Ideal S4x16x1x128 .f32)
    (h : W (Proc.devRef .tc main_v0_6) = A) (b : Fin 4) (hh : Fin 32) :
    (show Vec Ideal S4x32 .f32 from StableHlo.after hostOps1 W (Proc.devRef .tc main_v15)) (ix2 b hh)
      = A (ix4 b ⟨hh.val / 2, by omega⟩ 0 ⟨64 * (hh.val % 2), by omega⟩) := by
  show StableHlo.after hostOps1 W (Proc.devRef .tc main_v15) (ix2 b hh) = _
  after_results
  rw [h]
  pointwise

variable (m : (ℓ : Loc nD τ sig) → Buf (Elt Ideal) ℓ) (ρ : Dev nD → PrngReg)

/-- What the host finds where the grid left its arrays. -/
abbrev W1 (c : Dev nD) : Valuation τ sig (Elt Ideal) :=
  Pipeline.withArrays (cfgs 0).spec c (V0 m c) fun w => (datsV m 0 c).arrAt w (cfgs 0).N

theorem W1_arr (c : Dev nD) (w : Fin cfg0.W) : W1 m c (Proc.devRef .tc (Pipeline.arrRef spec0 w)) = (datsV m 0 c).arrAt w (cfgs 0).N :=
  Pipeline.withArrays_arr _ launch0.win.arr_inj c _ _ w

theorem tail_eq (c : Dev nD) (b : Ref sig .tc) : Pipeline.afterTail₀ cfgs (datsV m) 0 (V0 m) [hostOps1] c b
    = StableHlo.after hostOps1 (W1 m c) (Proc.devRef .tc b) := rfl

theorem res_main_v2 (c : Dev nD) : Pipeline.afterTail₀ cfgs (datsV m) 0 (V0 m) [hostOps1] c main_v2
    = fun i : S4x8192x32x64.Idx => codeR (m ((c : Thread nD τ).loc main_arg0)) (i (0 : Fin 4)) (i (1 : Fin 4)) (i (2 : Fin 4)) (i (3 : Fin 4)) := by
  rw [tail_eq]
  funext i
  have e : i = ix4 (n0 := 4) (n1 := 8192) (n2 := 32) (n3 := 64) (i (0 : Fin 4)) (i (1 : Fin 4)) (i (2 : Fin 4)) (i (3 : Fin 4)) := eq_ix4 i
  refine (congrArg _ e).trans ?_
  exact tail_main_v2 (W1 m c) _ ((W1_arr m c 4).trans (final4 m c)) _ _ _ _

theorem res_main_v7 (c : Dev nD) : Pipeline.afterTail₀ cfgs (datsV m) 0 (V0 m) [hostOps1] c main_v7
    = fun i : S4x8192x32x64.Idx => codeR (m ((c : Thread nD τ).loc main_arg1)) (i (0 : Fin 4)) (i (1 : Fin 4)) (i (2 : Fin 4)) (i (3 : Fin 4)) := by
  rw [tail_eq]
  funext i
  have e : i = ix4 (n0 := 4) (n1 := 8192) (n2 := 32) (n3 := 64) (i (0 : Fin 4)) (i (1 : Fin 4)) (i (2 : Fin 4)) (i (3 : Fin 4)) := eq_ix4 i
  refine (congrArg _ e).trans ?_
  exact tail_main_v7 (W1 m c) _ ((W1_arr m c 5).trans (final5 m c)) _ _ _ _

theorem res_main_v12 (c : Dev nD) : Pipeline.afterTail₀ cfgs (datsV m) 0 (V0 m) [hostOps1] c main_v12
    = fun i : S4x8192x32x64.Idx => codeR (m ((c : Thread nD τ).loc main_arg2)) (i (0 : Fin 4)) (i (1 : Fin 4)) (i (2 : Fin 4)) (i (3 : Fin 4)) := by
  rw [tail_eq]
  funext i
  have e : i = ix4 (n0 := 4) (n1 := 8192) (n2 := 32) (n3 := 64) (i (0 : Fin 4)) (i (1 : Fin 4)) (i (2 : Fin 4)) (i (3 : Fin 4)) := eq_ix4 i
  refine (congrArg _ e).trans ?_
  exact tail_main_v12 (W1 m c) _ ((W1_arr m c 6).trans (final6 m c)) _ _ _ _

theorem res_main_v5 (c : Dev nD) : Pipeline.afterTail₀ cfgs (datsV m) 0 (V0 m) [hostOps1] c main_v5
    = fun i : S4x32.Idx => scaleR (m ((c : Thread nD τ).loc main_arg0)) (i (0 : Fin 2)) (i (1 : Fin 2)) := by
  rw [tail_eq]
  funext i
  have e : i = ix2 (n0 := 4) (n1 := 32) (i (0 : Fin 2)) (i (1 : Fin 2)) := eq_ix2 i
  refine (congrArg _ e).trans ?_
  exact tail_main_v5 (W1 m c) _ ((W1_arr m c 7).trans (final7 m c)) _ _

theorem res_main_v10 (c : Dev nD) : Pipeline.afterTail₀ cfgs (datsV m) 0 (V0 m) [hostOps1] c main_v10
    = fun i : S4x32.Idx => scaleR (m ((c : Thread nD τ).loc main_arg1)) (i (0 : Fin 2)) (i (1 : Fin 2)) := by
  rw [tail_eq]
  funext i
  have e : i = ix2 (n0 := 4) (n1 := 32) (i (0 : Fin 2)) (i (1 : Fin 2)) := eq_ix2 i
  refine (congrArg _ e).trans ?_
  exact tail_main_v10 (W1 m c) _ ((W1_arr m c 8).trans (final8 m c)) _ _

theorem res_main_v15 (c : Dev nD) : Pipeline.afterTail₀ cfgs (datsV m) 0 (V0 m) [hostOps1] c main_v15
    = fun i : S4x32.Idx => scaleR (m ((c : Thread nD τ).loc main_arg2)) (i (0 : Fin 2)) (i (1 : Fin 2)) := by
  rw [tail_eq]
  funext i
  have e : i = ix2 (n0 := 4) (n1 := 32) (i (0 : Fin 2)) (i (1 : Fin 2)) := eq_ix2 i
  refine (congrArg _ e).trans ?_
  exact tail_main_v15 (W1 m c) _ ((W1_arr m c 9).trans (final9 m c)) _ _

/-- Every run ends with the seven results at those functions of the arguments, and the arguments unchanged. -/
theorem run_results : θ_run (defs (F := Ideal)) (onTc (τ := τ) (main (F := Ideal))) ⟨m, fun _ => 0, ρ⟩ (fun r => ∀ c : Dev nD,
    r.2.mem ((c.tc : Thread nD τ).loc main_v0_0) = (fun i : S4x8192x2048.Idx => outA (m ((c.tc : Thread nD τ).loc main_arg0)) (m ((c.tc : Thread nD τ).loc main_arg1)) (m ((c.tc : Thread nD τ).loc main_arg2)) (i (0 : Fin 3)) (i (1 : Fin 3)) (i (2 : Fin 3)))
    ∧ r.2.mem ((c.tc : Thread nD τ).loc main_v2) = (fun i : S4x8192x32x64.Idx => codeR (m ((c.tc : Thread nD τ).loc main_arg0)) (i (0 : Fin 4)) (i (1 : Fin 4)) (i (2 : Fin 4)) (i (3 : Fin 4)))
    ∧ r.2.mem ((c.tc : Thread nD τ).loc main_v5) = (fun i : S4x32.Idx => scaleR (m ((c.tc : Thread nD τ).loc main_arg0)) (i (0 : Fin 2)) (i (1 : Fin 2)))
    ∧ r.2.mem ((c.tc : Thread nD τ).loc main_v7) = (fun i : S4x8192x32x64.Idx => codeR (m ((c.tc : Thread nD τ).loc main_arg1)) (i (0 : Fin 4)) (i (1 : Fin 4)) (i (2 : Fin 4)) (i (3 : Fin 4)))
    ∧ r.2.mem ((c.tc : Thread nD τ).loc main_v10) = (fun i : S4x32.Idx => scaleR (m ((c.tc : Thread nD τ).loc main_arg1)) (i (0 : Fin 2)) (i (1 : Fin 2)))
    ∧ r.2.mem ((c.tc : Thread nD τ).loc main_v12) = (fun i : S4x8192x32x64.Idx => codeR (m ((c.tc : Thread nD τ).loc main_arg2)) (i (0 : Fin 4)) (i (1 : Fin 4)) (i (2 : Fin 4)) (i (3 : Fin 4)))
    ∧ r.2.mem ((c.tc : Thread nD τ).loc main_v15) = (fun i : S4x32.Idx => scaleR (m ((c.tc : Thread nD τ).loc main_arg2)) (i (0 : Fin 2)) (i (1 : Fin 2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h c).1 3).trans (final3 m c),
    ((h c).2 main_v2 (Pipeline.mem_restRefs_of main_v2 (by decide) (by decide))).trans (res_main_v2 m c),
    ((h c).2 main_v5 (Pipeline.mem_restRefs_of main_v5 (by decide) (by decide))).trans (res_main_v5 m c),
    ((h c).2 main_v7 (Pipeline.mem_restRefs_of main_v7 (by decide) (by decide))).trans (res_main_v7 m c),
    ((h c).2 main_v10 (Pipeline.mem_restRefs_of main_v10 (by decide) (by decide))).trans (res_main_v10 m c),
    ((h c).2 main_v12 (Pipeline.mem_restRefs_of main_v12 (by decide) (by decide))).trans (res_main_v12 m c),
    ((h c).2 main_v15 (Pipeline.mem_restRefs_of main_v15 (by decide) (by decide))).trans (res_main_v15 m c),
    ((h c).1 0).trans (((datsV m 0 c).arrAt_in 0 rfl _).trans ((A_eqV m c 0).trans (V_main_arg0 m c))),
    ((h c).1 1).trans (((datsV m 0 c).arrAt_in 1 rfl _).trans ((A_eqV m c 1).trans (V_main_arg1 m c))),
    ((h c).1 2).trans (((datsV m 0 c).arrAt_in 2 rfl _).trans ((A_eqV m c 2).trans (V_main_arg2 m c)))⟩) (run_mainV m ρ)

end Cert.KernelIdeal.Hand

end
-- ==== Proof.AttnSpec.lean ====
/-
  The attention of one head as the reference states it, as plain functions of the head's queries, keys and values.
-/
module

public import Idealize.ShloMosaic.Lib.Pointwise

@[expose] public section

noncomputable section

namespace Cert.Attn

open Idealize.ShloMosaic

/-- The largest magnitude. -/
def amax (X : Fin 8192 → Fin 64 → EReal) : EReal :=
  (Finset.univ : Finset (Fin 8192)).sup fun t => (Finset.univ : Finset (Fin 64)).sup fun d => max (X t d) (-(X t d))

/-- The exponent of the scale: one more than the floor of the base-two logarithm of `a / 448`; zero when `a` is. -/
def expo (a : EReal) : EReal :=
  if a = 0 then 0
  else Ideal.liftRound Int.floor (Ideal.div (Ideal.log (a * Ideal.ofBits FTy.f32 991054117#32))
    (Ideal.log (Ideal.ofBits FTy.f32 1073741824#32))) + 1

/-- The scale. -/
def scale (a : EReal) : EReal := Ideal.exp2 (expo a)

/-- The codes: each value over the scale, clipped to 448. -/
def code (X : Fin 8192 → Fin 64 → EReal) (t : Fin 8192) (d : Fin 64) : EReal :=
  min (Ideal.ofBits FTy.f32 1138753536#32)
    (max (Ideal.ofBits FTy.f32 3286237184#32) (X t d * Ideal.exp2 (0 - expo (amax X))))

/-- The score of key `s` for query `t`, minus infinity where the key comes after the query. -/
def score (q k : Fin 8192 → Fin 64 → EReal) (t s : Fin 8192) : EReal :=
  if s.val ≤ t.val then (∑ d : Fin 64, code q t d * code k s d)
    * (scale (amax q) * scale (amax k) * Ideal.ofBits FTy.f32 1040187392#32)
  else ⊥

/-- The largest score of a query. -/
def top (q k : Fin 8192 → Fin 64 → EReal) (t : Fin 8192) : EReal :=
  (Finset.univ : Finset (Fin 8192)).sup fun s => score q k t s

/-- The unnormalised weight of key `s` for query `t`. -/
def weight (q k : Fin 8192 → Fin 64 → EReal) (t s : Fin 8192) : EReal := Ideal.exp (score q k t s - top q k t)

/-- The result. -/
def attn (q k v : Fin 8192 → Fin 64 → EReal) (t : Fin 8192) (d : Fin 64) : EReal :=
  Ideal.div ((∑ s : Fin 8192, weight q k t s * code v s d) * scale (amax v)) (∑ s : Fin 8192, weight q k t s)

end Cert.Attn

end
-- ==== Proof.RefRead.lean ====
/-
  What the reference's one call computes, read head by head: its codes, scales and result are the functions of
  AttnSpec.lean of the head's rows of the three arrays.
-/
module

public import proofs.«01_k».proof.Proof.Gen.ReferenceIdeal.Frame
public import proofs.«01_k».proof.Proof.AttnSpec
public import Idealize.ShloMosaic.Lib.Pointwise

@[expose] public section

set_option maxRecDepth 16384

noncomputable section

namespace Cert.ReferenceIdeal.Hand

open Cert.ReferenceIdeal Cert.ReferenceIdeal.Gen Cert.Attn
open Idealize.ShloMosaic

/-- The rows of head `g`. -/
def hd (x : Vec Ideal S128x8192x64 .bf16) (g : Fin 128) : Fin 8192 → Fin 64 → EReal := fun t d => x (ix3 g t d)

theorem ninf : Ideal.ofBits FTy.f32 4286578688#32 = (⊥ : EReal) := by
  simp [Ideal.ofBits, Ideal.ieee]

theorem fold_bot {n : ℕ} (f : Fin n → EReal) : Finset.fold max (⊥ : EReal) f Finset.univ = Finset.univ.sup f := rfl

theorem absf_eq (y : Ideal .f32) : FloatOps.absf (F := Ideal) (φ := .f32) y = max y (-y) := rfl
theorem log_eq (y : Ideal .f32) : Scalar.log (F := Ideal) (φ := .f32) y = Ideal.log y := rfl
theorem exp2_eq (y : Ideal .f32) : FloatOps.exp2 (F := Ideal) (φ := .f32) y = Ideal.exp2 y := rfl

/-- The exponents, of an array of largest magnitudes. -/
theorem expo_at (a : FVec Ideal S128x1x1 .f32) (g : Fin 128) :
    k0_pay8 (F := Ideal) a k0_pay7 (ix3 g 0 0) = expo (a (ix3 g 0 0)) := by
  pointwise [k0_pay8, k0_pay7]
  rw [log_eq]
  unfold expo
  rfl

/-- The codes, of an array of values and one of largest magnitudes. -/
theorem code_at (y : FVec Ideal S128x8192x64 .f32) (a : FVec Ideal S128x1x1 .f32) (g : Fin 128) (t : Fin 8192) (d : Fin 64) :
    k0_pay9 (F := Ideal) y a k0_pay7 (ix3 g t d) = min (Ideal.ofBits FTy.f32 1138753536#32)
      (max (Ideal.ofBits FTy.f32 3286237184#32) (y (ix3 g t d) * Ideal.exp2 (0 - expo (a (ix3 g 0 0))))) := by
  rw [← expo_at a g]
  unfold k0_pay9
  generalize k0_pay8 a k0_pay7 = e
  pointwise
  rw [exp2_eq]

/-- The scales, of an array of largest magnitudes. -/
theorem scale_at (a : FVec Ideal S128x1x1 .f32) (g : Fin 128) :
    k0_pay10 (F := Ideal) a k0_pay7 (ix3 g 0 0) = scale (a (ix3 g 0 0)) := by
  unfold scale
  rw [← expo_at a g]
  unfold k0_pay10
  generalize k0_pay8 a k0_pay7 = e
  pointwise
  rw [exp2_eq]

theorem val_at (x : Vec Ideal S128x8192x64 .bf16) (g : Fin 128) (t : Fin 8192) (d : Fin 64) :
    k0_pay5 (F := Ideal) x (ix3 g t d) = x (ix3 g t d) := by
  pointwise [k0_pay5]

/-- The largest magnitudes. -/
theorem amax_at (x : Vec Ideal S128x8192x64 .bf16) (g : Fin 128) :
    k0_pay6 (F := Ideal) x (ix3 g 0 0) = amax (hd x g) := by
  have h : ∀ (t : Fin 8192) (d : Fin 64), absf (k0_pay5 x) (ix3 g t d) = max (x (ix3 g t d)) (-(x (ix3 g t d))) := by
    intro t d
    pointwise
    rw [val_at, absf_eq]
  unfold k0_pay6
  revert h
  generalize absf (k0_pay5 x) = y
  intro h
  pointwise
  simp only [h, ninf, fold_bot]
  unfold amax hd
  rfl

/-- The causal mask, on the numbers of the two tokens. -/
theorem ref_mask (s t : Fin 8192) (a b : EReal) :
    Scalar.select (IntOp.cmpi CmpIPredicate.sle (BitVec.ofNat 32 s.val) (BitVec.ofNat 32 t.val)) a b
      = if s.val ≤ t.val then a else b := by
  have hs : (BitVec.ofNat 32 s.val).toInt = s.val := by
    rw [BitVec.toInt_eq_toNat_of_lt (by rw [BitVec.toNat_ofNat]; omega), BitVec.toNat_ofNat]; omega
  have ht : (BitVec.ofNat 32 t.val).toInt = t.val := by
    rw [BitVec.toInt_eq_toNat_of_lt (by rw [BitVec.toNat_ofNat]; omega), BitVec.toNat_ofNat]; omega
  by_cases h : s.val ≤ t.val
  · rw [if_pos h]
    have : IntOp.cmpi CmpIPredicate.sle (BitVec.ofNat 32 s.val) (BitVec.ofNat 32 t.val) = 1#1 := by
      simp only [IntOp.cmpi, BitVec.sle, hs, ht]
      simp [h]
    rw [this]; rfl
  · rw [if_neg h]
    have : IntOp.cmpi CmpIPredicate.sle (BitVec.ofNat 32 s.val) (BitVec.ofNat 32 t.val) = 0#1 := by
      simp only [IntOp.cmpi, BitVec.sle, hs, ht]
      simp [h]
    rw [this]; rfl

end Cert.ReferenceIdeal.Hand

end
-- ==== Proof.RefOut.lean ====
/-
  The reference's result, read at an index, of arrays of codes and scales.
-/
module

public import proofs.«01_k».proof.Proof.RefRead
public import Idealize.ShloMosaic.Lib.Pointwise

@[expose] public section

set_option maxRecDepth 16384

noncomputable section

namespace Cert.ReferenceIdeal.Hand

open Cert.ReferenceIdeal Cert.ReferenceIdeal.Gen Cert.Attn
open Idealize.ShloMosaic

/-- The score of a key for a query, from arrays of codes and scales. -/
def scA (cq : FVec Ideal S128x8192x64 .fp8e4m3) (sq : FVec Ideal S128x1x1 .f32) (ck : FVec Ideal S128x8192x64 .fp8e4m3)
    (sk : FVec Ideal S128x1x1 .f32) (g : Fin 128) (t s : Fin 8192) : EReal :=
  if s.val ≤ t.val then (∑ d : Fin 64, (cq (ix3 g t d) : EReal) * ck (ix3 g s d))
    * ((sq (ix3 g 0 0) : EReal) * sk (ix3 g 0 0) * Ideal.ofBits FTy.f32 1040187392#32)
  else ⊥

/-- The result, of arrays of codes and scales. -/
theorem out_at (cq : FVec Ideal S128x8192x64 .fp8e4m3) (sq : FVec Ideal S128x1x1 .f32) (ck : FVec Ideal S128x8192x64 .fp8e4m3)
    (sk : FVec Ideal S128x1x1 .f32) (y : FVec Ideal S128x8192x64 .f32) (z : IVec S128x1x1 1) (e f : FVec Ideal S128x1x1 .f32)
    (cv : FVec Ideal S128x8192x64 .fp8e4m3) (sv : FVec Ideal S128x1x1 .f32)
    (hcv : k0_pay17 (F := Ideal) y z e f = cv) (hsv : k0_pay18 (F := Ideal) z e f = sv)
    (g : Fin 128) (t : Fin 8192) (d : Fin 64) :
    k0_pay19 (F := Ideal) cq sq ck sk y z e f (ix3 g t d) =
      Ideal.div ((∑ s : Fin 8192, Ideal.exp (scA cq sq ck sk g t s - (Finset.univ : Finset (Fin 8192)).sup fun r => scA cq sq ck sk g t r)
          * cv (ix3 g s d)) * sv (ix3 g 0 0))
        (∑ s : Fin 8192, Ideal.exp (scA cq sq ck sk g t s - (Finset.univ : Finset (Fin 8192)).sup fun r => scA cq sq ck sk g t r)) := by
  unfold k0_pay19
  rw [hcv, hsv]
  pointwise
  simp only [ninf, fold_bot, ref_mask]
  unfold scA
  rfl

end Cert.ReferenceIdeal.Hand

end
-- ==== Proof.RefResults.lean ====
/-
  The reference's seven results: its one call's arrays by head, and what its host lines make of them, as the functions of
  AttnSpec.lean of the heads of the three arguments.
-/
module

public import proofs.«01_k».proof.Proof.RefOut
public import Idealize.ShloMosaic.Lib.Pipeline.ValueKit
public import Idealize.ShloMosaic.Lib.StableHlo.Run

@[expose] public section

set_option maxRecDepth 16384

noncomputable section

namespace Cert.ReferenceIdeal.Hand

open Cert.ReferenceIdeal Cert.ReferenceIdeal.Gen Cert.Attn
open Idealize.ShloMosaic Idealize.ShloMosaic.TcCoe Idealize.SL.Sem
open Idealize.ShloMosaic.Pipeline (Dat)

/-- Head `g` (a batch and a head of it) of an argument. -/
def hdA (X : Vec Ideal S4x8192x2048 .bf16) (g : Fin 128) : Fin 8192 → Fin 64 → EReal := fun t d =>
  X (ix3 ⟨g.val / 32, by omega⟩ t ⟨64 * (g.val % 32) + d.val, by omega⟩)

/-- Head `h` of batch `b` of an argument. -/
def hdR (X : Vec Ideal S4x8192x2048 .bf16) (b : Fin 4) (h : Fin 32) : Fin 8192 → Fin 64 → EReal := fun t d =>
  X (ix3 b t ⟨64 * h.val + d.val, by omega⟩)

theorem hdA_eq (X : Vec Ideal S4x8192x2048 .bf16) (b : Fin 4) (h : Fin 32) :
    hdA X ⟨b.val * 32 + h.val, by omega⟩ = hdR X b h := by
  funext t d
  unfold hdA hdR
  refine congrArg X ?_
  blk_ext

theorem codeAR (X : Vec Ideal S4x8192x2048 .bf16) (b : Fin 4) (h : Fin 32) (t : Fin 8192) (d : Fin 64) :
    code (hdA X ⟨b.val * 32 + h.val, by omega⟩) t d = code (hdR X b h) t d := by rw [hdA_eq]

theorem scaleAR (X : Vec Ideal S4x8192x2048 .bf16) (b : Fin 4) (h : Fin 32) :
    scale (amax (hdA X ⟨b.val * 32 + h.val, by omega⟩)) = scale (amax (hdR X b h)) := by rw [hdA_eq]

theorem attnAR (X Y Z : Vec Ideal S4x8192x2048 .bf16) (b : Fin 4) (h : Fin 32) (t : Fin 8192) (d : Fin 64) :
    attn (hdA X ⟨b.val * 32 + h.val, by omega⟩) (hdA Y ⟨b.val * 32 + h.val, by omega⟩) (hdA Z ⟨b.val * 32 + h.val, by omega⟩) t d
      = attn (hdR X b h) (hdR Y b h) (hdR Z b h) t d := by rw [hdA_eq, hdA_eq, hdA_eq]

/-! ## The payloads, by head -/

theorem pay3_eq (x : Vec Ideal S128x8192x64 .bf16) : k0_pay3 (F := Ideal) x = k0_pay9 (k0_pay5 x) (k0_pay6 x) k0_pay7 := by
  unfold k0_pay3 k0_pay9 k0_pay2 k0_pay8 k0_pay1 k0_pay5 k0_pay6 k0_pay7 k0_pay5; rfl
theorem pay4_eq (x : Vec Ideal S128x8192x64 .bf16) : k0_pay4 (F := Ideal) x = k0_pay10 (k0_pay6 x) k0_pay7 := by
  unfold k0_pay4 k0_pay10 k0_pay2 k0_pay8 k0_pay1 k0_pay6 k0_pay7 k0_pay5; rfl
theorem pay17_eq (x : Vec Ideal S128x8192x64 .bf16) :
    k0_pay17 (F := Ideal) (k0_pay11 x) (k0_pay13 x) (k0_pay14 x) k0_pay15 = k0_pay9 (k0_pay5 x) (k0_pay6 x) k0_pay7 := by
  unfold k0_pay17 k0_pay9 k0_pay16 k0_pay8 k0_pay13 k0_pay14 k0_pay15 k0_pay12 k0_pay11 k0_pay6 k0_pay7 k0_pay5; rfl
theorem pay18_eq (x : Vec Ideal S128x8192x64 .bf16) :
    k0_pay18 (F := Ideal) (k0_pay13 x) (k0_pay14 x) k0_pay15 = k0_pay10 (k0_pay6 x) k0_pay7 := by
  unfold k0_pay18 k0_pay10 k0_pay16 k0_pay8 k0_pay13 k0_pay14 k0_pay15 k0_pay12 k0_pay11 k0_pay6 k0_pay7 k0_pay5; rfl

/-- The codes of a head. -/
theorem codes_at (x : Vec Ideal S128x8192x64 .bf16) (g : Fin 128) (t : Fin 8192) (d : Fin 64) :
    k0_pay9 (F := Ideal) (k0_pay5 x) (k0_pay6 x) k0_pay7 (ix3 g t d) = code (hd x g) t d := by
  rw [code_at, amax_at, val_at]
  unfold code
  rfl

/-- The scale of a head. -/
theorem scales_at (x : Vec Ideal S128x8192x64 .bf16) (g : Fin 128) :
    k0_pay10 (F := Ideal) (k0_pay6 x) k0_pay7 (ix3 g 0 0) = scale (amax (hd x g)) := by
  rw [scale_at, amax_at]

/-- The result of a head. -/
theorem outs_at (q k v : Vec Ideal S128x8192x64 .bf16) (g : Fin 128) (t : Fin 8192) (d : Fin 64) :
    k0_pay19 (F := Ideal) (k0_pay9 (k0_pay5 q) (k0_pay6 q) k0_pay7) (k0_pay10 (k0_pay6 q) k0_pay7)
      (k0_pay9 (k0_pay5 k) (k0_pay6 k) k0_pay7) (k0_pay10 (k0_pay6 k) k0_pay7)
      (k0_pay11 v) (k0_pay13 v) (k0_pay14 v) k0_pay15 (ix3 g t d) = attn (hd q g) (hd k g) (hd v g) t d := by
  rw [out_at _ _ _ _ _ _ _ _ _ _ (pay17_eq v) (pay18_eq v)]
  have hs : ∀ s, scA (k0_pay9 (k0_pay5 q) (k0_pay6 q) k0_pay7) (k0_pay10 (k0_pay6 q) k0_pay7)
      (k0_pay9 (k0_pay5 k) (k0_pay6 k) k0_pay7) (k0_pay10 (k0_pay6 k) k0_pay7) g t s = score (hd q g) (hd k g) t s := by
    intro s
    unfold scA score
    simp only [codes_at, scales_at]
  simp only [hs, codes_at, scales_at]
  unfold attn weight top
  rfl

theorem ldf (x : Vec Ideal S128x8192x64 .bf16) : View.ld x r0_0 = x := View.ld_unit_lit _ _ (by decide)

theorem p20 (a b c : Vec Ideal S128x8192x64 .bf16) : k0_pay20 (F := Ideal) a b c = k0_pay9 (k0_pay5 a) (k0_pay6 a) k0_pay7 := by
  unfold k0_pay20; rw [ldf]; exact pay3_eq a
theorem p21 (a b c : Vec Ideal S128x8192x64 .bf16) : k0_pay21 (F := Ideal) a b c = k0_pay10 (k0_pay6 a) k0_pay7 := by
  unfold k0_pay21; rw [ldf]; exact pay4_eq a
theorem p24 (a b c : Vec Ideal S128x8192x64 .bf16) : k0_pay24 (F := Ideal) a b c = k0_pay9 (k0_pay5 b) (k0_pay6 b) k0_pay7 := by
  unfold k0_pay24 k0_pay22 k0_pay23; rw [ldf]
theorem p25 (a b c : Vec Ideal S128x8192x64 .bf16) : k0_pay25 (F := Ideal) a b c = k0_pay10 (k0_pay6 b) k0_pay7 := by
  unfold k0_pay25 k0_pay22 k0_pay23; rw [ldf]
theorem p26 (a b c : Vec Ideal S128x8192x64 .bf16) : k0_pay26 (F := Ideal) a b c = k0_pay11 c := by
  unfold k0_pay26; rw [ldf]
theorem p27 (a b c : Vec Ideal S128x8192x64 .bf16) : k0_pay27 (F := Ideal) a b c = k0_pay13 c := by
  unfold k0_pay27; rw [ldf]
theorem p28 (a b c : Vec Ideal S128x8192x64 .bf16) : k0_pay28 (F := Ideal) a b c = k0_pay14 c := by
  unfold k0_pay28; rw [ldf]
theorem p29 (a b c : Vec Ideal S128x8192x64 .bf16) : k0_pay29 (F := Ideal) a b c = k0_pay15 := by
  unfold k0_pay29; rfl
theorem p17 (a b c : Vec Ideal S128x8192x64 .bf16) : k0_pay17 (F := Ideal) (k0_pay26 a b c) (k0_pay27 a b c) (k0_pay28 a b c) (k0_pay29 a b c)
    = k0_pay9 (k0_pay5 c) (k0_pay6 c) k0_pay7 := by
  rw [p26, p27, p28, p29]; exact pay17_eq c
theorem p18 (a b c : Vec Ideal S128x8192x64 .bf16) : k0_pay18 (F := Ideal) (k0_pay27 a b c) (k0_pay28 a b c) (k0_pay29 a b c)
    = k0_pay10 (k0_pay6 c) k0_pay7 := by
  rw [p27, p28, p29]; exact pay18_eq c
theorem p19_at (a b c : Vec Ideal S128x8192x64 .bf16) (g : Fin 128) (t : Fin 8192) (d : Fin 64) :
    k0_pay19 (F := Ideal) (k0_pay20 a b c) (k0_pay21 a b c) (k0_pay24 a b c) (k0_pay25 a b c) (k0_pay26 a b c) (k0_pay27 a b c)
      (k0_pay28 a b c) (k0_pay29 a b c) (ix3 g t d) = attn (hd a g) (hd b g) (hd c g) t d := by
  rw [p20, p21, p24, p25, p26, p27, p28, p29]; exact outs_at a b c g t d

/-! ## The call's arrays -/

variable (m : (ℓ : Loc nD τ sig) → Buf (Elt Ideal) ℓ) (ρ : Dev nD → PrngReg)

/-- The input windows stage their whole arrays. -/
theorem idxV : ∀ t : Fin cfg0.N, win0_0.index t = ![0, 0, 0] ∧ win0_1.index t = ![0, 0, 0] ∧ win0_2.index t = ![0, 0, 0] :=
  (by decide +kernel : ∀ t : Fin grid0.N, _)

/-- The host splits an argument's lanes into heads and features and numbers the heads of all batches through. -/
theorem entry_main_v2 (c : Dev nD) (g : Fin 128) (t : Fin 8192) (d : Fin 64) :
    (show Vec Ideal S128x8192x64 .bf16 from V m c main_v2) (ix3 g t d)
      = (show Vec Ideal S4x8192x2048 .bf16 from m ((c : Thread nD τ).loc main_arg0))
        (ix3 ⟨g.val / 32, by omega⟩ t ⟨64 * (g.val % 32) + d.val, by omega⟩) := by
  show StableHlo.after hostOps0 _ (Proc.devRef .tc main_v2) (ix3 g t d) = _
  after_results
  pointwise
  refine congrArg (m ((c : Thread nD τ).loc main_arg0)) ?_
  blk_ext

theorem hd_0 (c : Dev nD) (g : Fin 128) : hd (iblk m c 0 t0_0) g = hdA (m ((c : Thread nD τ).loc main_arg0)) g := by
  funext t d
  refine Eq.trans ?_ (entry_main_v2 m c g t d)
  unfold hd
  blk_ext [iblk, idxV t0_0]

theorem code_0 (c : Dev nD) (g : Fin 128) (t : Fin 8192) (d : Fin 64) :
    code (hd (iblk m c 0 t0_0) g) t d = code (hdA (m ((c : Thread nD τ).loc main_arg0)) g) t d := by rw [hd_0]

theorem scale_0 (c : Dev nD) (g : Fin 128) :
    scale (amax (hd (iblk m c 0 t0_0) g)) = scale (amax (hdA (m ((c : Thread nD τ).loc main_arg0)) g)) := by rw [hd_0]

/-- The host splits an argument's lanes into heads and features and numbers the heads of all batches through. -/
theorem entry_main_v5 (c : Dev nD) (g : Fin 128) (t : Fin 8192) (d : Fin 64) :
    (show Vec Ideal S128x8192x64 .bf16 from V m c main_v5) (ix3 g t d)
      = (show Vec Ideal S4x8192x2048 .bf16 from m ((c : Thread nD τ).loc main_arg1))
        (ix3 ⟨g.val / 32, by omega⟩ t ⟨64 * (g.val % 32) + d.val, by omega⟩) := by
  show StableHlo.after hostOps0 _ (Proc.devRef .tc main_v5) (ix3 g t d) = _
  after_results
  pointwise
  refine congrArg (m ((c : Thread nD τ).loc main_arg1)) ?_
  blk_ext

theorem hd_1 (c : Dev nD) (g : Fin 128) : hd (iblk m c 1 t0_0) g = hdA (m ((c : Thread nD τ).loc main_arg1)) g := by
  funext t d
  refine Eq.trans ?_ (entry_main_v5 m c g t d)
  unfold hd
  blk_ext [iblk, idxV t0_0]

theorem code_1 (c : Dev nD) (g : Fin 128) (t : Fin 8192) (d : Fin 64) :
    code (hd (iblk m c 1 t0_0) g) t d = code (hdA (m ((c : Thread nD τ).loc main_arg1)) g) t d := by rw [hd_1]

theorem scale_1 (c : Dev nD) (g : Fin 128) :
    scale (amax (hd (iblk m c 1 t0_0) g)) = scale (amax (hdA (m ((c : Thread nD τ).loc main_arg1)) g)) := by rw [hd_1]

/-- The host splits an argument's lanes into heads and features and numbers the heads of all batches through. -/
theorem entry_main_v8 (c : Dev nD) (g : Fin 128) (t : Fin 8192) (d : Fin 64) :
    (show Vec Ideal S128x8192x64 .bf16 from V m c main_v8) (ix3 g t d)
      = (show Vec Ideal S4x8192x2048 .bf16 from m ((c : Thread nD τ).loc main_arg2))
        (ix3 ⟨g.val / 32, by omega⟩ t ⟨64 * (g.val % 32) + d.val, by omega⟩) := by
  show StableHlo.after hostOps0 _ (Proc.devRef .tc main_v8) (ix3 g t d) = _
  after_results
  pointwise
  refine congrArg (m ((c : Thread nD τ).loc main_arg2)) ?_
  blk_ext

theorem hd_2 (c : Dev nD) (g : Fin 128) : hd (iblk m c 2 t0_0) g = hdA (m ((c : Thread nD τ).loc main_arg2)) g := by
  funext t d
  refine Eq.trans ?_ (entry_main_v8 m c g t d)
  unfold hd
  blk_ext [iblk, idxV t0_0]

theorem code_2 (c : Dev nD) (g : Fin 128) (t : Fin 8192) (d : Fin 64) :
    code (hd (iblk m c 2 t0_0) g) t d = code (hdA (m ((c : Thread nD τ).loc main_arg2)) g) t d := by rw [hd_2]

theorem scale_2 (c : Dev nD) (g : Fin 128) :
    scale (amax (hd (iblk m c 2 t0_0) g)) = scale (amax (hdA (m ((c : Thread nD τ).loc main_arg2)) g)) := by rw [hd_2]

theorem attn_H (c : Dev nD) (g : Fin 128) (t : Fin 8192) (d : Fin 64) :
    attn (hd (iblk m c 0 t0_0) g) (hd (iblk m c 1 t0_0) g) (hd (iblk m c 2 t0_0) g) t d
      = attn (hdA (m ((c : Thread nD τ).loc main_arg0)) g) (hdA (m ((c : Thread nD τ).loc main_arg1)) g)
        (hdA (m ((c : Thread nD τ).loc main_arg2)) g) t d := by
  rw [hd_0, hd_1, hd_2]

theorem final3 (c : Dev nD) : (dats m 0 c).arrAt 3 (cfgs 0).N = fun i : S128x8192x64.Idx =>
    attn (hdA (m ((c : Thread nD τ).loc main_arg0)) (i (0 : Fin 3))) (hdA (m ((c : Thread nD τ).loc main_arg1)) (i (0 : Fin 3)))
      (hdA (m ((c : Thread nD τ).loc main_arg2)) (i (0 : Fin 3))) (i (1 : Fin 3)) (i (2 : Fin 3)) := by
  refine (dats m 0 c).arrAt_eq_of_after_last 3 t0_0 (by decide +kernel) _ fun j => ?_
  blk_simp
  rw [after0_3]
  frame_out
  refine (congrArg _ (eq_ix3 j)).trans ?_
  refine (p19_at (iblk m c 0 t0_0) (iblk m c 1 t0_0) (iblk m c 2 t0_0) _ _ _).trans ?_
  exact attn_H m c _ _ _

theorem final4 (c : Dev nD) : (dats m 0 c).arrAt 4 (cfgs 0).N = fun i : S128x8192x64.Idx =>
    code (hdA (m ((c : Thread nD τ).loc main_arg0)) (i (0 : Fin 3))) (i (1 : Fin 3)) (i (2 : Fin 3)) := by
  refine (dats m 0 c).arrAt_eq_of_after_last 4 t0_0 (by decide +kernel) _ fun j => ?_
  blk_simp
  rw [after0_4]
  frame_out
  refine (congrFun (p20 (iblk m c 0 t0_0) (iblk m c 1 t0_0) (iblk m c 2 t0_0)) j).trans ?_
  refine (congrArg _ (eq_ix3 j)).trans ?_
  exact (codes_at (iblk m c 0 t0_0) _ _ _).trans (code_0 m c _ _ _)

theorem final6 (c : Dev nD) : (dats m 0 c).arrAt 6 (cfgs 0).N = fun i : S128x8192x64.Idx =>
    code (hdA (m ((c : Thread nD τ).loc main_arg1)) (i (0 : Fin 3))) (i (1 : Fin 3)) (i (2 : Fin 3)) := by
  refine (dats m 0 c).arrAt_eq_of_after_last 6 t0_0 (by decide +kernel) _ fun j => ?_
  blk_simp
  rw [after0_6]
  frame_out
  refine (congrFun (p24 (iblk m c 0 t0_0) (iblk m c 1 t0_0) (iblk m c 2 t0_0)) j).trans ?_
  refine (congrArg _ (eq_ix3 j)).trans ?_
  exact (codes_at (iblk m c 1 t0_0) _ _ _).trans (code_1 m c _ _ _)

theorem final8 (c : Dev nD) : (dats m 0 c).arrAt 8 (cfgs 0).N = fun i : S128x8192x64.Idx =>
    code (hdA (m ((c : Thread nD τ).loc main_arg2)) (i (0 : Fin 3))) (i (1 : Fin 3)) (i (2 : Fin 3)) := by
  refine (dats m 0 c).arrAt_eq_of_after_last 8 t0_0 (by decide +kernel) _ fun j => ?_
  blk_simp
  rw [after0_8]
  frame_out
  refine (congrFun (p17 (iblk m c 0 t0_0) (iblk m c 1 t0_0) (iblk m c 2 t0_0)) j).trans ?_
  refine (congrArg _ (eq_ix3 j)).trans ?_
  exact (codes_at (iblk m c 2 t0_0) _ _ _).trans (code_2 m c _ _ _)

theorem final5 (c : Dev nD) : (dats m 0 c).arrAt 5 (cfgs 0).N = fun i : S128x1x1.Idx =>
    scale (amax (hdA (m ((c : Thread nD τ).loc main_arg0)) (i (0 : Fin 3)))) := by
  refine (dats m 0 c).arrAt_eq_of_after_last 5 t0_0 (by decide +kernel) _ fun j => ?_
  blk_simp
  rw [after0_5]
  frame_out
  refine (congrFun (p21 (iblk m c 0 t0_0) (iblk m c 1 t0_0) (iblk m c 2 t0_0)) j).trans ?_
  refine (congrArg _ (show j = ix3 (n0 := 128) (n1 := 1) (n2 := 1) (j (0 : Fin 3)) 0 0 from by blk_ext)).trans ?_
  exact (scales_at (iblk m c 0 t0_0) _).trans (scale_0 m c _)

theorem final7 (c : Dev nD) : (dats m 0 c).arrAt 7 (cfgs 0).N = fun i : S128x1x1.Idx =>
    scale (amax (hdA (m ((c : Thread nD τ).loc main_arg1)) (i (0 : Fin 3)))) := by
  refine (dats m 0 c).arrAt_eq_of_after_last 7 t0_0 (by decide +kernel) _ fun j => ?_
  blk_simp
  rw [after0_7]
  frame_out
  refine (congrFun (p25 (iblk m c 0 t0_0) (iblk m c 1 t0_0) (iblk m c 2 t0_0)) j).trans ?_
  refine (congrArg _ (show j = ix3 (n0 := 128) (n1 := 1) (n2 := 1) (j (0 : Fin 3)) 0 0 from by blk_ext)).trans ?_
  exact (scales_at (iblk m c 1 t0_0) _).trans (scale_1 m c _)

theorem final9 (c : Dev nD) : (dats m 0 c).arrAt 9 (cfgs 0).N = fun i : S128x1x1.Idx =>
    scale (amax (hdA (m ((c : Thread nD τ).loc main_arg2)) (i (0 : Fin 3)))) := by
  refine (dats m 0 c).arrAt_eq_of_after_last 9 t0_0 (by decide +kernel) _ fun j => ?_
  blk_simp
  rw [after0_9]
  frame_out
  refine (congrFun (p18 (iblk m c 0 t0_0) (iblk m c 1 t0_0) (iblk m c 2 t0_0)) j).trans ?_
  refine (congrArg _ (show j = ix3 (n0 := 128) (n1 := 1) (n2 := 1) (j (0 : Fin 3)) 0 0 from by blk_ext)).trans ?_
  exact (scales_at (iblk m c 2 t0_0) _).trans (scale_2 m c _)

/-! ## The host lines after the call -/

/-- The heads go back next to the features. -/
theorem tail_main_v12 (W : Valuation τ sig (Elt Ideal)) (A : Vec Ideal S128x8192x64 .bf16)
    (h : W (Proc.devRef .tc main_v9_0) = A) (b : Fin 4) (t : Fin 8192) (l : Fin 2048) :
    (show Vec Ideal S4x8192x2048 .bf16 from StableHlo.after hostOps1 W (Proc.devRef .tc main_v12)) (ix3 b t l)
      = A (ix3 ⟨b.val * 32 + l.val / 64, by omega⟩ t ⟨l.val % 64, by omega⟩) := by
  show StableHlo.after hostOps1 W (Proc.devRef .tc main_v12) (ix3 b t l) = _
  after_results
  rw [h]
  pointwise

theorem tail_main_v14 (W : Valuation τ sig (Elt Ideal)) (A : Vec Ideal S128x8192x64 .fp8e4m3)
    (h : W (Proc.devRef .tc main_v9_1) = A) (b : Fin 4) (t : Fin 8192) (hh : Fin 32) (d : Fin 64) :
    (show Vec Ideal S4x8192x32x64 .fp8e4m3 from StableHlo.after hostOps1 W (Proc.devRef .tc main_v14)) (ix4 b t hh d)
      = A (ix3 ⟨b.val * 32 + hh.val, by omega⟩ t d) := by
  show StableHlo.after hostOps1 W (Proc.devRef .tc main_v14) (ix4 b t hh d) = _
  after_results
  rw [h]
  pointwise

theorem tail_main_v17 (W : Valuation τ sig (Elt Ideal)) (A : Vec Ideal S128x8192x64 .fp8e4m3)
    (h : W (Proc.devRef .tc main_v9_3) = A) (b : Fin 4) (t : Fin 8192) (hh : Fin 32) (d : Fin 64) :
    (show Vec Ideal S4x8192x32x64 .fp8e4m3 from StableHlo.after hostOps1 W (Proc.devRef .tc main_v17)) (ix4 b t hh d)
      = A (ix3 ⟨b.val * 32 + hh.val, by omega⟩ t d) := by
  show StableHlo.after hostOps1 W (Proc.devRef .tc main_v17) (ix4 b t hh d) = _
  after_results
  rw [h]
  pointwise

theorem tail_main_v20 (W : Valuation τ sig (Elt Ideal)) (A : Vec Ideal S128x8192x64 .fp8e4m3)
    (h : W (Proc.devRef .tc main_v9_5) = A) (b : Fin 4) (t : Fin 8192) (hh : Fin 32) (d : Fin 64) :
    (show Vec Ideal S4x8192x32x64 .fp8e4m3 from StableHlo.after hostOps1 W (Proc.devRef .tc main_v20)) (ix4 b t hh d)
      = A (ix3 ⟨b.val * 32 + hh.val, by omega⟩ t d) := by
  show StableHlo.after hostOps1 W (Proc.devRef .tc main_v20) (ix4 b t hh d) = _
  after_results
  rw [h]
  pointwise

theorem tail_main_v15 (W : Valuation τ sig (Elt Ideal)) (A : Vec Ideal S128x1x1 .f32)
    (h : W (Proc.devRef .tc main_v9_2) = A) (b : Fin 4) (hh : Fin 32) :
    (show Vec Ideal S4x32 .f32 from StableHlo.after hostOps1 W (Proc.devRef .tc main_v15)) (ix2 b hh)
      = A (ix3 ⟨b.val * 32 + hh.val, by omega⟩ 0 0) := by
  show StableHlo.after hostOps1 W (Proc.devRef .tc main_v15) (ix2 b hh) = _
  after_results
  rw [h]
  pointwise

theorem tail_main_v18 (W : Valuation τ sig (Elt Ideal)) (A : Vec Ideal S128x1x1 .f32)
    (h : W (Proc.devRef .tc main_v9_4) = A) (b : Fin 4) (hh : Fin 32) :
    (show Vec Ideal S4x32 .f32 from StableHlo.after hostOps1 W (Proc.devRef .tc main_v18)) (ix2 b hh)
      = A (ix3 ⟨b.val * 32 + hh.val, by omega⟩ 0 0) := by
  show StableHlo.after hostOps1 W (Proc.devRef .tc main_v18) (ix2 b hh) = _
  after_results
  rw [h]
  pointwise

theorem tail_main_v21 (W : Valuation τ sig (Elt Ideal)) (A : Vec Ideal S128x1x1 .f32)
    (h : W (Proc.devRef .tc main_v9_6) = A) (b : Fin 4) (hh : Fin 32) :
    (show Vec Ideal S4x32 .f32 from StableHlo.after hostOps1 W (Proc.devRef .tc main_v21)) (ix2 b hh)
      = A (ix3 ⟨b.val * 32 + hh.val, by omega⟩ 0 0) := by
  show StableHlo.after hostOps1 W (Proc.devRef .tc main_v21) (ix2 b hh) = _
  after_results
  rw [h]
  pointwise

/-- What the host finds where the call left its arrays. -/
abbrev W1 (c : Dev nD) : Valuation τ sig (Elt Ideal) :=
  Pipeline.withArrays (cfgs 0).spec c (V0 m c) fun w => (dats m 0 c).arrAt w (cfgs 0).N

theorem W1_arr (c : Dev nD) (w : Fin cfg0.W) : W1 m c (Proc.devRef .tc (Pipeline.arrRef spec0 w)) = (dats m 0 c).arrAt w (cfgs 0).N :=
  Pipeline.withArrays_arr _ launch0.win.arr_inj c _ _ w

theorem tail_eq (c : Dev nD) (b : Ref sig .tc) : Pipeline.afterTail₀ cfgs (dats m) 0 (V0 m) [hostOps1] c b
    = StableHlo.after hostOps1 (W1 m c) (Proc.devRef .tc b) := rfl

/-- The result, by batch, token and lane. -/
def outR (q k v : Vec Ideal S4x8192x2048 .bf16) (b : Fin 4) (t : Fin 8192) (l : Fin 2048) : EReal :=
  attn (hdR q b ⟨l.val / 64, by omega⟩) (hdR k b ⟨l.val / 64, by omega⟩) (hdR v b ⟨l.val / 64, by omega⟩) t ⟨l.val % 64, by omega⟩

theorem outAR (X Y Z : Vec Ideal S4x8192x2048 .bf16) (b : Fin 4) (t : Fin 8192) (l : Fin 2048) :
    attn (hdA X ⟨b.val * 32 + l.val / 64, by omega⟩) (hdA Y ⟨b.val * 32 + l.val / 64, by omega⟩)
      (hdA Z ⟨b.val * 32 + l.val / 64, by omega⟩) t ⟨l.val % 64, by omega⟩ = outR X Y Z b t l :=
  attnAR X Y Z b ⟨l.val / 64, by omega⟩ t ⟨l.val % 64, by omega⟩

theorem res_main_v12 (c : Dev nD) : Pipeline.afterTail₀ cfgs (dats m) 0 (V0 m) [hostOps1] c main_v12
    = fun i : S4x8192x2048.Idx => outR (m ((c : Thread nD τ).loc main_arg0)) (m ((c : Thread nD τ).loc main_arg1))
      (m ((c : Thread nD τ).loc main_arg2)) (i (0 : Fin 3)) (i (1 : Fin 3)) (i (2 : Fin 3)) := by
  rw [tail_eq]
  funext i
  have e : i = ix3 (n0 := 4) (n1 := 8192) (n2 := 2048) (i (0 : Fin 3)) (i (1 : Fin 3)) (i (2 : Fin 3)) := eq_ix3 i
  refine (congrArg _ e).trans ?_
  refine (tail_main_v12 (W1 m c) _ ((W1_arr m c 3).trans (final3 m c)) _ _ _).trans ?_
  exact outAR _ _ _ _ _ _

theorem res_main_v14 (c : Dev nD) : Pipeline.afterTail₀ cfgs (dats m) 0 (V0 m) [hostOps1] c main_v14
    = fun i : S4x8192x32x64.Idx => code (hdR (m ((c : Thread nD τ).loc main_arg0)) (i (0 : Fin 4)) (i (2 : Fin 4))) (i (1 : Fin 4)) (i (3 : Fin 4)) := by
  rw [tail_eq]
  funext i
  have e : i = ix4 (n0 := 4) (n1 := 8192) (n2 := 32) (n3 := 64) (i (0 : Fin 4)) (i (1 : Fin 4)) (i (2 : Fin 4)) (i (3 : Fin 4)) := eq_ix4 i
  refine (congrArg _ e).trans ?_
  refine (tail_main_v14 (W1 m c) _ ((W1_arr m c 4).trans (final4 m c)) _ _ _ _).trans ?_
  exact codeAR _ _ _ _ _

theorem res_main_v17 (c : Dev nD) : Pipeline.afterTail₀ cfgs (dats m) 0 (V0 m) [hostOps1] c main_v17
    = fun i : S4x8192x32x64.Idx => code (hdR (m ((c : Thread nD τ).loc main_arg1)) (i (0 : Fin 4)) (i (2 : Fin 4))) (i (1 : Fin 4)) (i (3 : Fin 4)) := by
  rw [tail_eq]
  funext i
  have e : i = ix4 (n0 := 4) (n1 := 8192) (n2 := 32) (n3 := 64) (i (0 : Fin 4)) (i (1 : Fin 4)) (i (2 : Fin 4)) (i (3 : Fin 4)) := eq_ix4 i
  refine (congrArg _ e).trans ?_
  refine (tail_main_v17 (W1 m c) _ ((W1_arr m c 6).trans (final6 m c)) _ _ _ _).trans ?_
  exact codeAR _ _ _ _ _

theorem res_main_v20 (c : Dev nD) : Pipeline.afterTail₀ cfgs (dats m) 0 (V0 m) [hostOps1] c main_v20
    = fun i : S4x8192x32x64.Idx => code (hdR (m ((c : Thread nD τ).loc main_arg2)) (i (0 : Fin 4)) (i (2 : Fin 4))) (i (1 : Fin 4)) (i (3 : Fin 4)) := by
  rw [tail_eq]
  funext i
  have e : i = ix4 (n0 := 4) (n1 := 8192) (n2 := 32) (n3 := 64) (i (0 : Fin 4)) (i (1 : Fin 4)) (i (2 : Fin 4)) (i (3 : Fin 4)) := eq_ix4 i
  refine (congrArg _ e).trans ?_
  refine (tail_main_v20 (W1 m c) _ ((W1_arr m c 8).trans (final8 m c)) _ _ _ _).trans ?_
  exact codeAR _ _ _ _ _

theorem res_main_v15 (c : Dev nD) : Pipeline.afterTail₀ cfgs (dats m) 0 (V0 m) [hostOps1] c main_v15
    = fun i : S4x32.Idx => scale (amax (hdR (m ((c : Thread nD τ).loc main_arg0)) (i (0 : Fin 2)) (i (1 : Fin 2)))) := by
  rw [tail_eq]
  funext i
  have e : i = ix2 (n0 := 4) (n1 := 32) (i (0 : Fin 2)) (i (1 : Fin 2)) := eq_ix2 i
  refine (congrArg _ e).trans ?_
  refine (tail_main_v15 (W1 m c) _ ((W1_arr m c 5).trans (final5 m c)) _ _).trans ?_
  exact scaleAR _ _ _

theorem res_main_v18 (c : Dev nD) : Pipeline.afterTail₀ cfgs (dats m) 0 (V0 m) [hostOps1] c main_v18
    = fun i : S4x32.Idx => scale (amax (hdR (m ((c : Thread nD τ).loc main_arg1)) (i (0 : Fin 2)) (i (1 : Fin 2)))) := by
  rw [tail_eq]
  funext i
  have e : i = ix2 (n0 := 4) (n1 := 32) (i (0 : Fin 2)) (i (1 : Fin 2)) := eq_ix2 i
  refine (congrArg _ e).trans ?_
  refine (tail_main_v18 (W1 m c) _ ((W1_arr m c 7).trans (final7 m c)) _ _).trans ?_
  exact scaleAR _ _ _

theorem res_main_v21 (c : Dev nD) : Pipeline.afterTail₀ cfgs (dats m) 0 (V0 m) [hostOps1] c main_v21
    = fun i : S4x32.Idx => scale (amax (hdR (m ((c : Thread nD τ).loc main_arg2)) (i (0 : Fin 2)) (i (1 : Fin 2)))) := by
  rw [tail_eq]
  funext i
  have e : i = ix2 (n0 := 4) (n1 := 32) (i (0 : Fin 2)) (i (1 : Fin 2)) := eq_ix2 i
  refine (congrArg _ e).trans ?_
  refine (tail_main_v21 (W1 m c) _ ((W1_arr m c 9).trans (final9 m c)) _ _).trans ?_
  exact scaleAR _ _ _

/-- Every run ends with the seven results at those functions of the arguments, and the arguments unchanged. -/
theorem run_results : θ_run (defs (F := Ideal)) (onTc (τ := τ) (main (F := Ideal))) ⟨m, fun _ => 0, ρ⟩ (fun r => ∀ c : Dev nD,
    r.2.mem ((c.tc : Thread nD τ).loc main_v12) = (fun i : S4x8192x2048.Idx => outR (m ((c.tc : Thread nD τ).loc main_arg0)) (m ((c.tc : Thread nD τ).loc main_arg1)) (m ((c.tc : Thread nD τ).loc main_arg2)) (i (0 : Fin 3)) (i (1 : Fin 3)) (i (2 : Fin 3)))
    ∧ r.2.mem ((c.tc : Thread nD τ).loc main_v14) = (fun i : S4x8192x32x64.Idx => code (hdR (m ((c.tc : Thread nD τ).loc main_arg0)) (i (0 : Fin 4)) (i (2 : Fin 4))) (i (1 : Fin 4)) (i (3 : Fin 4)))
    ∧ r.2.mem ((c.tc : Thread nD τ).loc main_v15) = (fun i : S4x32.Idx => scale (amax (hdR (m ((c.tc : Thread nD τ).loc main_arg0)) (i (0 : Fin 2)) (i (1 : Fin 2)))))
    ∧ r.2.mem ((c.tc : Thread nD τ).loc main_v17) = (fun i : S4x8192x32x64.Idx => code (hdR (m ((c.tc : Thread nD τ).loc main_arg1)) (i (0 : Fin 4)) (i (2 : Fin 4))) (i (1 : Fin 4)) (i (3 : Fin 4)))
    ∧ r.2.mem ((c.tc : Thread nD τ).loc main_v18) = (fun i : S4x32.Idx => scale (amax (hdR (m ((c.tc : Thread nD τ).loc main_arg1)) (i (0 : Fin 2)) (i (1 : Fin 2)))))
    ∧ r.2.mem ((c.tc : Thread nD τ).loc main_v20) = (fun i : S4x8192x32x64.Idx => code (hdR (m ((c.tc : Thread nD τ).loc main_arg2)) (i (0 : Fin 4)) (i (2 : Fin 4))) (i (1 : Fin 4)) (i (3 : Fin 4)))
    ∧ r.2.mem ((c.tc : Thread nD τ).loc main_v21) = (fun i : S4x32.Idx => scale (amax (hdR (m ((c.tc : Thread nD τ).loc main_arg2)) (i (0 : Fin 2)) (i (1 : Fin 2)))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h c).2 main_v12 (Pipeline.mem_restRefs_of main_v12 (by decide) (by decide))).trans (res_main_v12 m c),
    ((h c).2 main_v14 (Pipeline.mem_restRefs_of main_v14 (by decide) (by decide))).trans (res_main_v14 m c),
    ((h c).2 main_v15 (Pipeline.mem_restRefs_of main_v15 (by decide) (by decide))).trans (res_main_v15 m c),
    ((h c).2 main_v17 (Pipeline.mem_restRefs_of main_v17 (by decide) (by decide))).trans (res_main_v17 m c),
    ((h c).2 main_v18 (Pipeline.mem_restRefs_of main_v18 (by decide) (by decide))).trans (res_main_v18 m c),
    ((h c).2 main_v20 (Pipeline.mem_restRefs_of main_v20 (by decide) (by decide))).trans (res_main_v20 m c),
    ((h c).2 main_v21 (Pipeline.mem_restRefs_of main_v21 (by decide) (by decide))).trans (res_main_v21 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

end Cert.ReferenceIdeal.Hand

end
-- ==== Proof.ScaleMath.lean ====
/-
  The scale of a head: counting the powers of two at most `a / 448` gives the same power of two as the floor of the
  base-two logarithm.  Both the scale and its inverse are powers of two, with the same exponent on either side.
-/
module

public import proofs.«01_k».proof.Proof.Scales
public import proofs.«01_k».proof.Proof.AttnSpec

@[expose] public section

noncomputable section

namespace Cert.KernelIdeal.Hand

open Cert.KernelIdeal Cert.KernelIdeal.Gen
open Idealize.ShloMosaic

/-- The fields of the word with exponent `k`. -/
theorem pow_fields : ∀ k : Fin 256,
    ((BitVec.ofNat 32 k.val <<< 23#32).extractLsb' (8 + 23) 1 == 1#1) = false
    ∧ ((BitVec.ofNat 32 k.val <<< 23#32).extractLsb' 23 8).toNat = k.val
    ∧ ((BitVec.ofNat 32 k.val <<< 23#32).extractLsb' 0 23).toNat = 0 := by
  decide +kernel

theorem shl23 (b : BitVec 32) : IntOp.shli ArithUnit.vector b 23#32 = b <<< 23#32 := by
  unfold IntOp.shli
  rw [if_pos (by decide)]

theorem ofBits32 (b : BitVec 32) : Ideal.ofBits FTy.f32 b = Ideal.ieee 8 23 b := rfl

/-- A word made of an exponent field alone reads as a power of two. -/
theorem ofBits_pow (k : ℕ) (h1 : 1 ≤ k) (h2 : k ≤ 254) :
    Ideal.ofBits FTy.f32 (IntOp.shli ArithUnit.vector (BitVec.ofNat 32 k) 23#32) = (((2 : ℝ) ^ ((k : ℤ) - 127) : ℝ) : EReal) := by
  obtain ⟨f1, f2, f3⟩ := pow_fields ⟨k, by omega⟩
  rw [shl23, ofBits32]
  unfold Ideal.ieee
  simp only [f1, f2, f3]
  rw [if_neg (by omega), if_neg (by omega)]
  refine congrArg (fun x : ℝ => (x : EReal)) ?_
  rw [show (2 : ℤ) ^ (8 - 1) - 1 = 127 by norm_num, zpow_sub₀ (by norm_num) ((k : ℤ) - 127)]
  norm_num
  ring

/-- The word with all exponent bits set reads as infinity. -/
theorem ofBits_pow_top : Ideal.ofBits FTy.f32 (IntOp.shli ArithUnit.vector (BitVec.ofNat 32 255) 23#32) = (⊤ : EReal) := by
  obtain ⟨f1, f2, f3⟩ := pow_fields ⟨255, by omega⟩
  rw [shl23, ofBits32]
  unfold Ideal.ieee
  simp only [f1, f2, f3]
  simp

/-- Adding up ones counts. -/
theorem fold_addi_card {ι : Type} [DecidableEq ι] (p : ι → Prop) [DecidablePred p] (s : Finset ι) :
    Finset.fold IntOp.addi (0#32) (fun i => if p i then 1#32 else 0#32) s = BitVec.ofNat 32 (s.filter p).card := by
  induction s using Finset.induction_on with
  | empty => rfl
  | insert a s ha ih =>
    rw [Finset.fold_insert ha, ih, Finset.filter_insert]
    by_cases h : p a
    · rw [if_pos h, if_pos h, Finset.card_insert_of_notMem (by simp [ha])]
      show 1#32 + _ = _
      rw [BitVec.ofNat_add, BitVec.add_comm]
    · rw [if_neg h, if_neg h]
      show 0#32 + _ = _
      rw [BitVec.zero_add]

/-- The `i`-th threshold. -/
theorem threshold (i : Fin 255) :
    Ideal.ofBits FTy.f32 (IntOp.shli ArithUnit.vector (IntOp.addi (BitVec.ofNat 32 i.val) 1#32) 23#32)
      = if i.val < 254 then (((2 : ℝ) ^ ((i.val : ℤ) - 126) : ℝ) : EReal) else ⊤ := by
  have e : IntOp.addi (BitVec.ofNat 32 i.val) 1#32 = BitVec.ofNat 32 (i.val + 1) := by
    rw [BitVec.ofNat_add]; rfl
  rw [e]
  by_cases h : i.val < 254
  · rw [if_pos h, ofBits_pow (i.val + 1) (by omega) (by omega)]
    congr 2
    push_cast
    ring
  · rw [if_neg h]
    have : i.val + 1 = 255 := by omega
    rw [this]
    exact ofBits_pow_top

/-- The real number `1 / 448` as the programs round it. -/
def c448 : ℝ := 9586981 * (2 : ℝ) ^ (-32 : ℤ)

theorem ofBits_c448 : Ideal.ofBits FTy.f32 991054117#32 = ((c448 : ℝ) : EReal) := by
  simp [Ideal.ofBits, Ideal.ieee, c448, -EReal.coe_mul]

theorem c448_lo : 1 ≤ 448 * c448 := by unfold c448; norm_num

theorem c448_hi : c448 ≤ (2 : ℝ) ^ (-8 : ℤ) := by unfold c448; norm_num

theorem c448_pos : 0 < c448 := by unfold c448; norm_num

/-- The count of thresholds, for a value between two neighbouring powers of two. -/
theorem fieldOf_eq (r : ℝ) (n : ℤ) (h1 : -126 ≤ n) (h2 : n ≤ 126) (hlo : (2 : ℝ) ^ n ≤ r * c448) (hhi : r * c448 < (2 : ℝ) ^ (n + 1)) :
    fieldOf (r : EReal) = BitVec.ofNat 32 (n + 127).toNat := by
  unfold fieldOf
  rw [fold_addi_card]
  congr 1
  have key : ∀ i : Fin 255, (Ideal.ofBits FTy.f32 (IntOp.shli ArithUnit.vector (IntOp.addi (BitVec.ofNat 32 i.val) 1#32) 23#32)
      ≤ (r : EReal) * Ideal.ofBits FTy.f32 991054117#32) ↔ i.val < (n + 127).toNat := by
    intro i
    rw [threshold, ofBits_c448, ← EReal.coe_mul]
    by_cases h : i.val < 254
    · rw [if_pos h, EReal.coe_le_coe_iff]
      constructor
      · intro hle
        have := lt_of_le_of_lt hle hhi
        rw [zpow_lt_zpow_iff_right₀ (by norm_num)] at this
        omega
      · intro hi
        refine le_trans ?_ hlo
        rw [zpow_le_zpow_iff_right₀ (by norm_num)]
        omega
    · rw [if_neg h]
      constructor
      · intro hle
        exact absurd hle (not_le.2 (EReal.coe_lt_top _))
      · intro hi
        omega
  rw [Finset.filter_congr fun i _ => key i]
  have : (n + 127).toNat ≤ 255 := by omega
  generalize (n + 127).toNat = m at this ⊢
  have e := Finset.card_map (s := Finset.univ) (Fin.castLEEmb this)
  rw [Finset.card_univ, Fintype.card_fin] at e
  refine Eq.trans (congrArg Finset.card ?_) e
  ext i
  simp only [Finset.mem_filter, Finset.mem_univ, true_and, Finset.mem_map]
  constructor
  · intro hi
    exact ⟨⟨i.val, hi⟩, rfl⟩
  · rintro ⟨j, rfl⟩
    exact j.isLt

theorem fieldOf_zero : fieldOf 0 = 0#32 := by
  unfold fieldOf
  rw [fold_addi_card]
  have : (Finset.univ.filter fun i : Fin 255 => Ideal.ofBits FTy.f32 (IntOp.shli ArithUnit.vector (IntOp.addi (BitVec.ofNat 32 i.val) 1#32) 23#32)
      ≤ (0 : EReal) * Ideal.ofBits FTy.f32 991054117#32) = ∅ := by
    refine Finset.filter_eq_empty_iff.2 fun i _ => ?_
    rw [threshold, zero_mul, not_le]
    split
    · exact EReal.coe_lt_coe_iff.2 (zpow_pos (by norm_num) _)
    · exact EReal.zero_lt_top
  rw [this]
  rfl

/-- What both quantisers make of a largest magnitude: one exponent. -/
structure Pow (a : EReal) (e : ℤ) : Prop where
  scaleK : scaleOf a = (((2 : ℝ) ^ e : ℝ) : EReal)
  invK : invOf a = (((2 : ℝ) ^ (-e) : ℝ) : EReal)
  scaleR : Attn.scale a = (((2 : ℝ) ^ e : ℝ) : EReal)
  invR : Ideal.exp2 (0 - Attn.expo a) = (((2 : ℝ) ^ (-e) : ℝ) : EReal)

theorem rpow_two (e : ℤ) : Real.rpow 2 (e : ℝ) = (2 : ℝ) ^ e := Real.rpow_intCast 2 e

theorem pow_zero_case : Pow 0 0 := by
  have he : expoOf 0 = 0#32 := by
    unfold expoOf
    rw [fieldOf_zero]
    rfl
  have hr : Attn.expo 0 = ((0 : ℝ) : EReal) := by simp [Attn.expo]
  have hb := ofBits_pow 127 (by omega) (by omega)
  refine ⟨?_, ?_, ?_, ?_⟩
  · unfold scaleOf
    rw [he]
    exact hb
  · unfold invOf
    rw [he]
    exact hb
  · unfold Attn.scale
    rw [hr, Ideal.exp2_coe]
    simpa using rpow_two 0
  · rw [hr, show (0 : EReal) = ((0 : ℝ) : EReal) from rfl, ← EReal.coe_sub, Ideal.exp2_coe, sub_zero]
    simpa using rpow_two 0

/-- The exponent the kernel finds. -/
theorem expoOf_eq (r : ℝ) (n : ℤ) (h1 : -126 ≤ n) (h2 : n ≤ 126) (hlo : (2 : ℝ) ^ n ≤ r * c448) (hhi : r * c448 < (2 : ℝ) ^ (n + 1)) :
    expoOf (r : EReal) = BitVec.ofNat 32 (n + 127).toNat - 126#32 := by
  unfold expoOf
  rw [fieldOf_eq r n h1 h2 hlo hhi]
  have hm : 1 ≤ (n + 127).toNat ∧ (n + 127).toNat ≤ 253 := by omega
  generalize (n + 127).toNat = m at hm ⊢
  have key : ∀ m : Fin 254, 1 ≤ m.val → IntOp.ori (IntOp.cmpi CmpIPredicate.eq (BitVec.ofNat 32 m.val) 0#32)
      (IntOp.cmpi CmpIPredicate.eq (BitVec.ofNat 32 m.val) 255#32) = 0#1 := by decide +kernel
  rw [key ⟨m, by omega⟩ hm.1]
  rfl

/-- The exponent the reference finds. -/
theorem expo_eq (r : ℝ) (n : ℤ) (hr : 0 < r) (hlo : (2 : ℝ) ^ n ≤ r * c448) (hhi : r * c448 < (2 : ℝ) ^ (n + 1)) :
    Attn.expo (r : EReal) = (((n + 1 : ℤ) : ℝ) : EReal) := by
  have hx : 0 < r * c448 := mul_pos hr c448_pos
  have hl2 : 0 < Real.log 2 := Real.log_pos (by norm_num)
  have h2 : Ideal.ofBits FTy.f32 1073741824#32 = ((2 : ℝ) : EReal) := by
    simp [Ideal.ofBits, Ideal.ieee, -EReal.coe_mul]; norm_num
  unfold Attn.expo
  rw [if_neg (by exact_mod_cast hr.ne'), h2, ofBits_c448, ← EReal.coe_mul, Ideal.log_coe, Ideal.log_coe, if_neg (not_le.2 hx),
    if_neg (by norm_num), Ideal.div_coe hl2.ne', ← EReal.coe_mul, Ideal.liftRound_coe]
  have hf : Int.floor (Real.log (r * c448) * (1 / Real.log 2)) = n := by
    rw [Int.floor_eq_iff, mul_one_div, le_div_iff₀ hl2, div_lt_iff₀ hl2]
    constructor
    · have := Real.log_le_log (by positivity) hlo
      rwa [Real.log_zpow] at this
    · have := Real.log_lt_log hx hhi
      rw [Real.log_zpow] at this
      push_cast at this
      exact this
  rw [hf]
  push_cast
  rfl

/-- A largest magnitude of at least 448 * 2^n0 and at most 2^128: both sides find the same power of two. -/
theorem pow_real (r : ℝ) (n0 : ℤ) (h0 : -126 ≤ n0) (hlo : 448 * (2 : ℝ) ^ n0 ≤ r) (hhi : r ≤ (2 : ℝ) ^ (128 : ℤ)) :
    ∃ e, n0 + 1 ≤ e ∧ Pow (r : EReal) e := by
  have hr : 0 < r := lt_of_lt_of_le (by positivity) hlo
  have hx : 0 < r * c448 := mul_pos hr c448_pos
  obtain ⟨n, hn1, hn2⟩ := exists_mem_Ico_zpow hx (show (1 : ℝ) < 2 by norm_num)
  have b1 : (2 : ℝ) ^ n0 ≤ r * c448 :=
    calc (2 : ℝ) ^ n0 = 2 ^ n0 * 1 := (mul_one _).symm
      _ ≤ 2 ^ n0 * (448 * c448) := mul_le_mul_of_nonneg_left c448_lo (by positivity)
      _ = 448 * 2 ^ n0 * c448 := by ring
      _ ≤ _ := mul_le_mul_of_nonneg_right hlo c448_pos.le
  have b2 : r * c448 ≤ (2 : ℝ) ^ (120 : ℤ) := by
    rw [show (120 : ℤ) = 128 + -8 by norm_num, zpow_add₀ (by norm_num)]
    exact mul_le_mul hhi c448_hi c448_pos.le (by positivity)
  have n1 : n0 ≤ n := by
    have := lt_of_le_of_lt b1 hn2
    rw [zpow_lt_zpow_iff_right₀ (by norm_num)] at this
    omega
  have n2 : n ≤ 120 := by
    have := le_trans hn1 b2
    rwa [zpow_le_zpow_iff_right₀ (by norm_num)] at this
  have hK := expoOf_eq r n (by omega) (by omega) hn1 hn2
  have hR := expo_eq r n hr hn1 hn2
  obtain ⟨m, hm⟩ : ∃ m : ℕ, (m : ℤ) = n + 127 := ⟨(n + 127).toNat, by omega⟩
  have hm' : (n + 127).toNat = m := by omega
  rw [hm'] at hK
  refine ⟨n + 1, by omega, ?_, ?_, ?_, ?_⟩
  · unfold scaleOf
    rw [hK]
    have : IntOp.addi (BitVec.ofNat 32 m - 126#32) 127#32 = BitVec.ofNat 32 (m + 1) := by
      rw [BitVec.ofNat_add]
      show BitVec.ofNat 32 m - 126#32 + 127#32 = _
      rw [BitVec.sub_eq_add_neg, BitVec.add_assoc]
      rfl
    rw [this, ofBits_pow (m + 1) (by omega) (by omega)]
    congr 2
    push_cast
    omega
  · unfold invOf
    rw [hK]
    have key : ∀ m : Fin 253, IntOp.subi 127#32 (BitVec.ofNat 32 m.val - 126#32) = BitVec.ofNat 32 (253 - m.val) := by decide +kernel
    rw [key ⟨m, by omega⟩, ofBits_pow (253 - m) (by omega) (by omega)]
    congr 2
    omega
  · unfold Attn.scale
    rw [hR, Ideal.exp2_coe, rpow_two]
  · rw [hR, show (0 : EReal) = ((0 : ℝ) : EReal) from rfl, ← EReal.coe_sub, Ideal.exp2_coe, zero_sub]
    have := rpow_two (-(n + 1))
    push_cast at this ⊢
    rw [this]

/-- A largest magnitude is in range if it is zero or between a lower bound and the largest finite bf16. -/
def InRange (lo : BitVec 32) (a : EReal) : Prop :=
  a = 0 ∨ (Ideal.ofBits FTy.f32 lo ≤ a ∧ a ≤ Ideal.ofBits FTy.f32 0x7F7F0000#32)

/-- The lower bound for queries and keys. -/
theorem bits_qk : Ideal.ofBits FTy.f32 0x24E00000#32 = ((448 * (2 : ℝ) ^ (-62 : ℤ) : ℝ) : EReal) := by
  simp [Ideal.ofBits, Ideal.ieee, -EReal.coe_mul]; norm_num

/-- The lower bound for values. -/
theorem bits_v : Ideal.ofBits FTy.f32 0x04E00000#32 = ((448 * (2 : ℝ) ^ (-126 : ℤ) : ℝ) : EReal) := by
  simp [Ideal.ofBits, Ideal.ieee, -EReal.coe_mul]; norm_num

theorem bits_hi : Ideal.ofBits FTy.f32 0x7F7F0000#32 = ((255 * (2 : ℝ) ^ (120 : ℤ) : ℝ) : EReal) := by
  simp [Ideal.ofBits, Ideal.ieee, -EReal.coe_mul]; norm_num

/-- In range, kernel and reference find the same power of two. -/
theorem pow_of_inRange {lo : BitVec 32} {n0 : ℤ} (hn : Ideal.ofBits FTy.f32 lo = ((448 * (2 : ℝ) ^ n0 : ℝ) : EReal))
    (h0 : -126 ≤ n0) (h1 : n0 ≤ -1) {a : EReal} (h : InRange lo a) : ∃ e, n0 + 1 ≤ e ∧ Pow a e := by
  rcases h with rfl | ⟨h1, h2⟩
  · exact ⟨0, by omega, pow_zero_case⟩
  · rw [hn] at h1
    rw [bits_hi] at h2
    induction a with
    | bot => exact absurd h1 (not_le.2 (EReal.bot_lt_coe _))
    | top => exact absurd h2 (not_le.2 (EReal.coe_lt_top _))
    | coe r => exact pow_real r n0 h0 (EReal.coe_le_coe_iff.1 h1) (le_trans (EReal.coe_le_coe_iff.1 h2) (by norm_num))

end Cert.KernelIdeal.Hand

end
-- ==== Proof.HeadMath.lean ====
/-
  One head of a block: its largest magnitude, its scale and its codes are the reference's of the head's values.
-/
module

public import proofs.«01_k».proof.Proof.ScaleMath

@[expose] public section

noncomputable section

namespace Cert.KernelIdeal.Hand

open Cert.KernelIdeal Cert.KernelIdeal.Gen
open Idealize.ShloMosaic
open Finset (range)

/-- The values of one of the two heads of a block. -/
def headOf (x : Vec Ideal S1x8192x128 .bf16) (h : Fin 2) : Fin 8192 → Fin 64 → EReal := fun t d =>
  x (ix3 0 t ⟨64 * h.val + d.val, by omega⟩)

theorem mag_nonneg (a : EReal) : 0 ≤ max a (-a) := by
  rcases le_total 0 a with h | h
  · exact le_max_of_le_left h
  · exact le_max_of_le_right (EReal.neg_nonneg.2 h)

theorem le_amax (X : Fin 8192 → Fin 64 → EReal) (t : Fin 8192) (d : Fin 64) : max (X t d) (-(X t d)) ≤ Attn.amax X :=
  le_trans (Finset.le_sup (f := fun d => max (X t d) (-(X t d))) (Finset.mem_univ d))
    (Finset.le_sup (f := fun t => (Finset.univ : Finset (Fin 64)).sup fun d => max (X t d) (-(X t d))) (Finset.mem_univ t))

theorem amax_nonneg (X : Fin 8192 → Fin 64 → EReal) : 0 ≤ Attn.amax X := le_trans (mag_nonneg _) (le_amax X 0 0)

theorem absf_eq (a : EReal) : FloatOps.absf (F := Ideal) (φ := .bf16) a = max a (-a) := rfl

section
variable (x : Vec Ideal S1x8192x128 .bf16)

/-- A lane's largest magnitude is at most its head's. -/
theorem laneM_le (h : Fin 2) (l : Fin 128) (hl : l.val / 64 = h.val) : laneM x l ≤ Attn.amax (headOf x h) := by
  refine Finset.sup_le fun r _ => max_le (amax_nonneg _) (Finset.sup_le fun g _ => ?_)
  have e : x (ix3 0 (tok (16 * g + r.val)) l) = headOf x h (tok (16 * g + r.val)) ⟨l.val % 64, by omega⟩ := by
    unfold headOf
    congr 2
    exact Fin.ext (by show l.val = 64 * h.val + l.val % 64; omega)
  rw [e]
  exact le_amax (headOf x h) _ _

/-- Every magnitude of a lane is at most the lane's largest. -/
theorem le_laneM (l : Fin 128) (t : Fin 8192) : max (x (ix3 0 t l)) (-(x (ix3 0 t l))) ≤ laneM x l := by
  refine le_trans ?_ (Finset.le_sup (f := fun r => accP x 16 r l) (Finset.mem_univ (⟨t.val % 16, by omega⟩ : Fin 16)))
  refine le_trans ?_ (le_max_right _ _)
  have e : tok (16 * (t.val / 16) + t.val % 16) = t := by
    rw [show 16 * (t.val / 16) + t.val % 16 = t.val by omega]
    exact tok_val t
  refine le_trans (le_of_eq ?_) (Finset.le_sup (f := fun g => FloatOps.absf (F := Ideal) (φ := .bf16)
    (x (ix3 0 (tok (16 * g + t.val % 16)) l))) (Finset.mem_range.2 (show t.val / 16 < 32 * 16 by omega)))
  show _ = FloatOps.absf (F := Ideal) (φ := .bf16) (x (ix3 0 (tok (16 * (t.val / 16) + t.val % 16)) l))
  rw [e]
  rfl

/-- The kernel's largest magnitude of a head is the head's largest magnitude. -/
theorem headM_eq (l : Fin 128) (h : Fin 2) (hl : l.val / 64 = h.val) : headM x l = Attn.amax (headOf x h) := by
  have mem : ∀ d : Fin 64, (⟨64 * h.val + d.val, by omega⟩ : Fin 128) ∈ (Finset.univ : Finset (Fin 128)) := fun d => Finset.mem_univ _
  unfold headM
  by_cases hh : l.val < 64
  · rw [if_pos hh]
    apply le_antisymm
    · refine Finset.sup_le fun l' _ => ?_
      by_cases h' : l'.val < 64
      · rw [if_pos h']; exact laneM_le x h l' (by omega)
      · rw [if_neg h']; exact amax_nonneg _
    · refine Finset.sup_le fun t _ => Finset.sup_le fun d _ => ?_
      refine le_trans (le_laneM x _ t) ?_
      refine le_trans (le_of_eq ?_) (Finset.le_sup (f := fun l' : Fin 128 => if l'.val < 64 then laneM x l' else 0) (mem d))
      exact (if_pos (show 64 * h.val + d.val < 64 by omega)).symm
  · rw [if_neg hh]
    apply le_antisymm
    · refine Finset.sup_le fun l' _ => ?_
      by_cases h' : l'.val < 64
      · rw [if_pos h']; exact amax_nonneg _
      · rw [if_neg h']; exact laneM_le x h l' (by omega)
    · refine Finset.sup_le fun t _ => Finset.sup_le fun d _ => ?_
      refine le_trans (le_laneM x _ t) ?_
      refine le_trans (le_of_eq ?_) (Finset.le_sup (f := fun l' : Fin 128 => if l'.val < 64 then 0 else laneM x l') (mem d))
      exact (if_neg (show ¬ 64 * h.val + d.val < 64 by omega)).symm

/-- The kernel's codes of a head in range are the reference's. -/
theorem codeS_eq (h : Fin 2) (t : Fin 8192) (l : Fin 128) (d : Fin 64) (hl : l.val = 64 * h.val + d.val) {e : ℤ}
    (hp : Pow (Attn.amax (headOf x h)) e) : codeS x t l = Attn.code (headOf x h) t d := by
  unfold codeS Attn.code
  rw [headM_eq x l h (by omega), hp.invK, hp.invR]
  have : l = ⟨64 * h.val + d.val, by omega⟩ := Fin.ext hl
  rw [this]
  rfl

end

theorem ofBits_448 : Ideal.ofBits FTy.f32 1138753536#32 = ((448 : ℝ) : EReal) := by
  simp [Ideal.ofBits, Ideal.ieee, -EReal.coe_mul]; norm_num

theorem ofBits_n448 : Ideal.ofBits FTy.f32 3286237184#32 = ((-448 : ℝ) : EReal) := by
  simp [Ideal.ofBits, Ideal.ieee, -EReal.coe_mul]; norm_num

/-- A code is a real number. -/
theorem code_real (X : Fin 8192 → Fin 64 → EReal) (t : Fin 8192) (d : Fin 64) : ∃ r : ℝ, Attn.code X t d = (r : EReal) := by
  unfold Attn.code
  rw [ofBits_448, ofBits_n448]
  generalize X t d * Ideal.exp2 (0 - Attn.expo (Attn.amax X)) = z
  induction z with
  | bot => exact ⟨-448, by rw [max_eq_left bot_le, min_eq_right]; exact EReal.coe_le_coe_iff.2 (by norm_num)⟩
  | top => exact ⟨448, by rw [max_eq_right le_top, min_eq_left]; exact le_top⟩
  | coe r => exact ⟨min 448 (max (-448) r), by
    rw [EReal.coe_strictMono.monotone.map_min, EReal.coe_strictMono.monotone.map_max]⟩

end Cert.KernelIdeal.Hand

end
-- ==== Proof.AttnMath.lean ====
/-
  The attention of one head: the kernel's evaluation over the keys up to the block's end, with powers of two and the
  scales multiplied in late, is the reference's attention.  All values on the way are real numbers.
-/
module

public import proofs.«01_k».proof.Proof.HeadMath

@[expose] public section

noncomputable section

namespace Cert.KernelIdeal.Hand

open Cert.KernelIdeal Cert.KernelIdeal.Gen
open Idealize.ShloMosaic
open Finset (range)

/-! ### Sums and suprema -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Eight interleaved sums are one. -/
theorem sum_eight (n : ℕ) (f : ℕ → EReal) : ∑ r : Fin 8, ∑ g ∈ range n, f (8 * g + r.val) = ∑ key ∈ range (8 * n), f key := by
  induction n with
  | zero => simp
  | succ n ih =>
    rw [Nat.mul_succ, sum_range_add', ← ih, ← Finset.sum_add_distrib]
    exact Finset.sum_congr rfl fun r _ => Finset.sum_range_succ _ _

/-- Eight interleaved suprema are one. -/
theorem sup_eight (n : ℕ) (f : ℕ → EReal) :
    ((Finset.univ : Finset (Fin 8)).sup fun r => (range n).sup fun g => f (8 * g + r.val)) = (range (8 * n)).sup f := by
  apply le_antisymm
  · refine Finset.sup_le fun r _ => Finset.sup_le fun g hg => ?_
    rw [Finset.mem_range] at hg
    exact Finset.le_sup (f := f) (Finset.mem_range.2 (show 8 * g + r.val < 8 * n by omega))
  · refine Finset.sup_le fun key hk => ?_
    rw [Finset.mem_range] at hk
    refine le_trans ?_ (Finset.le_sup (f := fun r : Fin 8 => (range n).sup fun g => f (8 * g + r.val))
      (Finset.mem_univ (⟨key % 8, by omega⟩ : Fin 8)))
    refine le_trans (le_of_eq ?_) (Finset.le_sup (f := fun g => f (8 * g + key % 8)) (Finset.mem_range.2 (show key / 8 < n by omega)))
    show f key = f (8 * (key / 8) + key % 8)
    rw [Nat.div_add_mod]

/-- A sum over the first `n` keys of a function that vanishes on the rest is the sum over all keys. -/
theorem sum_keys (f : Fin 8192 → ℝ) (n : ℕ) (hn : n ≤ 8192) (h : ∀ s : Fin 8192, n ≤ s.val → f s = 0) :
    ∑ key ∈ range n, f (tok key) = ∑ s : Fin 8192, f s := by
  have h1 : ∑ s : Fin 8192, f s = ∑ key ∈ range 8192, f (tok key) := by
    rw [Finset.sum_range fun key => f (tok key)]
    exact Finset.sum_congr rfl fun s _ => by rw [tok_val]
  rw [h1]
  refine Finset.sum_subset (fun k hk => ?_) fun k hk hk' => ?_
  · rw [Finset.mem_range] at hk ⊢; omega
  · rw [Finset.mem_range] at hk hk'
    rw [tok_of_lt hk]
    exact h _ (by show n ≤ k; omega)

/-- The largest score among all keys is the scaled score at the best key. -/
theorem sup_all (raw : Fin 8192 → ℝ) (S : ℝ) (hS : 0 < S) (t s0 : Fin 8192) (h0 : s0.val ≤ t.val)
    (hmax : ∀ s : Fin 8192, s.val ≤ t.val → raw s ≤ raw s0) :
    ((Finset.univ : Finset (Fin 8192)).sup fun s => if s.val ≤ t.val then ((raw s * S : ℝ) : EReal) else ⊥) = ((raw s0 * S : ℝ) : EReal) := by
  apply le_antisymm
  · refine Finset.sup_le fun s _ => ?_
    by_cases h : s.val ≤ t.val
    · rw [if_pos h]
      exact EReal.coe_le_coe_iff.2 (mul_le_mul_of_nonneg_right (hmax s h) hS.le)
    · rw [if_neg h]
      exact bot_le
  · refine le_trans (le_of_eq ?_) (Finset.le_sup (f := fun s : Fin 8192 => if s.val ≤ t.val then ((raw s * S : ℝ) : EReal) else ⊥)
      (Finset.mem_univ s0))
    exact (if_pos h0).symm

/-- The largest product among the keys up to the block's end is the product at the best key. -/
theorem sup_keys (raw : Fin 8192 → ℝ) (t s0 : Fin 8192) (n : ℕ) (hn : n ≤ 8192) (htn : t.val < n) (h0 : s0.val ≤ t.val)
    (hmax : ∀ s : Fin 8192, s.val ≤ t.val → raw s ≤ raw s0) :
    ((range n).sup fun key => if key ≤ t.val then ((raw (tok key) : ℝ) : EReal) else ⊥) = ((raw s0 : ℝ) : EReal) := by
  apply le_antisymm
  · refine Finset.sup_le fun key hk => ?_
    rw [Finset.mem_range] at hk
    by_cases h : key ≤ t.val
    · rw [if_pos h]
      refine EReal.coe_le_coe_iff.2 (hmax _ ?_)
      rw [tok_of_lt (by omega)]
      exact h
    · rw [if_neg h]
      exact bot_le
  · refine le_trans (le_of_eq ?_) (Finset.le_sup (f := fun key => if key ≤ t.val then ((raw (tok key) : ℝ) : EReal) else ⊥)
      (Finset.mem_range.2 (show s0.val < n by omega)))
    show _ = if s0.val ≤ t.val then ((raw (tok s0.val) : ℝ) : EReal) else ⊥
    rw [if_pos h0, tok_val]

/-- There is a best key. -/
theorem exists_best (raw : Fin 8192 → ℝ) (t : Fin 8192) :
    ∃ s0 : Fin 8192, s0.val ≤ t.val ∧ ∀ s : Fin 8192, s.val ≤ t.val → raw s ≤ raw s0 := by
  obtain ⟨s0, h1, h2⟩ := Finset.exists_max_image (Finset.univ.filter fun s : Fin 8192 => s.val ≤ t.val) raw
    ⟨t, by simp⟩
  refine ⟨s0, by simpa using h1, fun s hs => h2 s (by simpa using hs)⟩

/-! ### The weights -/

/-- The weight of a key for a query, as a real number. -/
def wReal (raw : Fin 8192 → ℝ) (S : ℝ) (t s0 s : Fin 8192) : ℝ := if s.val ≤ t.val then Real.exp ((raw s - raw s0) * S) else 0

theorem wReal_nonneg (raw : Fin 8192 → ℝ) (S : ℝ) (t s0 s : Fin 8192) : 0 ≤ wReal raw S t s0 s := by
  unfold wReal
  split
  · exact (Real.exp_pos _).le
  · exact le_refl _

theorem wReal_sum_pos (raw : Fin 8192 → ℝ) (S : ℝ) (t s0 : Fin 8192) : 0 < ∑ s : Fin 8192, wReal raw S t s0 s := by
  refine Finset.sum_pos' (fun s _ => wReal_nonneg raw S t s0 s) ⟨t, Finset.mem_univ _, ?_⟩
  unfold wReal
  rw [if_pos (le_refl _)]
  exact Real.exp_pos _

/-- The reference's weight. -/
theorem weight_ref (raw : Fin 8192 → ℝ) (S : ℝ) (t s0 s : Fin 8192) :
    Ideal.exp ((if s.val ≤ t.val then ((raw s * S : ℝ) : EReal) else ⊥) - ((raw s0 * S : ℝ) : EReal)) = ((wReal raw S t s0 s : ℝ) : EReal) := by
  unfold wReal
  by_cases h : s.val ≤ t.val
  · rw [if_pos h, if_pos h, ← EReal.coe_sub, Ideal.exp_coe, sub_mul]
  · rw [if_neg h, if_neg h, EReal.bot_sub]
    rfl

/-- The kernel's weight: a power of two, with the logarithm of two folded into the factor. -/
theorem weight_ker (raw : Fin 8192 → ℝ) (S : ℝ) (hS : 0 < S) (t s0 : Fin 8192) (key : ℕ) (hk : key < 8192) :
    FloatOps.exp2 (F := Ideal) (φ := .f32) (((if key ≤ t.val then ((raw (tok key) : ℝ) : EReal) else ⊥) - ((raw s0 : ℝ) : EReal))
      * ((S * (Real.log 2)⁻¹ : ℝ) : EReal)) = ((wReal raw S t s0 (tok key) : ℝ) : EReal) := by
  have hl2 : 0 < Real.log 2 := Real.log_pos (by norm_num)
  have hv : (tok key).val = key := Nat.mod_eq_of_lt hk
  show Ideal.exp2 _ = _
  unfold wReal
  rw [hv]
  by_cases h : key ≤ t.val
  · rw [if_pos h, if_pos h, ← EReal.coe_sub, ← EReal.coe_mul, Ideal.exp2_coe]
    congr 1
    show (2 : ℝ) ^ ((raw (tok key) - raw s0) * (S * (Real.log 2)⁻¹)) = _
    rw [Real.rpow_def_of_pos (by norm_num)]
    congr 1
    field_simp
  · rw [if_neg h, if_neg h, EReal.bot_sub, EReal.bot_mul_coe_of_pos (by positivity), Ideal.exp2_bot]
    rfl

/-! ### The reference's attention in real numbers -/

section
variable (Q K V : Fin 8192 → Fin 64 → EReal) (qc kc vc : Fin 8192 → Fin 64 → ℝ)

/-- The product of a query with a key. -/
def rawR (t s : Fin 8192) : ℝ := ∑ d : Fin 64, qc t d * kc s d

theorem attn_real (hq : ∀ t d, Attn.code Q t d = (qc t d : EReal)) (hk : ∀ t d, Attn.code K t d = (kc t d : EReal))
    (hv : ∀ t d, Attn.code V t d = (vc t d : EReal)) (S sv : ℝ) (hS : 0 < S)
    (hs : Attn.scale (Attn.amax Q) * Attn.scale (Attn.amax K) * Ideal.ofBits FTy.f32 1040187392#32 = (S : EReal))
    (hsv : Attn.scale (Attn.amax V) = (sv : EReal)) (t s0 : Fin 8192) (h0 : s0.val ≤ t.val)
    (hmax : ∀ s : Fin 8192, s.val ≤ t.val → rawR qc kc t s ≤ rawR qc kc t s0) (d : Fin 64) :
    Attn.attn Q K V t d = ((∑ s : Fin 8192, vc s d * wReal (rawR qc kc t) S t s0 s : ℝ) : EReal)
      * ((sv : EReal) * ((1 / ∑ s : Fin 8192, wReal (rawR qc kc t) S t s0 s : ℝ) : EReal)) := by
  have hsc : ∀ s, Attn.score Q K t s = if s.val ≤ t.val then ((rawR qc kc t s * S : ℝ) : EReal) else ⊥ := by
    intro s
    unfold Attn.score
    have e : (∑ d : Fin 64, Attn.code Q t d * Attn.code K s d) = ((rawR qc kc t s : ℝ) : EReal) := by
      unfold rawR
      rw [coe_sum]
      exact Finset.sum_congr rfl fun d _ => by rw [hq, hk, EReal.coe_mul]
    rw [hs, e, EReal.coe_mul]
  have htop : Attn.top Q K t = ((rawR qc kc t s0 * S : ℝ) : EReal) := by
    unfold Attn.top
    rw [Finset.sup_congr rfl fun s _ => hsc s]
    exact sup_all _ S hS t s0 h0 hmax
  have hw : ∀ s, Attn.weight Q K t s = ((wReal (rawR qc kc t) S t s0 s : ℝ) : EReal) := by
    intro s
    unfold Attn.weight
    rw [hsc, htop]
    exact weight_ref _ S t s0 s
  have hpos := wReal_sum_pos (rawR qc kc t) S t s0
  have hn : (∑ s : Fin 8192, Attn.weight Q K t s * Attn.code V s d)
      = ((∑ s : Fin 8192, vc s d * wReal (rawR qc kc t) S t s0 s : ℝ) : EReal) := by
    rw [coe_sum]
    exact Finset.sum_congr rfl fun s _ => by rw [hw, hv, EReal.coe_mul, mul_comm]
  have hd : (∑ s : Fin 8192, Attn.weight Q K t s) = ((∑ s : Fin 8192, wReal (rawR qc kc t) S t s0 s : ℝ) : EReal) := by
    rw [coe_sum]
    exact Finset.sum_congr rfl fun s _ => hw s
  unfold Attn.attn
  rw [hn, hd, Ideal.div_coe hpos.ne', hsv, ← mul_assoc]

end

/-! ### The kernel's attention in real numbers -/

section
variable (kn : Vec Ideal S8192x128 .fp8e4m3) (qt vt : Vec Ideal S1x128x8192 .fp8e4m3) (cv vv : Fin 512 → EReal)
variable (qc kc : Fin 8192 → Fin 64 → ℝ) (vc : Fin 8192 → ℝ)

/-- The product over all lanes, half of them zero, is the product over the head's features. -/
theorem rawS_eq (a key : ℕ) (ha : a < 32) (hh : Fin 2) (q : Fin 256) (col : Fin 512) (hcol : col.val = 256 * hh.val + q.val)
    (hq : ∀ (t : Fin 8192) (d : Fin 64), qt (ix3 0 ⟨64 * hh.val + d.val, by omega⟩ t) = (qc t d : EReal))
    (hk : ∀ (t : Fin 8192) (d : Fin 64), kn (ix2 t ⟨64 * hh.val + d.val, by omega⟩) = (kc t d : EReal)) :
    rawS kn qt a key col = ((rawR qc kc ⟨256 * a + q.val, by omega⟩ (tok key) : ℝ) : EReal) := by
  have hm : col.val % 256 = q.val := by omega
  have ht : tok (256 * a + q.val) = ⟨256 * a + q.val, by omega⟩ := tok_of_lt (by omega)
  unfold rawS rawR
  rw [coe_sum]
  have split := Fin.sum_univ_add (a := 64) (b := 64) (M := EReal) fun l : Fin (64 + 64) => kn (ix2 (tok key) l) * qzS qt a l col
  refine Eq.trans split ?_
  have on : ∀ (d : Fin 64) (l : Fin 128), l.val = 64 * hh.val + d.val →
      kn (ix2 (tok key) l) * qzS qt a l col = ((qc ⟨256 * a + q.val, by omega⟩ d * kc (tok key) d : ℝ) : EReal) := by
    intro d l hl
    have el : l = ⟨64 * hh.val + d.val, by omega⟩ := Fin.ext hl
    unfold qzS
    rw [if_pos (by omega), hm, ht, el, hk, hq, EReal.coe_mul, mul_comm]
  have off : ∀ l : Fin 128, l.val / 64 ≠ hh.val → kn (ix2 (tok key) l) * qzS qt a l col = 0 := by
    intro l hl
    unfold qzS
    rw [if_neg (by omega), mul_zero]
  have hcase : hh.val = 0 ∨ hh.val = 1 := by omega
  rcases hcase with h | h
  · rw [Finset.sum_eq_zero (s := Finset.univ) (f := fun i : Fin 64 => kn (ix2 (tok key) (Fin.natAdd 64 i)) * qzS qt a (Fin.natAdd 64 i) col)
      fun i _ => off _ (by rw [Fin.val_natAdd]; omega), add_zero]
    exact Finset.sum_congr rfl fun d _ => on d _ (by rw [Fin.val_castAdd]; omega)
  · rw [Finset.sum_eq_zero (s := Finset.univ) (f := fun i : Fin 64 => kn (ix2 (tok key) (Fin.castAdd 64 i)) * qzS qt a (Fin.castAdd 64 i) col)
      fun i _ => off _ (by rw [Fin.val_castAdd]; omega), zero_add]
    exact Finset.sum_congr rfl fun d _ => on d _ (by rw [Fin.val_natAdd]; omega)

theorem outS_real (a : ℕ) (ha : a < 32) (hh : Fin 2) (d : Fin 128) (hd : d.val / 64 = hh.val) (q : Fin 256)
    (hq : ∀ (t : Fin 8192) (d : Fin 64), qt (ix3 0 ⟨64 * hh.val + d.val, by omega⟩ t) = (qc t d : EReal))
    (hk : ∀ (t : Fin 8192) (d : Fin 64), kn (ix2 t ⟨64 * hh.val + d.val, by omega⟩) = (kc t d : EReal))
    (hv : ∀ t : Fin 8192, vt (ix3 0 d t) = (vc t : EReal)) (S sv : ℝ) (hS : 0 < S)
    (hc : cv (colOf d q) = ((S * (Real.log 2)⁻¹ : ℝ) : EReal)) (hvv : vv (colOf d q) = (sv : EReal))
    (s0 : Fin 8192) (h0 : s0.val ≤ 256 * a + q.val)
    (hmax : ∀ s : Fin 8192, s.val ≤ 256 * a + q.val →
      rawR qc kc ⟨256 * a + q.val, by omega⟩ s ≤ rawR qc kc ⟨256 * a + q.val, by omega⟩ s0) :
    outS kn qt vt cv vv a d q
      = ((∑ s : Fin 8192, vc s * wReal (rawR qc kc ⟨256 * a + q.val, by omega⟩) S ⟨256 * a + q.val, by omega⟩ s0 s : ℝ) : EReal)
        * ((sv : EReal) * ((1 / ∑ s : Fin 8192, wReal (rawR qc kc ⟨256 * a + q.val, by omega⟩) S ⟨256 * a + q.val, by omega⟩ s0 s : ℝ) : EReal)) := by
  obtain ⟨t, ht⟩ : ∃ t : Fin 8192, t = ⟨256 * a + q.val, by omega⟩ := ⟨_, rfl⟩
  have htv : t.val = 256 * a + q.val := by rw [ht]
  have hcol : (colOf d q).val = 256 * hh.val + q.val := by
    show 256 * (d.val / 64) + q.val = _
    rw [hd]
  have hcm : (colOf d q).val % 256 = q.val := by omega
  rw [← ht] at hmax ⊢
  have hM : ∀ key, MS kn qt a key (colOf d q) = if key ≤ t.val then ((rawR qc kc t (tok key) : ℝ) : EReal) else ⊥ := by
    intro key
    unfold MS
    rw [hcm, rawS_eq kn qt qc kc a key ha hh q (colOf d q) hcol hq hk, ← ht, htv]
  have hN : 8 * (32 * (a + 1)) = 256 * (a + 1) := by ring
  have hm : mS kn qt a (colOf d q) = ((rawR qc kc t s0 : ℝ) : EReal) := by
    unfold mS mpP
    rw [sup_eight (32 * (a + 1)) fun key => MS kn qt a key (colOf d q), hN, Finset.sup_congr rfl fun key _ => hM key]
    exact sup_keys (rawR qc kc t) t s0 (256 * (a + 1)) (by omega) (by omega) (by omega) (fun s hs => hmax s (by omega))
  have hp : ∀ key, key < 256 * (a + 1) → pS kn qt cv a key (colOf d q) = ((wReal (rawR qc kc t) S t s0 (tok key) : ℝ) : EReal) := by
    intro key hkey
    unfold pS
    rw [hM, hm, hc]
    exact weight_ker (rawR qc kc t) S hS t s0 key (by omega)
  have hz : ∀ s : Fin 8192, 256 * (a + 1) ≤ s.val → wReal (rawR qc kc t) S t s0 s = 0 := by
    intro s hs
    unfold wReal
    rw [if_neg (by omega)]
  have hl : (∑ r : Fin 8, lpP kn qt cv a (32 * (a + 1)) r (colOf d q)) = ((∑ s : Fin 8192, wReal (rawR qc kc t) S t s0 s : ℝ) : EReal) := by
    unfold lpP
    rw [sum_eight (32 * (a + 1)) fun key => pS kn qt cv a key (colOf d q), hN,
      Finset.sum_congr rfl fun key hkey => hp key (Finset.mem_range.1 hkey), ← coe_sum,
      sum_keys (fun s => wReal (rawR qc kc t) S t s0 s) (256 * (a + 1)) (by omega) hz]
  have ho : oP kn qt vt cv a (256 * (a + 1)) d q = ((∑ s : Fin 8192, vc s * wReal (rawR qc kc t) S t s0 s : ℝ) : EReal) := by
    unfold oP
    rw [← sum_keys (fun s => vc s * wReal (rawR qc kc t) S t s0 s) (256 * (a + 1)) (by omega) (fun s hs => by rw [hz s hs, mul_zero]), coe_sum]
    exact Finset.sum_congr rfl fun key hkey => by rw [hp key (Finset.mem_range.1 hkey), hv, EReal.coe_mul]
  unfold outS
  rw [ho, hl, hvv, Ideal.div_coe (wReal_sum_pos _ S t s0).ne']

/-- The kernel's attention of one head is the reference's. -/
theorem outS_eq (Q K V : Fin 8192 → Fin 64 → EReal) (a : ℕ) (ha : a < 32) (hh : Fin 2) (d : Fin 128) (hd : d.val / 64 = hh.val) (q : Fin 256)
    (hq : ∀ (t : Fin 8192) (d : Fin 64), qt (ix3 0 ⟨64 * hh.val + d.val, by omega⟩ t) = Attn.code Q t d)
    (hk : ∀ (t : Fin 8192) (d : Fin 64), kn (ix2 t ⟨64 * hh.val + d.val, by omega⟩) = Attn.code K t d)
    (hv : ∀ t : Fin 8192, vt (ix3 0 d t) = Attn.code V t ⟨d.val % 64, by omega⟩) (S sv : ℝ) (hS : 0 < S)
    (hs : Attn.scale (Attn.amax Q) * Attn.scale (Attn.amax K) * Ideal.ofBits FTy.f32 1040187392#32 = (S : EReal))
    (hsv : Attn.scale (Attn.amax V) = (sv : EReal))
    (hc : cv (colOf d q) = ((S * (Real.log 2)⁻¹ : ℝ) : EReal)) (hvv : vv (colOf d q) = (sv : EReal)) :
    outS kn qt vt cv vv a d q = Attn.attn Q K V ⟨256 * a + q.val, by omega⟩ ⟨d.val % 64, by omega⟩ := by
  choose qc eq using code_real Q
  choose kc ek using code_real K
  choose vc ev using code_real V
  obtain ⟨s0, h0, hmax⟩ := exists_best (rawR qc kc ⟨256 * a + q.val, by omega⟩) ⟨256 * a + q.val, by omega⟩
  rw [outS_real kn qt vt cv vv qc kc (fun t => vc t ⟨d.val % 64, by omega⟩) a ha hh d hd q (fun t d => (hq t d).trans (eq t d))
      (fun t d => (hk t d).trans (ek t d)) (fun t => (hv t).trans (ev t _)) S sv hS hc hvv s0 h0 hmax,
    attn_real Q K V qc kc vc eq ek ev S sv hS hs hsv _ s0 h0 hmax]

end

end Cert.KernelIdeal.Hand

end
-- ==== Proof.Equation.lean ====
/-
  The equation: for arguments in range every result of the kernel is the reference's.
-/
module

public import proofs.«01_k».proof.Proof.KernelResults
public import proofs.«01_k».proof.Proof.RefResults
public import proofs.«01_k».proof.Proof.AttnMath

@[expose] public section

noncomputable section

namespace Cert.KernelIdeal.Hand

open Cert.KernelIdeal Cert.KernelIdeal.Gen
open Idealize.ShloMosaic
open Cert.ReferenceIdeal.Hand (hdR outR)

/-- Every head of an argument is in range. -/
def AllInRange (lo : BitVec 32) (X : Vec Ideal S4x8192x2048 .bf16) : Prop := ∀ (b : Fin 4) (h : Fin 32), InRange lo (Attn.amax (hdR X b h))

/-- A head of a block is a head of the array. -/
theorem headOf_blkOf (X : Vec Ideal S4x8192x2048 .bf16) (b : Fin 4) (p : Fin 16) (hf : Fin 2) (h : Fin 32)
    (e : h.val = 2 * p.val + hf.val) : headOf (blkOf X b p) hf = hdR X b h := by
  funext t d
  unfold headOf hdR
  show X (ix3 b t _) = X (ix3 b t _)
  congr 2
  exact Fin.ext (by show 128 * p.val + (64 * hf.val + d.val) = 64 * h.val + d.val; omega)

/-- The codes. -/
theorem codeR_eq {lo : BitVec 32} {n0 : ℤ} (hn : Ideal.ofBits FTy.f32 lo = ((448 * (2 : ℝ) ^ n0 : ℝ) : EReal))
    (h0 : -126 ≤ n0) (h1 : n0 ≤ -1) (X : Vec Ideal S4x8192x2048 .bf16) (hX : AllInRange lo X) (b : Fin 4) (t : Fin 8192) (h : Fin 32) (d : Fin 64) :
    codeR X b t h d = Attn.code (hdR X b h) t d := by
  obtain ⟨e, -, he⟩ := pow_of_inRange hn h0 h1 (hX b h)
  have hb := headOf_blkOf X b ⟨h.val / 2, by omega⟩ ⟨h.val % 2, by omega⟩ h (by show h.val = 2 * (h.val / 2) + h.val % 2; omega)
  rw [← hb] at he ⊢
  unfold codeR codeA
  have e1 : (⟨(64 * h.val + d.val) / 128, by omega⟩ : Fin 16) = ⟨h.val / 2, by omega⟩ := Fin.ext (by show (64 * h.val + d.val) / 128 = h.val / 2; omega)
  show codeS (blkOf X b ⟨(64 * h.val + d.val) / 128, _⟩) t _ = _
  rw [e1]
  exact codeS_eq _ ⟨h.val % 2, by omega⟩ t _ d (by show (64 * h.val + d.val) % 128 = 64 * (h.val % 2) + d.val; omega) he

/-- The scales. -/
theorem scaleR_eq {lo : BitVec 32} {n0 : ℤ} (hn : Ideal.ofBits FTy.f32 lo = ((448 * (2 : ℝ) ^ n0 : ℝ) : EReal))
    (h0 : -126 ≤ n0) (h1 : n0 ≤ -1) (X : Vec Ideal S4x8192x2048 .bf16) (hX : AllInRange lo X) (b : Fin 4) (h : Fin 32) :
    scaleR X b h = Attn.scale (Attn.amax (hdR X b h)) := by
  obtain ⟨e, -, he⟩ := pow_of_inRange hn h0 h1 (hX b h)
  have hb := headOf_blkOf X b ⟨h.val / 2, by omega⟩ ⟨h.val % 2, by omega⟩ h (by show h.val = 2 * (h.val / 2) + h.val % 2; omega)
  rw [← hb] at he ⊢
  unfold scaleR scaleA
  rw [headM_eq _ _ ⟨h.val % 2, by omega⟩ (by show 64 * (h.val % 2) / 64 = h.val % 2; omega), he.scaleK, he.scaleR]

theorem ofBits_eighth : Ideal.ofBits FTy.f32 1040187392#32 = (((2 : ℝ) ^ (-3 : ℤ) : ℝ) : EReal) := by
  have := ofBits_pow 124 (by omega) (by omega)
  rw [shl23] at this
  exact this.trans (by norm_num)

theorem ofBits_tiny : Ideal.ofBits FTy.f32 8388608#32 = (((2 : ℝ) ^ (-126 : ℤ) : ℝ) : EReal) := by
  have := ofBits_pow 1 (by omega) (by omega)
  rw [shl23] at this
  exact this.trans (by norm_num)

theorem log2e_eq : Named.named (F := Ideal) κ "log2e" (φ := .f32) 1069066811#32 = (((Real.log 2)⁻¹ : ℝ) : EReal) := rfl

/-- The factor of a score: in range it is not clipped. -/
theorem cLane_eq (x k : Vec Ideal S1x8192x128 .bf16) (l : Fin 128) (ex ek : ℤ) (hx : Pow (headM x l) ex) (hk : Pow (headM k l) ek)
    (lx : -61 ≤ ex) (lk : -61 ≤ ek) :
    cLane x k l = (((2 : ℝ) ^ ex * 2 ^ ek * 2 ^ (-3 : ℤ) * (Real.log 2)⁻¹ : ℝ) : EReal) := by
  have hl2 : 0 < Real.log 2 := Real.log_pos (by norm_num)
  have hl1 : Real.log 2 ≤ 1 := le_trans (Real.log_le_sub_one_of_pos (by norm_num)) (by norm_num)
  unfold cLane
  rw [hx.scaleK, hk.scaleK, ofBits_eighth, ofBits_tiny, log2e_eq, ← EReal.coe_mul, ← EReal.coe_mul, ← EReal.coe_mul, max_eq_left]
  refine EReal.coe_le_coe_iff.2 ?_
  rw [← zpow_add₀ (by norm_num), ← zpow_add₀ (by norm_num)]
  have h1 : (2 : ℝ) ^ (-126 : ℤ) ≤ 2 ^ (ex + ek + -3) := by
    rw [zpow_le_zpow_iff_right₀ (by norm_num)]
    omega
  have h2 : (1 : ℝ) ≤ (Real.log 2)⁻¹ := (one_le_inv₀ hl2).2 hl1
  calc (2 : ℝ) ^ (-126 : ℤ) ≤ 2 ^ (ex + ek + -3) := h1
    _ = 2 ^ (ex + ek + -3) * 1 := (mul_one _).symm
    _ ≤ _ := mul_le_mul_of_nonneg_left h2 (by positivity)

/-- The attention. -/
theorem outA_eq (X Y Z : Vec Ideal S4x8192x2048 .bf16) (hX : AllInRange 0x24E00000#32 X)
    (hY : AllInRange 0x24E00000#32 Y) (hZ : AllInRange 0x04E00000#32 Z)
    (b : Fin 4) (t : Fin 8192) (l : Fin 2048) : outA X Y Z b t l = outR X Y Z b t l := by
  obtain ⟨p, hp⟩ : ∃ p : Fin 16, p = ⟨l.val / 128, by omega⟩ := ⟨_, rfl⟩
  obtain ⟨d, hd⟩ : ∃ d : Fin 128, d = ⟨l.val % 128, by omega⟩ := ⟨_, rfl⟩
  obtain ⟨hf, hhf⟩ : ∃ hf : Fin 2, hf = ⟨d.val / 64, by omega⟩ := ⟨_, rfl⟩
  obtain ⟨h, hh⟩ : ∃ h : Fin 32, h = ⟨l.val / 64, by omega⟩ := ⟨_, rfl⟩
  have hpv : p.val = l.val / 128 := by rw [hp]
  have hdv : d.val = l.val % 128 := by rw [hd]
  have hfv : hf.val = d.val / 64 := by rw [hhf]
  have hhv : h.val = l.val / 64 := by rw [hh]
  have hhe : h.val = 2 * p.val + hf.val := by omega
  have bX := headOf_blkOf X b p hf h hhe
  have bY := headOf_blkOf Y b p hf h hhe
  have bZ := headOf_blkOf Z b p hf h hhe
  obtain ⟨ex, lx, px⟩ := pow_of_inRange bits_qk (by norm_num) (by norm_num) (hX b h)
  obtain ⟨ey, ly, py⟩ := pow_of_inRange bits_qk (by norm_num) (by norm_num) (hY b h)
  obtain ⟨ez, -, pz⟩ := pow_of_inRange bits_v (by norm_num) (by norm_num) (hZ b h)
  unfold outA outR
  rw [← hp, ← hd, ← hh]
  rw [← bX] at px ⊢
  rw [← bY] at py ⊢
  rw [← bZ] at pz ⊢
  show outS (codesN (blkOf Y b p)) (codesT (blkOf X b p)) (codesT (blkOf Z b p)) (cvS (blkOf X b p) (blkOf Y b p)) (vvS (blkOf Z b p))
    (t.val / 256) d ⟨t.val % 256, _⟩ = _
  have hS : (0 : ℝ) < 2 ^ ex * 2 ^ ey * 2 ^ (-3 : ℤ) := by positivity
  have hcol : (colOf d ⟨t.val % 256, by omega⟩).val < 256 ↔ hf.val = 0 := by
    show 256 * (d.val / 64) + t.val % 256 < 256 ↔ _
    omega
  have m0 : ∀ x : Vec Ideal S1x8192x128 .bf16, hf.val = 0 → headM x 0 = Attn.amax (headOf x hf) := fun x e =>
    headM_eq x 0 hf (by show 0 / 64 = hf.val; omega)
  have m1 : ∀ x : Vec Ideal S1x8192x128 .bf16, ¬ hf.val = 0 → headM x 127 = Attn.amax (headOf x hf) := fun x e =>
    headM_eq x 127 hf (by show 127 / 64 = hf.val; omega)
  have hc : cvS (blkOf X b p) (blkOf Y b p) (colOf d ⟨t.val % 256, by omega⟩)
      = (((2 : ℝ) ^ ex * 2 ^ ey * 2 ^ (-3 : ℤ) * (Real.log 2)⁻¹ : ℝ) : EReal) := by
    unfold cvS
    by_cases c : hf.val = 0
    · rw [if_pos (hcol.2 c)]
      exact cLane_eq _ _ _ ex ey (by rw [m0 _ c]; exact px) (by rw [m0 _ c]; exact py) (by omega) (by omega)
    · rw [if_neg fun q => c (hcol.1 q)]
      exact cLane_eq _ _ _ ex ey (by rw [m1 _ c]; exact px) (by rw [m1 _ c]; exact py) (by omega) (by omega)
  have hvv : vvS (blkOf Z b p) (colOf d ⟨t.val % 256, by omega⟩) = (((2 : ℝ) ^ ez : ℝ) : EReal) := by
    unfold vvS
    by_cases c : hf.val = 0
    · rw [if_pos (hcol.2 c), m0 _ c, pz.scaleK]
    · rw [if_neg fun q => c (hcol.1 q), m1 _ c, pz.scaleK]
  refine (outS_eq (codesN (blkOf Y b p)) (codesT (blkOf X b p)) (codesT (blkOf Z b p)) (cvS (blkOf X b p) (blkOf Y b p)) (vvS (blkOf Z b p))
    (headOf (blkOf X b p) hf) (headOf (blkOf Y b p) hf) (headOf (blkOf Z b p) hf) (t.val / 256) (by omega) hf d hfv.symm ⟨t.val % 256, by omega⟩
    (fun t' d' => codeS_eq _ hf t' _ d' rfl px) (fun t' d' => codeS_eq _ hf t' _ d' rfl py)
    (fun t' => codeS_eq _ hf t' _ _ (by show d.val = 64 * hf.val + d.val % 64; omega) pz)
    (2 ^ ex * 2 ^ ey * 2 ^ (-3 : ℤ)) (2 ^ ez) hS ?_ pz.scaleR hc hvv).trans ?_
  · rw [px.scaleR, py.scaleR, ofBits_eighth, ← EReal.coe_mul, ← EReal.coe_mul]
  · congr 1
    · exact Fin.ext (by show 256 * (t.val / 256) + t.val % 256 = t.val; omega)
    · exact Fin.ext (by show d.val % 64 = l.val % 64; omega)

end Cert.KernelIdeal.Hand

end
-- ==== Proof.PreFacts.lean ====
/-
  The shape conditions the precondition states, proved.
-/
module

public import proofs.«01_k».proof.Pre_in_range

@[expose] public section

set_option maxRecDepth 16384

noncomputable section

namespace Cert.Pre_in_range.Hand

open Idealize.ShloMosaic Cert.Pre_in_range

/-- The shape conditions of the precondition's operations. -/
instance facts : Cert.Pre_in_range.Facts where
  bitsLt_bf16_f32 := by decide
  shapeCasts_S4x8192x2048_S4x8192x32x64 := by decide
  reducesTo_S4x8192x32x64_S4x32_d1_3 := by decide
  h_S_ := by decide
  bcast_S_S4x32 := by decide
  reducesTo_S4x32_S_d0_1 := by decide

end Cert.Pre_in_range.Hand

end
-- ==== Proof.PreRead.lean ====
/-
  What the precondition says: in every head of the three arguments the largest magnitude is zero or lies between
  a lower bound (one for queries and keys, one for values) and the largest finite bf16.
-/
module

public import proofs.«01_k».proof.Proof.PreFacts
public import proofs.«01_k».proof.Proof.AttnSpec
public import Idealize.ShloMosaic.Lib.Pointwise
public import Idealize.ShloMosaic.Lib.ReduceAll

@[expose] public section

set_option maxRecDepth 16384

noncomputable section

namespace Cert.Pre_in_range.Hand

open Idealize.ShloMosaic Cert.Pre_in_range Cert.Pre_in_range.Facts

/-- The values split into heads. -/
def heads (X : FVec Ideal S4x8192x2048 .bf16) : FVec Ideal S4x8192x32x64 .f32 :=
  shapeCast S4x8192x32x64 ((extf .f32 · bitsLt_bf16_f32) X) shapeCasts_S4x8192x2048_S4x8192x32x64

/-- The largest magnitudes. -/
def mags (H : FVec Ideal S4x8192x32x64 .f32) : FVec Ideal S4x32 .f32 :=
  Host.reduce FloatOps.maximumf (Host.absf H) (constant S_ .f32 0xFF800000#32) reducesTo_S4x8192x32x64_S4x32_d1_3 h_S_

/-- Which of them are in range. -/
def inside (lo : BitVec 32) (M : FVec Ideal S4x32 .f32) : IVec S4x32 1 :=
  ori (cmpf .oeq M (broadcastInDim S4x32 ![] bcast_S_S4x32 (constant S_ .f32 0x00000000#32)))
    (andi (cmpf .oge M (broadcastInDim S4x32 ![] bcast_S_S4x32 (constant S_ .f32 lo)))
      (cmpf .ole M (broadcastInDim S4x32 ![] bcast_S_S4x32 (constant S_ .f32 0x7F7F0000#32))))

/-- Whether all are. -/
def every (v : IVec S4x32 1) : IVec S_ 1 := Host.reduce IntOp.andi v (constantI S_ 1 1#1) reducesTo_S4x32_S_d0_1 h_S_

theorem fn_eq (X Y Z : FVec Ideal S4x8192x2048 .bf16) :
    Cert.Pre_in_range.fn (F := Ideal) X Y Z
      = andi (andi (every (inside 0x24E00000#32 (mags (heads X)))) (every (inside 0x24E00000#32 (mags (heads Y)))))
          (every (inside 0x04E00000#32 (mags (heads Z)))) := rfl

/-- The rows of one head. -/
def hdP (X : FVec Ideal S4x8192x2048 .bf16) (b : Fin 4) (h : Fin 32) : Fin 8192 → Fin 64 → EReal := fun t d =>
  X (ix3 b t ⟨64 * h.val + d.val, by omega⟩)

theorem heads_at (X : FVec Ideal S4x8192x2048 .bf16) (b : Fin 4) (t : Fin 8192) (h : Fin 32) (d : Fin 64) :
    heads X (ix4 b t h d) = X (ix3 b t ⟨64 * h.val + d.val, by omega⟩) := by
  pointwise [heads]
  congr 2
  all_goals exact Fin.ext (by simp; omega)

theorem ninfP : Ideal.ofBits FTy.f32 0xFF800000#32 = (⊥ : EReal) := by
  simp [Ideal.ofBits, Ideal.ieee]

theorem drop_iff (i : S4x8192x32x64.Idx) (b : Fin 4) (h : Fin 32) :
    (reducesTo_S4x8192x32x64_S4x32_d1_3.drop i = ix2 b h) ↔ ((i (0 : Fin 4)).val = b.val ∧ (i (2 : Fin 4)).val = h.val) := by
  constructor
  · intro e
    exact ⟨congrArg Fin.val (congrFun e (0 : Fin 2)), congrArg Fin.val (congrFun e (1 : Fin 2))⟩
  · rintro ⟨h0, h1⟩
    funext a
    match a with
    | ⟨0, _⟩ => exact Fin.ext h0
    | ⟨1, _⟩ => exact Fin.ext h1

/-- The largest magnitude of a head, as a supremum. -/
theorem mags_at (H : FVec Ideal S4x8192x32x64 .f32) (b : Fin 4) (h : Fin 32) :
    mags H (ix2 b h) = Attn.amax fun t d => H (ix4 b t h d) := by
  unfold mags
  rw [Host.reduce_eq_fold]
  have e : (constant (F := Ideal) S_ .f32 0xFF800000#32) (Shape.Idx.first h_S_) = (⊥ : EReal) := ninfP
  rw [e]
  show (Finset.univ.filter fun i => reducesTo_S4x8192x32x64_S4x32_d1_3.drop i = ix2 b h).sup (fun i => max (H i) (-(H i))) = _
  unfold Attn.amax
  apply le_antisymm
  · refine Finset.sup_le fun i hi => ?_
    rw [Finset.mem_filter, drop_iff] at hi
    have ei : i = ix4 b (i (1 : Fin 4)) h (i (3 : Fin 4)) := by
      funext a
      match a with
      | ⟨0, _⟩ => exact Fin.ext hi.2.1
      | ⟨1, _⟩ => rfl
      | ⟨2, _⟩ => exact Fin.ext hi.2.2
      | ⟨3, _⟩ => rfl
    rw [ei]
    exact le_trans (Finset.le_sup (f := fun d : Fin 64 => max (H (ix4 b (i (1 : Fin 4)) h d)) (-(H (ix4 b (i (1 : Fin 4)) h d))))
      (Finset.mem_univ (i (3 : Fin 4))))
      (Finset.le_sup (f := fun t : Fin 8192 => (Finset.univ : Finset (Fin 64)).sup fun d => max (H (ix4 b t h d)) (-(H (ix4 b t h d))))
        (Finset.mem_univ (i (1 : Fin 4))))
  · refine Finset.sup_le fun t _ => Finset.sup_le fun d _ => ?_
    exact Finset.le_sup (f := fun i => max (H i) (-(H i))) (Finset.mem_filter.2 ⟨Finset.mem_univ (ix4 b t h d), (drop_iff _ b h).2 ⟨rfl, rfl⟩⟩)

theorem or_one : ∀ a b : BitVec 1, IntOp.ori a b = 1#1 → a = 1#1 ∨ b = 1#1 := by decide
theorem and_one : ∀ a b : BitVec 1, IntOp.andi a b = 1#1 → a = 1#1 ∧ b = 1#1 := by decide

/-- What being in range means. -/
theorem inside_at (lo : BitVec 32) (M : FVec Ideal S4x32 .f32) (b : Fin 4) (h : Fin 32) (e : inside lo M (ix2 b h) = 1#1) :
    M (ix2 b h) = 0 ∨ (Ideal.ofBits FTy.f32 lo ≤ M (ix2 b h) ∧ M (ix2 b h) ≤ Ideal.ofBits FTy.f32 0x7F7F0000#32) := by
  have z : Ideal.ofBits FTy.f32 0x00000000#32 = (0 : EReal) := by simp [Ideal.ofBits, Ideal.ieee]
  rcases or_one _ _ e with e | e
  · left
    have e' : Ideal.cmp .oeq (M (ix2 b h)) (Ideal.ofBits FTy.f32 0x00000000#32) = 1#1 := e
    rw [z] at e'
    by_contra hne
    simp [Ideal.cmp, hne] at e'
  · right
    obtain ⟨e1, e2⟩ := and_one _ _ e
    have e1' : Ideal.cmp .oge (M (ix2 b h)) (Ideal.ofBits FTy.f32 lo) = 1#1 := e1
    have e2' : Ideal.cmp .ole (M (ix2 b h)) (Ideal.ofBits FTy.f32 0x7F7F0000#32) = 1#1 := e2
    constructor
    · by_contra hne
      simp [Ideal.cmp, hne] at e1'
    · by_contra hne
      simp [Ideal.cmp, hne] at e2'

theorem every_at (v : IVec S4x32 1) (j : S_.Idx) (e : every v j = 1#1) (i : S4x32.Idx) : v i = 1#1 :=
  haveI : Subsingleton S_.Idx := ⟨fun a b => funext fun x => x.elim0⟩
  Host.reduce_andi_all v _ _ _ j e i

/-- One argument. -/
theorem range_one (lo : BitVec 32) (X : FVec Ideal S4x8192x2048 .bf16) (j : S_.Idx) (e : every (inside lo (mags (heads X))) j = 1#1) (b : Fin 4) (h : Fin 32) :
    Attn.amax (hdP X b h) = 0 ∨ (Ideal.ofBits FTy.f32 lo ≤ Attn.amax (hdP X b h)
      ∧ Attn.amax (hdP X b h) ≤ Ideal.ofBits FTy.f32 0x7F7F0000#32) := by
  have hm : mags (heads X) (ix2 b h) = Attn.amax (hdP X b h) := by
    rw [mags_at]
    congr 1
    funext t d
    exact heads_at X b t h d
  rw [← hm]
  exact inside_at lo _ b h (every_at _ j e _)

/-- The precondition says it of the three arguments. -/
theorem range_all (X Y Z : FVec Ideal S4x8192x2048 .bf16) (e : Cert.Pre_in_range.fn (F := Ideal) X Y Z = fun _ => 1#1) :
    (∀ b h, Attn.amax (hdP X b h) = 0 ∨ (Ideal.ofBits FTy.f32 0x24E00000#32 ≤ Attn.amax (hdP X b h)
        ∧ Attn.amax (hdP X b h) ≤ Ideal.ofBits FTy.f32 0x7F7F0000#32))
    ∧ (∀ b h, Attn.amax (hdP Y b h) = 0 ∨ (Ideal.ofBits FTy.f32 0x24E00000#32 ≤ Attn.amax (hdP Y b h)
        ∧ Attn.amax (hdP Y b h) ≤ Ideal.ofBits FTy.f32 0x7F7F0000#32))
    ∧ (∀ b h, Attn.amax (hdP Z b h) = 0 ∨ (Ideal.ofBits FTy.f32 0x04E00000#32 ≤ Attn.amax (hdP Z b h)
        ∧ Attn.amax (hdP Z b h) ≤ Ideal.ofBits FTy.f32 0x7F7F0000#32)) := by
  rw [fn_eq] at e
  have e0 := congrFun e (fun x => x.elim0)
  obtain ⟨exy, ez⟩ := and_one _ _ e0
  obtain ⟨ex, ey⟩ := and_one _ _ exy
  exact ⟨range_one _ X _ ex, range_one _ Y _ ey, range_one _ Z _ ez⟩

end Cert.Pre_in_range.Hand

end
-- ==== Proof.lean ====
/-
  The proof of `Cert.Claim`: the frames of the kernel (as printed and idealized) and of the reference, the statement of the one
  idealization (the constant log2 e read as the real number it stands for), and the equality of all seven results of the
  kernel and of the reference over the extended reals, for arguments in range.
-/
module

public import proofs.«01_k».proof.Defs
public import proofs.«01_k».proof.Proof.KernelRun
public import proofs.«01_k».proof.Proof.KernelIdealRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Equation
public import proofs.«01_k».proof.Proof.PreRead
public import Idealize.ShloMosaic.Adequacy
public import Idealize.ShloMosaic.Init

@[expose] public section

set_option maxRecDepth 16384

noncomputable section

namespace Cert.Proof

open Idealize.ShloMosaic Idealize.SL.Sem
open Cert.KernelIdeal.Hand (bits_qk bits_v AllInRange outA codeR scaleR outA_eq codeR_eq scaleR_eq)

/-- From equal arguments in range, kernel and reference end with equal results: the attention, and the codes and scales of
    queries, keys and values. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Hand.facts) := by
  intro m g m' g' hpre hargs
  have hr : ∀ c : Dev Cert.KernelIdeal.nD, AllInRange 0x24E00000#32 (m ((c.tc : Thread Cert.KernelIdeal.nD Cert.KernelIdeal.τ).loc Cert.KernelIdeal.main_arg0))
      ∧ AllInRange 0x24E00000#32 (m ((c.tc : Thread Cert.KernelIdeal.nD Cert.KernelIdeal.τ).loc Cert.KernelIdeal.main_arg1))
      ∧ AllInRange 0x04E00000#32 (m ((c.tc : Thread Cert.KernelIdeal.nD Cert.KernelIdeal.τ).loc Cert.KernelIdeal.main_arg2)) := fun c =>
    Cert.Pre_in_range.Hand.range_all _ _ _ (hpre c)
  refine ⟨_, _, _, _, _, _, _, Cert.KernelIdeal.Hand.run_results m g, (θ_run _ _ _).mono (fun r h c => ?_)
    (Cert.ReferenceIdeal.Hand.run_results m' g')⟩
  obtain ⟨a0, a1, a2⟩ := hargs c
  obtain ⟨r0, r1, r2⟩ := hr c
  obtain ⟨h0, h1, h2, h3, h4, h5, h6, h7⟩ := h c
  rw [a0, a1, a2] at h0
  rw [a0] at h1 h2
  rw [a1] at h3 h4
  rw [a2] at h5 h6
  exact ⟨h0.trans (funext fun i => (outA_eq _ _ _ r0 r1 r2 _ _ _).symm), h1.trans (funext fun i => (codeR_eq bits_qk (by norm_num) (by norm_num) _ r0 _ _ _ _).symm),
    h2.trans (funext fun i => (scaleR_eq bits_qk (by norm_num) (by norm_num) _ r0 _ _).symm), h3.trans (funext fun i => (codeR_eq bits_qk (by norm_num) (by norm_num) _ r1 _ _ _ _).symm),
    h4.trans (funext fun i => (scaleR_eq bits_qk (by norm_num) (by norm_num) _ r1 _ _).symm), h5.trans (funext fun i => (codeR_eq bits_v (by norm_num) (by norm_num) _ r2 _ _ _ _).symm),
    h6.trans (funext fun i => (scaleR_eq bits_v (by norm_num) (by norm_num) _ r2 _ _).symm), h7⟩

/-- Everything the certificate claims. -/
theorem claim : Cert.Claim :=
  ⟨Cert.Kernel.Gen.facts, Cert.KernelIdeal.Gen.facts, Cert.ReferenceIdeal.Gen.facts, Cert.Pre_in_range.Hand.facts,
    fun m ρ _ => Cert.Kernel.Hand.frame m ρ, fun m ρ _ => Cert.KernelIdeal.Hand.frame m ρ,
    fun m ρ _ => Cert.KernelIdeal.Hand.frame m ρ, fun m ρ _ => Cert.ReferenceIdeal.Gen.frame m ρ,
    fun m ρ _ => Cert.ReferenceIdeal.Gen.frame m ρ,
    IdealRules.named_const.statement Cert.KernelIdeal.κ "log2e" .f32 0x3FB8AA3B#32 (((Real.log 2)⁻¹ : ℝ) : EReal) rfl,
    algebraic⟩

end Cert.Proof

end
